-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![16384, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = Layout.block ⟨2, ![128, 2048]⟩ ⟨2, ![2048, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S16 : Shape := ⟨1, ![16]⟩
abbrev S_ : Shape := ⟨0, ![]⟩
abbrev S1 : Shape := ⟨1, ![1]⟩
abbrev S15 : Shape := ⟨1, ![15]⟩
abbrev S15x1 : Shape := ⟨2, ![15, 1]⟩
abbrev S32 : Shape := ⟨1, ![32]⟩
abbrev S128x2048 : Shape := ⟨2, ![128, 2048]⟩
abbrev S128x1024 : Shape := ⟨2, ![128, 1024]⟩
abbrev S2x128x512 : Shape := ⟨3, ![2, 128, 512]⟩
abbrev S2 : Shape := ⟨1, ![2]⟩
abbrev S1024x1024 : Shape := ⟨2, ![1024, 1024]⟩
abbrev S128x512 : Shape := ⟨2, ![128, 512]⟩
abbrev S1x128x512 : Shape := ⟨3, ![1, 128, 512]⟩

abbrev nBuf : Space → Nat
  | .hbm => 143
  | .vmem => 11
  | .smem => 1
  | _ => 0

abbrev hbmTy0_0 (i : Nat) : BufTy := match i % 128 with
  | 0 => ⟨S2048x1024, .bf16⟩
  | 1 => ⟨S1024x2048, .bf16⟩
  | 2 => ⟨S16, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S16, .i32⟩
  | 10 => ⟨S16, .i1⟩
  | 11 => ⟨S16, .i32⟩
  | 12 => ⟨S_, .i1⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i1⟩
  | 29 => ⟨S_, .i32⟩
  | 30 => ⟨S_, .i1⟩
  | 31 => ⟨S_, .i1⟩
  | 32 => ⟨S_, .i1⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S1, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i1⟩
  | 55 => ⟨S_, .i32⟩
  | 56 => ⟨S_, .i1⟩
  | 57 => ⟨S_, .i1⟩
  | 58 => ⟨S_, .i1⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S1, .i32⟩
  | 67 => ⟨S_, .i32⟩
  | 68 => ⟨S15, .i32⟩
  | 69 => ⟨S_, .i32⟩
  | 70 => ⟨S_, .i32⟩
  | 71 => ⟨S15, .i32⟩
  | 72 => ⟨S15, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S15, .i32⟩
  | 80 => ⟨S15, .i32⟩
  | 81 => ⟨S_, .i32⟩
  | 82 => ⟨S15, .i32⟩
  | 83 => ⟨S15, .i1⟩
  | 84 => ⟨S_, .i32⟩
  | 85 => ⟨S15, .i32⟩
  | 86 => ⟨S15, .i1⟩
  | 87 => ⟨S_, .i32⟩
  | 88 => ⟨S_, .i1⟩
  | 89 => ⟨S15, .i1⟩
  | 90 => ⟨S15, .i1⟩
  | 91 => ⟨S15, .i1⟩
  | 92 => ⟨S15, .i32⟩
  | 93 => ⟨S15, .i32⟩
  | 94 => ⟨S15, .i32⟩
  | 95 => ⟨S_, .i32⟩
  | 96 => ⟨S15, .i32⟩
  | 97 => ⟨S15, .i1⟩
  | 98 => ⟨S_, .i32⟩
  | 99 => ⟨S15, .i32⟩
  | 100 => ⟨S15, .i32⟩
  | 101 => ⟨S15, .i32⟩
  | 102 => ⟨S15x1, .i32⟩
  | 103 => ⟨S15, .i32⟩
  | 104 => ⟨S_, .i32⟩
  | 105 => ⟨S_, .i32⟩
  | 106 => ⟨S15, .i32⟩
  | 107 => ⟨S15, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S15, .i32⟩
  | 115 => ⟨S15, .i32⟩
  | 116 => ⟨S_, .i32⟩
  | 117 => ⟨S15, .i32⟩
  | 118 => ⟨S15, .i1⟩
  | 119 => ⟨S_, .i32⟩
  | 120 => ⟨S15, .i32⟩
  | 121 => ⟨S15, .i1⟩
  | 122 => ⟨S_, .i32⟩
  | 123 => ⟨S_, .i1⟩
  | 124 => ⟨S15, .i1⟩
  | 125 => ⟨S15, .i1⟩
  | 126 => ⟨S15, .i1⟩
  | 127 => ⟨S15, .i32⟩
  | _ => ⟨S2048x1024, .bf16⟩

abbrev hbmTy0_1 (i : Nat) : BufTy := match i % 128 with
  | 0 => ⟨S15, .i32⟩
  | 1 => ⟨S15, .i32⟩
  | 2 => ⟨S_, .i32⟩
  | 3 => ⟨S15, .i32⟩
  | 4 => ⟨S15, .i1⟩
  | 5 => ⟨S_, .i32⟩
  | 6 => ⟨S15, .i32⟩
  | 7 => ⟨S15, .i32⟩
  | 8 => ⟨S15, .i32⟩
  | 9 => ⟨S15x1, .i32⟩
  | 10 => ⟨S15, .i32⟩
  | 11 => ⟨S1, .i32⟩
  | 12 => ⟨S1, .i32⟩
  | 13 => ⟨S32, .i32⟩
  | 14 => ⟨S128x2048, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | .local _ .vmem, ⟨0, _⟩ => ⟨S2048x1024, .bf16⟩
  | .local _ .vmem, ⟨1, _⟩ => ⟨S1024x2048, .bf16⟩
  | .local _ .vmem, ⟨2, _⟩ => ⟨S128x2048, .f32⟩
  | .local _ .vmem, ⟨3, _⟩ => ⟨S2048x1024, .bf16⟩
  | .local _ .vmem, ⟨4, _⟩ => ⟨S1024x2048, .bf16⟩
  | .local _ .vmem, ⟨5, _⟩ => ⟨S128x1024, .bf16⟩
  | .local _ .vmem, ⟨6, _⟩ => ⟨S128x1024, .bf16⟩
  | .local _ .vmem, ⟨7, _⟩ => ⟨S2x128x512, .bf16⟩
  | .local _ .vmem, ⟨8, _⟩ => ⟨S2x128x512, .bf16⟩
  | .local _ .vmem, ⟨9, _⟩ => ⟨S2x128x512, .bf16⟩
  | .local _ .vmem, ⟨10, _⟩ => ⟨S2x128x512, .bf16⟩
  | .local _ .smem, ⟨0, _⟩ => ⟨S32, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 5 20 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_c : Ref sig .tc := ⟨.hbm, 12, rfl⟩
abbrev main_call0_c_0 : Ref sig .tc := ⟨.hbm, 13, rfl⟩
abbrev main_call0_v1_0 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_c_3 : Ref sig .tc := ⟨.hbm, 18, rfl⟩
abbrev main_call1_v0 : Ref sig .tc := ⟨.hbm, 19, rfl⟩
abbrev main_call1_c : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_c_1 : Ref sig .tc := ⟨.hbm, 25, rfl⟩
abbrev main_call1_v4 : Ref sig .tc := ⟨.hbm, 26, rfl⟩
abbrev main_call1_c_2 : Ref sig .tc := ⟨.hbm, 27, rfl⟩
abbrev main_call1_v5 : Ref sig .tc := ⟨.hbm, 28, rfl⟩
abbrev main_call1_c_3 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_v9 : Ref sig .tc := ⟨.hbm, 34, rfl⟩
abbrev main_c_4 : Ref sig .tc := ⟨.hbm, 35, rfl⟩
abbrev main_v10 : Ref sig .tc := ⟨.hbm, 36, rfl⟩
abbrev main_c_5 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_6 : Ref sig .tc := ⟨.hbm, 42, rfl⟩
abbrev main_v15 : Ref sig .tc := ⟨.hbm, 43, rfl⟩
abbrev main_c_7 : Ref sig .tc := ⟨.hbm, 44, rfl⟩
abbrev main_call2_v0 : Ref sig .tc := ⟨.hbm, 45, rfl⟩
abbrev main_call2_c : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_c_1 : Ref sig .tc := ⟨.hbm, 51, rfl⟩
abbrev main_call2_v4 : Ref sig .tc := ⟨.hbm, 52, rfl⟩
abbrev main_call2_c_2 : Ref sig .tc := ⟨.hbm, 53, rfl⟩
abbrev main_call2_v5 : Ref sig .tc := ⟨.hbm, 54, rfl⟩
abbrev main_call2_c_3 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_v16 : Ref sig .tc := ⟨.hbm, 60, rfl⟩
abbrev main_c_8 : Ref sig .tc := ⟨.hbm, 61, rfl⟩
abbrev main_v17 : Ref sig .tc := ⟨.hbm, 62, rfl⟩
abbrev main_c_9 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_c_10 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_c_11 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v26 : Ref sig .tc := ⟨.hbm, 94, rfl⟩
abbrev main_c_12 : Ref sig .tc := ⟨.hbm, 95, rfl⟩
abbrev main_v27 : Ref sig .tc := ⟨.hbm, 96, rfl⟩
abbrev main_v28 : Ref sig .tc := ⟨.hbm, 97, rfl⟩
abbrev main_c_13 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_c_14 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_c_15 : Ref sig .tc := ⟨.hbm, 108, rfl⟩
abbrev main_call4_v0 : Ref sig .tc := ⟨.hbm, 109, rfl⟩
abbrev main_call4_c : Ref sig .tc := ⟨.hbm, 110, rfl⟩
abbrev main_call4_v1 : Ref sig .tc := ⟨.hbm, 111, rfl⟩
abbrev main_call4_c_0 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_call4_c_1 : Ref sig .tc := ⟨.hbm, 116, rfl⟩
abbrev main_call4_v5 : Ref sig .tc := ⟨.hbm, 117, rfl⟩
abbrev main_call4_v6 : Ref sig .tc := ⟨.hbm, 118, rfl⟩
abbrev main_call4_c_2 : Ref sig .tc := ⟨.hbm, 119, rfl⟩
abbrev main_call4_v7 : Ref sig .tc := ⟨.hbm, 120, rfl⟩
abbrev main_call4_v8 : Ref sig .tc := ⟨.hbm, 121, rfl⟩
abbrev main_call4_c_3 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_v12 : Ref sig .tc := ⟨.hbm, 126, rfl⟩
abbrev main_call4_v13 : Ref sig .tc := ⟨.hbm, 127, rfl⟩
abbrev main_call4_v14 : Ref sig .tc := ⟨.hbm, 128, rfl⟩
abbrev main_v37 : Ref sig .tc := ⟨.hbm, 129, rfl⟩
abbrev main_c_16 : Ref sig .tc := ⟨.hbm, 130, rfl⟩
abbrev main_v38 : Ref sig .tc := ⟨.hbm, 131, rfl⟩
abbrev main_v39 : Ref sig .tc := ⟨.hbm, 132, rfl⟩
abbrev main_c_17 : Ref sig .tc := ⟨.hbm, 133, rfl⟩
abbrev main_v40 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_v48 : Ref sig .tc := ⟨.hbm, 142, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch8 : Ref sig .tc := ⟨.vmem, 8, rfl⟩
abbrev cc0_scratch12 : Ref sig .tc := ⟨.vmem, 9, rfl⟩
abbrev cc0_scratch16 : Ref sig .tc := ⟨.vmem, 10, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 4

abbrev nD : Nat := 16
abbrev τ : Topo := Topo.v7x

variable {F : FTy → Type} [FloatOps F]

abbrev grid0 : Pipeline.Grid := .none

def k0_dev1 (v0 : BitVec 32) : Nat :=
  let c0_i32 : BitVec 32 := 0#32
  let c1_i32_0 : BitVec 32 := 1#32
  let v3 : BitVec 32 := Scalar.muli v0 c1_i32_0
  let v4 : BitVec 32 := Scalar.addi c0_i32 v3
  v4.toNat

def k0_dev2 (v1 : BitVec 32) : Nat :=
  let c0_i32_3 : BitVec 32 := 0#32
  let c1_i32_2 : BitVec 32 := 1#32
  let v5 : BitVec 32 := Scalar.muli v1 c1_i32_2
  let v6 : BitVec 32 := Scalar.addi c0_i32_3 v5
  v6.toNat

def k0_off1 (v1 : BitVec 32) : Fin 2 → Nat :=
  let c128_i32 : BitVec 32 := 128#32
  let v17 : BitVec 32 := Scalar.muli v1 c128_i32
  let v18 : Index := Scalar.indexCast v17
  let c0_12 : Index := 0#32
  ![v18.toNat, 0]
def k0_off2 (v0 : BitVec 32) : Fin 2 → Nat :=
  let c128_i32_17 : BitVec 32 := 128#32
  let v26 : BitVec 32 := Scalar.muli v0 c128_i32_17
  let v27 : Index := Scalar.indexCast v26
  let c0_18 : Index := 0#32
  ![v27.toNat, 0]
def k0_dev3 (v0 : BitVec 32) : Nat :=
  let c0_i32_47 : BitVec 32 := 0#32
  let c1_i32_46 : BitVec 32 := 1#32
  let v51 : BitVec 32 := Scalar.muli v0 c1_i32_46
  let v52 : BitVec 32 := Scalar.addi c0_i32_47 v51
  v52.toNat
def k0_dev4 (v1 : BitVec 32) : Nat :=
  let c0_i32_57 : BitVec 32 := 0#32
  let c1_i32_56 : BitVec 32 := 1#32
  let v61 : BitVec 32 := Scalar.muli v1 c1_i32_56
  let v62 : BitVec 32 := Scalar.addi c0_i32_57 v61
  v62.toNat
def k0_dev5 (v0 : BitVec 32) : Nat :=
  let c0_i32_67 : BitVec 32 := 0#32
  let c1_i32_66 : BitVec 32 := 1#32
  let v71 : BitVec 32 := Scalar.muli v0 c1_i32_66
  let v72 : BitVec 32 := Scalar.addi c0_i32_67 v71
  v72.toNat
def k0_dev6 (v1 : BitVec 32) : Nat :=
  let c0_i32_77 : BitVec 32 := 0#32
  let c1_i32_76 : BitVec 32 := 1#32
  let v81 : BitVec 32 := Scalar.muli v1 c1_i32_76
  let v82 : BitVec 32 := Scalar.addi c0_i32_77 v81
  v82.toNat
def k0_off3 (v91 : BitVec 32) : Fin 2 → Nat :=
  let c128_i32_82 : BitVec 32 := 128#32
  let v92 : BitVec 32 := Scalar.muli v91 c128_i32_82
  let v93 : Index := Scalar.indexCast v92
  let c0_83 : Index := 0#32
  ![v93.toNat, 0]

def k0_chk3 (v91 : BitVec 32) : Prop :=
  (∀ a, (k0_off3 v91) a + S128x1024.size a ≤ S2048x1024.size a)
theorem k0_off3_inb : ∀ (v91 : BitVec 32) (k0_hw3 : k0_chk3 v91), ∀ a, (k0_off3 v91) a + S128x1024.size a ≤ S2048x1024.size a := fun v91 k0_hw3 => k0_hw3

def k0_off4 (v101 : BitVec 32) : Fin 2 → Nat :=
  let c128_i32_89 : BitVec 32 := 128#32
  let v102 : BitVec 32 := Scalar.muli v101 c128_i32_89
  let v103 : Index := Scalar.indexCast v102
  let c0_90 : Index := 0#32
  ![v103.toNat, 0]

def k0_chk4 (v101 : BitVec 32) : Prop :=
  (∀ a, (k0_off4 v101) a + S128x1024.size a ≤ S2048x1024.size a)
theorem k0_off4_inb : ∀ (v101 : BitVec 32) (k0_hw4 : k0_chk4 v101), ∀ a, (k0_off4 v101) a + S128x1024.size a ≤ S2048x1024.size a := fun v101 k0_hw4 => k0_hw4

def k0_dev7 (v1 : BitVec 32) : Nat :=
  let c0_i32_125 : BitVec 32 := 0#32
  let c1_i32_124 : BitVec 32 := 1#32
  let v132 : BitVec 32 := Scalar.muli v1 c1_i32_124
  let v133 : BitVec 32 := Scalar.addi c0_i32_125 v132
  v133.toNat
def k0_dev8 (v0 : BitVec 32) : Nat :=
  let c0_i32_133 : BitVec 32 := 0#32
  let c1_i32_132 : BitVec 32 := 1#32
  let v134 : BitVec 32 := Scalar.muli v0 c1_i32_132
  let v135 : BitVec 32 := Scalar.addi c0_i32_133 v134
  v135.toNat
def k0_dev9 (v0 : BitVec 32) : Nat :=
  let c0_i32_167 : BitVec 32 := 0#32
  let c1_i32_166 : BitVec 32 := 1#32
  let v165 : BitVec 32 := Scalar.muli v0 c1_i32_166
  let v166 : BitVec 32 := Scalar.addi c0_i32_167 v165
  v166.toNat
def k0_dev10 (v1 : BitVec 32) : Nat :=
  let c0_i32_175 : BitVec 32 := 0#32
  let c1_i32_174 : BitVec 32 := 1#32
  let v167 : BitVec 32 := Scalar.muli v1 c1_i32_174
  let v168 : BitVec 32 := Scalar.addi c0_i32_175 v167
  v168.toNat
def k0_dev11 (v1 : BitVec 32) : Nat :=
  let c0_i32_209 : BitVec 32 := 0#32
  let c1_i32_208 : BitVec 32 := 1#32
  let v198 : BitVec 32 := Scalar.muli v1 c1_i32_208
  let v199 : BitVec 32 := Scalar.addi c0_i32_209 v198
  v199.toNat
def k0_dev12 (v0 : BitVec 32) : Nat :=
  let c0_i32_217 : BitVec 32 := 0#32
  let c1_i32_216 : BitVec 32 := 1#32
  let v200 : BitVec 32 := Scalar.muli v0 c1_i32_216
  let v201 : BitVec 32 := Scalar.addi c0_i32_217 v200
  v201.toNat
def k0_dev13 (v0 : BitVec 32) : Nat :=
  let c0_i32_251 : BitVec 32 := 0#32
  let c1_i32_250 : BitVec 32 := 1#32
  let v231 : BitVec 32 := Scalar.muli v0 c1_i32_250
  let v232 : BitVec 32 := Scalar.addi c0_i32_251 v231
  v232.toNat
def k0_dev14 (v1 : BitVec 32) : Nat :=
  let c0_i32_259 : BitVec 32 := 0#32
  let c1_i32_258 : BitVec 32 := 1#32
  let v233 : BitVec 32 := Scalar.muli v1 c1_i32_258
  let v234 : BitVec 32 := Scalar.addi c0_i32_259 v233
  v234.toNat
def k0_off5 (v243 : BitVec 32) : Fin 2 → Nat :=
  let c128_i32_264 : BitVec 32 := 128#32
  let v244 : BitVec 32 := Scalar.muli v243 c128_i32_264
  let v245 : Index := Scalar.indexCast v244
  let c0_265 : Index := 0#32
  ![v245.toNat, 0]

def k0_chk5 (v243 : BitVec 32) : Prop :=
  (∀ a, (k0_off5 v243) a + S128x1024.size a ≤ S2048x1024.size a)
theorem k0_off5_inb : ∀ (v243 : BitVec 32) (k0_hw5 : k0_chk5 v243), ∀ a, (k0_off5 v243) a + S128x1024.size a ≤ S2048x1024.size a := fun v243 k0_hw5 => k0_hw5

def k0_off6 (v253 : BitVec 32) : Fin 2 → Nat :=
  let c128_i32_271 : BitVec 32 := 128#32
  let v254 : BitVec 32 := Scalar.muli v253 c128_i32_271
  let v255 : Index := Scalar.indexCast v254
  let c0_272 : Index := 0#32
  ![v255.toNat, 0]

def k0_chk6 (v253 : BitVec 32) : Prop :=
  (∀ a, (k0_off6 v253) a + S128x1024.size a ≤ S2048x1024.size a)
theorem k0_off6_inb : ∀ (v253 : BitVec 32) (k0_hw6 : k0_chk6 v253), ∀ a, (k0_off6 v253) a + S128x1024.size a ≤ S2048x1024.size a := fun v253 k0_hw6 => k0_hw6

def k0_dev15 (v1 : BitVec 32) : Nat :=
  let c0_i32_307 : BitVec 32 := 0#32
  let c1_i32_306 : BitVec 32 := 1#32
  let v284 : BitVec 32 := Scalar.muli v1 c1_i32_306
  let v285 : BitVec 32 := Scalar.addi c0_i32_307 v284
  v285.toNat
def k0_dev16 (v0 : BitVec 32) : Nat :=
  let c0_i32_315 : BitVec 32 := 0#32
  let c1_i32_314 : BitVec 32 := 1#32
  let v286 : BitVec 32 := Scalar.muli v0 c1_i32_314
  let v287 : BitVec 32 := Scalar.addi c0_i32_315 v286
  v287.toNat
def k0_dev17 (v0 : BitVec 32) : Nat :=
  let c0_i32_349 : BitVec 32 := 0#32
  let c1_i32_348 : BitVec 32 := 1#32
  let v317 : BitVec 32 := Scalar.muli v0 c1_i32_348
  let v318 : BitVec 32 := Scalar.addi c0_i32_349 v317
  v318.toNat
def k0_dev18 (v1 : BitVec 32) : Nat :=
  let c0_i32_357 : BitVec 32 := 0#32
  let c1_i32_356 : BitVec 32 := 1#32
  let v319 : BitVec 32 := Scalar.muli v1 c1_i32_356
  let v320 : BitVec 32 := Scalar.addi c0_i32_357 v319
  v320.toNat
def k0_dev19 (v1 : BitVec 32) : Nat :=
  let c0_i32_391 : BitVec 32 := 0#32
  let c1_i32_390 : BitVec 32 := 1#32
  let v350 : BitVec 32 := Scalar.muli v1 c1_i32_390
  let v351 : BitVec 32 := Scalar.addi c0_i32_391 v350
  v351.toNat
def k0_dev20 (v0 : BitVec 32) : Nat :=
  let c0_i32_399 : BitVec 32 := 0#32
  let c1_i32_398 : BitVec 32 := 1#32
  let v352 : BitVec 32 := Scalar.muli v0 c1_i32_398
  let v353 : BitVec 32 := Scalar.addi c0_i32_399 v352
  v353.toNat
def k0_dev21 (v0 : BitVec 32) : Nat :=
  let c0_i32_433 : BitVec 32 := 0#32
  let c1_i32_432 : BitVec 32 := 1#32
  let v383 : BitVec 32 := Scalar.muli v0 c1_i32_432
  let v384 : BitVec 32 := Scalar.addi c0_i32_433 v383
  v384.toNat
def k0_dev22 (v1 : BitVec 32) : Nat :=
  let c0_i32_441 : BitVec 32 := 0#32
  let c1_i32_440 : BitVec 32 := 1#32
  let v385 : BitVec 32 := Scalar.muli v1 c1_i32_440
  let v386 : BitVec 32 := Scalar.addi c0_i32_441 v385
  v386.toNat
def k0_off7 (v395 : BitVec 32) : Fin 2 → Nat :=
  let c128_i32_446 : BitVec 32 := 128#32
  let v396 : BitVec 32 := Scalar.muli v395 c128_i32_446
  let v397 : Index := Scalar.indexCast v396
  let c0_447 : Index := 0#32
  ![v397.toNat, 0]

def k0_chk7 (v395 : BitVec 32) : Prop :=
  (∀ a, (k0_off7 v395) a + S128x1024.size a ≤ S2048x1024.size a)
theorem k0_off7_inb : ∀ (v395 : BitVec 32) (k0_hw7 : k0_chk7 v395), ∀ a, (k0_off7 v395) a + S128x1024.size a ≤ S2048x1024.size a := fun v395 k0_hw7 => k0_hw7

def k0_off8 (v405 : BitVec 32) : Fin 2 → Nat :=
  let c128_i32_453 : BitVec 32 := 128#32
  let v406 : BitVec 32 := Scalar.muli v405 c128_i32_453
  let v407 : Index := Scalar.indexCast v406
  let c0_454 : Index := 0#32
  ![v407.toNat, 0]

def k0_chk8 (v405 : BitVec 32) : Prop :=
  (∀ a, (k0_off8 v405) a + S128x1024.size a ≤ S2048x1024.size a)
theorem k0_off8_inb : ∀ (v405 : BitVec 32) (k0_hw8 : k0_chk8 v405), ∀ a, (k0_off8 v405) a + S128x1024.size a ≤ S2048x1024.size a := fun v405 k0_hw8 => k0_hw8

def k0_dev23 (v1 : BitVec 32) : Nat :=
  let c0_i32_489 : BitVec 32 := 0#32
  let c1_i32_488 : BitVec 32 := 1#32
  let v436 : BitVec 32 := Scalar.muli v1 c1_i32_488
  let v437 : BitVec 32 := Scalar.addi c0_i32_489 v436
  v437.toNat
def k0_dev24 (v0 : BitVec 32) : Nat :=
  let c0_i32_497 : BitVec 32 := 0#32
  let c1_i32_496 : BitVec 32 := 1#32
  let v438 : BitVec 32 := Scalar.muli v0 c1_i32_496
  let v439 : BitVec 32 := Scalar.addi c0_i32_497 v438
  v439.toNat
def k0_dev25 (v0 : BitVec 32) : Nat :=
  let c0_i32_531 : BitVec 32 := 0#32
  let c1_i32_530 : BitVec 32 := 1#32
  let v469 : BitVec 32 := Scalar.muli v0 c1_i32_530
  let v470 : BitVec 32 := Scalar.addi c0_i32_531 v469
  v470.toNat
def k0_dev26 (v1 : BitVec 32) : Nat :=
  let c0_i32_539 : BitVec 32 := 0#32
  let c1_i32_538 : BitVec 32 := 1#32
  let v471 : BitVec 32 := Scalar.muli v1 c1_i32_538
  let v472 : BitVec 32 := Scalar.addi c0_i32_539 v471
  v472.toNat
def k0_dev27 (v1 : BitVec 32) : Nat :=
  let c0_i32_573 : BitVec 32 := 0#32
  let c1_i32_572 : BitVec 32 := 1#32
  let v502 : BitVec 32 := Scalar.muli v1 c1_i32_572
  let v503 : BitVec 32 := Scalar.addi c0_i32_573 v502
  v503.toNat
def k0_dev28 (v0 : BitVec 32) : Nat :=
  let c0_i32_581 : BitVec 32 := 0#32
  let c1_i32_580 : BitVec 32 := 1#32
  let v504 : BitVec 32 := Scalar.muli v0 c1_i32_580
  let v505 : BitVec 32 := Scalar.addi c0_i32_581 v504
  v505.toNat
def k0_dev29 (v0 : BitVec 32) : Nat :=
  let c0_i32_615 : BitVec 32 := 0#32
  let c1_i32_614 : BitVec 32 := 1#32
  let v535 : BitVec 32 := Scalar.muli v0 c1_i32_614
  let v536 : BitVec 32 := Scalar.addi c0_i32_615 v535
  v536.toNat
def k0_dev30 (v1 : BitVec 32) : Nat :=
  let c0_i32_623 : BitVec 32 := 0#32
  let c1_i32_622 : BitVec 32 := 1#32
  let v537 : BitVec 32 := Scalar.muli v1 c1_i32_622
  let v538 : BitVec 32 := Scalar.addi c0_i32_623 v537
  v538.toNat
def k0_off9 (v547 : BitVec 32) : Fin 2 → Nat :=
  let c128_i32_628 : BitVec 32 := 128#32
  let v548 : BitVec 32 := Scalar.muli v547 c128_i32_628
  let v549 : Index := Scalar.indexCast v548
  let c0_629 : Index := 0#32
  ![v549.toNat, 0]

def k0_chk9 (v547 : BitVec 32) : Prop :=
  (∀ a, (k0_off9 v547) a + S128x1024.size a ≤ S2048x1024.size a)
theorem k0_off9_inb : ∀ (v547 : BitVec 32) (k0_hw9 : k0_chk9 v547), ∀ a, (k0_off9 v547) a + S128x1024.size a ≤ S2048x1024.size a := fun v547 k0_hw9 => k0_hw9

def k0_off10 (v557 : BitVec 32) : Fin 2 → Nat :=
  let c128_i32_635 : BitVec 32 := 128#32
  let v558 : BitVec 32 := Scalar.muli v557 c128_i32_635
  let v559 : Index := Scalar.indexCast v558
  let c0_636 : Index := 0#32
  ![v559.toNat, 0]

def k0_chk10 (v557 : BitVec 32) : Prop :=
  (∀ a, (k0_off10 v557) a + S128x1024.size a ≤ S2048x1024.size a)
theorem k0_off10_inb : ∀ (v557 : BitVec 32) (k0_hw10 : k0_chk10 v557), ∀ a, (k0_off10 v557) a + S128x1024.size a ≤ S2048x1024.size a := fun v557 k0_hw10 => k0_hw10

def k0_dev31 (v1 : BitVec 32) : Nat :=
  let c0_i32_671 : BitVec 32 := 0#32
  let c1_i32_670 : BitVec 32 := 1#32
  let v588 : BitVec 32 := Scalar.muli v1 c1_i32_670
  let v589 : BitVec 32 := Scalar.addi c0_i32_671 v588
  v589.toNat
def k0_dev32 (v0 : BitVec 32) : Nat :=
  let c0_i32_679 : BitVec 32 := 0#32
  let c1_i32_678 : BitVec 32 := 1#32
  let v590 : BitVec 32 := Scalar.muli v0 c1_i32_678
  let v591 : BitVec 32 := Scalar.addi c0_i32_679 v590
  v591.toNat
def k0_dev33 (v0 : BitVec 32) : Nat :=
  let c0_i32_713 : BitVec 32 := 0#32
  let c1_i32_712 : BitVec 32 := 1#32
  let v621 : BitVec 32 := Scalar.muli v0 c1_i32_712
  let v622 : BitVec 32 := Scalar.addi c0_i32_713 v621
  v622.toNat
def k0_dev34 (v1 : BitVec 32) : Nat :=
  let c0_i32_721 : BitVec 32 := 0#32
  let c1_i32_720 : BitVec 32 := 1#32
  let v623 : BitVec 32 := Scalar.muli v1 c1_i32_720
  let v624 : BitVec 32 := Scalar.addi c0_i32_721 v623
  v624.toNat
def k0_dev35 (v1 : BitVec 32) : Nat :=
  let c0_i32_755 : BitVec 32 := 0#32
  let c1_i32_754 : BitVec 32 := 1#32
  let v654 : BitVec 32 := Scalar.muli v1 c1_i32_754
  let v655 : BitVec 32 := Scalar.addi c0_i32_755 v654
  v655.toNat
def k0_dev36 (v0 : BitVec 32) : Nat :=
  let c0_i32_763 : BitVec 32 := 0#32
  let c1_i32_762 : BitVec 32 := 1#32
  let v656 : BitVec 32 := Scalar.muli v0 c1_i32_762
  let v657 : BitVec 32 := Scalar.addi c0_i32_763 v656
  v657.toNat
def k0_dev37 (v0 : BitVec 32) : Nat :=
  let c0_i32_797 : BitVec 32 := 0#32
  let c1_i32_796 : BitVec 32 := 1#32
  let v687 : BitVec 32 := Scalar.muli v0 c1_i32_796
  let v688 : BitVec 32 := Scalar.addi c0_i32_797 v687
  v688.toNat
def k0_dev38 (v1 : BitVec 32) : Nat :=
  let c0_i32_805 : BitVec 32 := 0#32
  let c1_i32_804 : BitVec 32 := 1#32
  let v689 : BitVec 32 := Scalar.muli v1 c1_i32_804
  let v690 : BitVec 32 := Scalar.addi c0_i32_805 v689
  v690.toNat
def k0_off11 (v699 : BitVec 32) : Fin 2 → Nat :=
  let c128_i32_810 : BitVec 32 := 128#32
  let v700 : BitVec 32 := Scalar.muli v699 c128_i32_810
  let v701 : Index := Scalar.indexCast v700
  let c0_811 : Index := 0#32
  ![v701.toNat, 0]

def k0_chk11 (v699 : BitVec 32) : Prop :=
  (∀ a, (k0_off11 v699) a + S128x1024.size a ≤ S2048x1024.size a)
theorem k0_off11_inb : ∀ (v699 : BitVec 32) (k0_hw11 : k0_chk11 v699), ∀ a, (k0_off11 v699) a + S128x1024.size a ≤ S2048x1024.size a := fun v699 k0_hw11 => k0_hw11

def k0_off12 (v709 : BitVec 32) : Fin 2 → Nat :=
  let c128_i32_817 : BitVec 32 := 128#32
  let v710 : BitVec 32 := Scalar.muli v709 c128_i32_817
  let v711 : Index := Scalar.indexCast v710
  let c0_818 : Index := 0#32
  ![v711.toNat, 0]

def k0_chk12 (v709 : BitVec 32) : Prop :=
  (∀ a, (k0_off12 v709) a + S128x1024.size a ≤ S2048x1024.size a)
theorem k0_off12_inb : ∀ (v709 : BitVec 32) (k0_hw12 : k0_chk12 v709), ∀ a, (k0_off12 v709) a + S128x1024.size a ≤ S2048x1024.size a := fun v709 k0_hw12 => k0_hw12

def k0_dev39 (v1 : BitVec 32) : Nat :=
  let c0_i32_853 : BitVec 32 := 0#32
  let c1_i32_852 : BitVec 32 := 1#32
  let v740 : BitVec 32 := Scalar.muli v1 c1_i32_852
  let v741 : BitVec 32 := Scalar.addi c0_i32_853 v740
  v741.toNat
def k0_dev40 (v0 : BitVec 32) : Nat :=
  let c0_i32_861 : BitVec 32 := 0#32
  let c1_i32_860 : BitVec 32 := 1#32
  let v742 : BitVec 32 := Scalar.muli v0 c1_i32_860
  let v743 : BitVec 32 := Scalar.addi c0_i32_861 v742
  v743.toNat
def k0_dev41 (v0 : BitVec 32) : Nat :=
  let c0_i32_895 : BitVec 32 := 0#32
  let c1_i32_894 : BitVec 32 := 1#32
  let v773 : BitVec 32 := Scalar.muli v0 c1_i32_894
  let v774 : BitVec 32 := Scalar.addi c0_i32_895 v773
  v774.toNat
def k0_dev42 (v1 : BitVec 32) : Nat :=
  let c0_i32_903 : BitVec 32 := 0#32
  let c1_i32_902 : BitVec 32 := 1#32
  let v775 : BitVec 32 := Scalar.muli v1 c1_i32_902
  let v776 : BitVec 32 := Scalar.addi c0_i32_903 v775
  v776.toNat
def k0_dev43 (v1 : BitVec 32) : Nat :=
  let c0_i32_937 : BitVec 32 := 0#32
  let c1_i32_936 : BitVec 32 := 1#32
  let v806 : BitVec 32 := Scalar.muli v1 c1_i32_936
  let v807 : BitVec 32 := Scalar.addi c0_i32_937 v806
  v807.toNat
def k0_dev44 (v0 : BitVec 32) : Nat :=
  let c0_i32_945 : BitVec 32 := 0#32
  let c1_i32_944 : BitVec 32 := 1#32
  let v808 : BitVec 32 := Scalar.muli v0 c1_i32_944
  let v809 : BitVec 32 := Scalar.addi c0_i32_945 v808
  v809.toNat
def k0_dev45 (v0 : BitVec 32) : Nat :=
  let c0_i32_979 : BitVec 32 := 0#32
  let c1_i32_978 : BitVec 32 := 1#32
  let v839 : BitVec 32 := Scalar.muli v0 c1_i32_978
  let v840 : BitVec 32 := Scalar.addi c0_i32_979 v839
  v840.toNat
def k0_dev46 (v1 : BitVec 32) : Nat :=
  let c0_i32_987 : BitVec 32 := 0#32
  let c1_i32_986 : BitVec 32 := 1#32
  let v841 : BitVec 32 := Scalar.muli v1 c1_i32_986
  let v842 : BitVec 32 := Scalar.addi c0_i32_987 v841
  v842.toNat
def k0_off13 (v851 : BitVec 32) : Fin 2 → Nat :=
  let c128_i32_992 : BitVec 32 := 128#32
  let v852 : BitVec 32 := Scalar.muli v851 c128_i32_992
  let v853 : Index := Scalar.indexCast v852
  let c0_993 : Index := 0#32
  ![v853.toNat, 0]

def k0_chk13 (v851 : BitVec 32) : Prop :=
  (∀ a, (k0_off13 v851) a + S128x1024.size a ≤ S2048x1024.size a)
theorem k0_off13_inb : ∀ (v851 : BitVec 32) (k0_hw13 : k0_chk13 v851), ∀ a, (k0_off13 v851) a + S128x1024.size a ≤ S2048x1024.size a := fun v851 k0_hw13 => k0_hw13

def k0_off14 (v861 : BitVec 32) : Fin 2 → Nat :=
  let c128_i32_999 : BitVec 32 := 128#32
  let v862 : BitVec 32 := Scalar.muli v861 c128_i32_999
  let v863 : Index := Scalar.indexCast v862
  let c0_1000 : Index := 0#32
  ![v863.toNat, 0]

def k0_chk14 (v861 : BitVec 32) : Prop :=
  (∀ a, (k0_off14 v861) a + S128x1024.size a ≤ S2048x1024.size a)
theorem k0_off14_inb : ∀ (v861 : BitVec 32) (k0_hw14 : k0_chk14 v861), ∀ a, (k0_off14 v861) a + S128x1024.size a ≤ S2048x1024.size a := fun v861 k0_hw14 => k0_hw14

def k0_dev47 (v1 : BitVec 32) : Nat :=
  let c0_i32_1035 : BitVec 32 := 0#32
  let c1_i32_1034 : BitVec 32 := 1#32
  let v892 : BitVec 32 := Scalar.muli v1 c1_i32_1034
  let v893 : BitVec 32 := Scalar.addi c0_i32_1035 v892
  v893.toNat
def k0_dev48 (v0 : BitVec 32) : Nat :=
  let c0_i32_1043 : BitVec 32 := 0#32
  let c1_i32_1042 : BitVec 32 := 1#32
  let v894 : BitVec 32 := Scalar.muli v0 c1_i32_1042
  let v895 : BitVec 32 := Scalar.addi c0_i32_1043 v894
  v895.toNat
def k0_dev49 (v0 : BitVec 32) : Nat :=
  let c0_i32_1077 : BitVec 32 := 0#32
  let c1_i32_1076 : BitVec 32 := 1#32
  let v925 : BitVec 32 := Scalar.muli v0 c1_i32_1076
  let v926 : BitVec 32 := Scalar.addi c0_i32_1077 v925
  v926.toNat
def k0_dev50 (v1 : BitVec 32) : Nat :=
  let c0_i32_1085 : BitVec 32 := 0#32
  let c1_i32_1084 : BitVec 32 := 1#32
  let v927 : BitVec 32 := Scalar.muli v1 c1_i32_1084
  let v928 : BitVec 32 := Scalar.addi c0_i32_1085 v927
  v928.toNat
def k0_dev51 (v1 : BitVec 32) : Nat :=
  let c0_i32_1119 : BitVec 32 := 0#32
  let c1_i32_1118 : BitVec 32 := 1#32
  let v958 : BitVec 32 := Scalar.muli v1 c1_i32_1118
  let v959 : BitVec 32 := Scalar.addi c0_i32_1119 v958
  v959.toNat
def k0_dev52 (v0 : BitVec 32) : Nat :=
  let c0_i32_1127 : BitVec 32 := 0#32
  let c1_i32_1126 : BitVec 32 := 1#32
  let v960 : BitVec 32 := Scalar.muli v0 c1_i32_1126
  let v961 : BitVec 32 := Scalar.addi c0_i32_1127 v960
  v961.toNat
def k0_dev53 (v0 : BitVec 32) : Nat :=
  let c0_i32_1161 : BitVec 32 := 0#32
  let c1_i32_1160 : BitVec 32 := 1#32
  let v991 : BitVec 32 := Scalar.muli v0 c1_i32_1160
  let v992 : BitVec 32 := Scalar.addi c0_i32_1161 v991
  v992.toNat
def k0_dev54 (v1 : BitVec 32) : Nat :=
  let c0_i32_1169 : BitVec 32 := 0#32
  let c1_i32_1168 : BitVec 32 := 1#32
  let v993 : BitVec 32 := Scalar.muli v1 c1_i32_1168
  let v994 : BitVec 32 := Scalar.addi c0_i32_1169 v993
  v994.toNat
def k0_off15 (v1003 : BitVec 32) : Fin 2 → Nat :=
  let c128_i32_1174 : BitVec 32 := 128#32
  let v1004 : BitVec 32 := Scalar.muli v1003 c128_i32_1174
  let v1005 : Index := Scalar.indexCast v1004
  let c0_1175 : Index := 0#32
  ![v1005.toNat, 0]

def k0_chk15 (v1003 : BitVec 32) : Prop :=
  (∀ a, (k0_off15 v1003) a + S128x1024.size a ≤ S2048x1024.size a)
theorem k0_off15_inb : ∀ (v1003 : BitVec 32) (k0_hw15 : k0_chk15 v1003), ∀ a, (k0_off15 v1003) a + S128x1024.size a ≤ S2048x1024.size a := fun v1003 k0_hw15 => k0_hw15

def k0_off16 (v1013 : BitVec 32) : Fin 2 → Nat :=
  let c128_i32_1181 : BitVec 32 := 128#32
  let v1014 : BitVec 32 := Scalar.muli v1013 c128_i32_1181
  let v1015 : Index := Scalar.indexCast v1014
  let c0_1182 : Index := 0#32
  ![v1015.toNat, 0]

def k0_chk16 (v1013 : BitVec 32) : Prop :=
  (∀ a, (k0_off16 v1013) a + S128x1024.size a ≤ S2048x1024.size a)
theorem k0_off16_inb : ∀ (v1013 : BitVec 32) (k0_hw16 : k0_chk16 v1013), ∀ a, (k0_off16 v1013) a + S128x1024.size a ≤ S2048x1024.size a := fun v1013 k0_hw16 => k0_hw16

def k0_dev55 (v1 : BitVec 32) : Nat :=
  let c0_i32_1217 : BitVec 32 := 0#32
  let c1_i32_1216 : BitVec 32 := 1#32
  let v1044 : BitVec 32 := Scalar.muli v1 c1_i32_1216
  let v1045 : BitVec 32 := Scalar.addi c0_i32_1217 v1044
  v1045.toNat
def k0_dev56 (v0 : BitVec 32) : Nat :=
  let c0_i32_1225 : BitVec 32 := 0#32
  let c1_i32_1224 : BitVec 32 := 1#32
  let v1046 : BitVec 32 := Scalar.muli v0 c1_i32_1224
  let v1047 : BitVec 32 := Scalar.addi c0_i32_1225 v1046
  v1047.toNat
def k0_dev57 (v0 : BitVec 32) : Nat :=
  let c0_i32_1259 : BitVec 32 := 0#32
  let c1_i32_1258 : BitVec 32 := 1#32
  let v1077 : BitVec 32 := Scalar.muli v0 c1_i32_1258
  let v1078 : BitVec 32 := Scalar.addi c0_i32_1259 v1077
  v1078.toNat
def k0_dev58 (v1 : BitVec 32) : Nat :=
  let c0_i32_1267 : BitVec 32 := 0#32
  let c1_i32_1266 : BitVec 32 := 1#32
  let v1079 : BitVec 32 := Scalar.muli v1 c1_i32_1266
  let v1080 : BitVec 32 := Scalar.addi c0_i32_1267 v1079
  v1080.toNat
def k0_dev59 (v1 : BitVec 32) : Nat :=
  let c0_i32_1301 : BitVec 32 := 0#32
  let c1_i32_1300 : BitVec 32 := 1#32
  let v1110 : BitVec 32 := Scalar.muli v1 c1_i32_1300
  let v1111 : BitVec 32 := Scalar.addi c0_i32_1301 v1110
  v1111.toNat
def k0_dev60 (v0 : BitVec 32) : Nat :=
  let c0_i32_1309 : BitVec 32 := 0#32
  let c1_i32_1308 : BitVec 32 := 1#32
  let v1112 : BitVec 32 := Scalar.muli v0 c1_i32_1308
  let v1113 : BitVec 32 := Scalar.addi c0_i32_1309 v1112
  v1113.toNat
def k0_dev61 (v0 : BitVec 32) : Nat :=
  let c0_i32_1343 : BitVec 32 := 0#32
  let c1_i32_1342 : BitVec 32 := 1#32
  let v1143 : BitVec 32 := Scalar.muli v0 c1_i32_1342
  let v1144 : BitVec 32 := Scalar.addi c0_i32_1343 v1143
  v1144.toNat
def k0_dev62 (v1 : BitVec 32) : Nat :=
  let c0_i32_1351 : BitVec 32 := 0#32
  let c1_i32_1350 : BitVec 32 := 1#32
  let v1145 : BitVec 32 := Scalar.muli v1 c1_i32_1350
  let v1146 : BitVec 32 := Scalar.addi c0_i32_1351 v1145
  v1146.toNat
def k0_off17 (v1155 : BitVec 32) : Fin 2 → Nat :=
  let c128_i32_1356 : BitVec 32 := 128#32
  let v1156 : BitVec 32 := Scalar.muli v1155 c128_i32_1356
  let v1157 : Index := Scalar.indexCast v1156
  let c0_1357 : Index := 0#32
  ![v1157.toNat, 0]

def k0_chk17 (v1155 : BitVec 32) : Prop :=
  (∀ a, (k0_off17 v1155) a + S128x1024.size a ≤ S2048x1024.size a)
theorem k0_off17_inb : ∀ (v1155 : BitVec 32) (k0_hw17 : k0_chk17 v1155), ∀ a, (k0_off17 v1155) a + S128x1024.size a ≤ S2048x1024.size a := fun v1155 k0_hw17 => k0_hw17

def k0_off18 (v1165 : BitVec 32) : Fin 2 → Nat :=
  let c128_i32_1363 : BitVec 32 := 128#32
  let v1166 : BitVec 32 := Scalar.muli v1165 c128_i32_1363
  let v1167 : Index := Scalar.indexCast v1166
  let c0_1364 : Index := 0#32
  ![v1167.toNat, 0]

def k0_chk18 (v1165 : BitVec 32) : Prop :=
  (∀ a, (k0_off18 v1165) a + S128x1024.size a ≤ S2048x1024.size a)
theorem k0_off18_inb : ∀ (v1165 : BitVec 32) (k0_hw18 : k0_chk18 v1165), ∀ a, (k0_off18 v1165) a + S128x1024.size a ≤ S2048x1024.size a := fun v1165 k0_hw18 => k0_hw18

def k0_dev63 (v1 : BitVec 32) : Nat :=
  let c0_i32_1399 : BitVec 32 := 0#32
  let c1_i32_1398 : BitVec 32 := 1#32
  let v1196 : BitVec 32 := Scalar.muli v1 c1_i32_1398
  let v1197 : BitVec 32 := Scalar.addi c0_i32_1399 v1196
  v1197.toNat
def k0_dev64 (v0 : BitVec 32) : Nat :=
  let c0_i32_1407 : BitVec 32 := 0#32
  let c1_i32_1406 : BitVec 32 := 1#32
  let v1198 : BitVec 32 := Scalar.muli v0 c1_i32_1406
  let v1199 : BitVec 32 := Scalar.addi c0_i32_1407 v1198
  v1199.toNat
def k0_dev65 (v0 : BitVec 32) : Nat :=
  let c0_i32_1441 : BitVec 32 := 0#32
  let c1_i32_1440 : BitVec 32 := 1#32
  let v1229 : BitVec 32 := Scalar.muli v0 c1_i32_1440
  let v1230 : BitVec 32 := Scalar.addi c0_i32_1441 v1229
  v1230.toNat
def k0_dev66 (v1 : BitVec 32) : Nat :=
  let c0_i32_1449 : BitVec 32 := 0#32
  let c1_i32_1448 : BitVec 32 := 1#32
  let v1231 : BitVec 32 := Scalar.muli v1 c1_i32_1448
  let v1232 : BitVec 32 := Scalar.addi c0_i32_1449 v1231
  v1232.toNat
def k0_dev67 (v1 : BitVec 32) : Nat :=
  let c0_i32_1483 : BitVec 32 := 0#32
  let c1_i32_1482 : BitVec 32 := 1#32
  let v1262 : BitVec 32 := Scalar.muli v1 c1_i32_1482
  let v1263 : BitVec 32 := Scalar.addi c0_i32_1483 v1262
  v1263.toNat
def k0_dev68 (v0 : BitVec 32) : Nat :=
  let c0_i32_1491 : BitVec 32 := 0#32
  let c1_i32_1490 : BitVec 32 := 1#32
  let v1264 : BitVec 32 := Scalar.muli v0 c1_i32_1490
  let v1265 : BitVec 32 := Scalar.addi c0_i32_1491 v1264
  v1265.toNat
def k0_dev69 (v0 : BitVec 32) : Nat :=
  let c0_i32_1525 : BitVec 32 := 0#32
  let c1_i32_1524 : BitVec 32 := 1#32
  let v1295 : BitVec 32 := Scalar.muli v0 c1_i32_1524
  let v1296 : BitVec 32 := Scalar.addi c0_i32_1525 v1295
  v1296.toNat
def k0_dev70 (v1 : BitVec 32) : Nat :=
  let c0_i32_1533 : BitVec 32 := 0#32
  let c1_i32_1532 : BitVec 32 := 1#32
  let v1297 : BitVec 32 := Scalar.muli v1 c1_i32_1532
  let v1298 : BitVec 32 := Scalar.addi c0_i32_1533 v1297
  v1298.toNat
def k0_off19 (v1307 : BitVec 32) : Fin 2 → Nat :=
  let c128_i32_1538 : BitVec 32 := 128#32
  let v1308 : BitVec 32 := Scalar.muli v1307 c128_i32_1538
  let v1309 : Index := Scalar.indexCast v1308
  let c0_1539 : Index := 0#32
  ![v1309.toNat, 0]

def k0_chk19 (v1307 : BitVec 32) : Prop :=
  (∀ a, (k0_off19 v1307) a + S128x1024.size a ≤ S2048x1024.size a)
theorem k0_off19_inb : ∀ (v1307 : BitVec 32) (k0_hw19 : k0_chk19 v1307), ∀ a, (k0_off19 v1307) a + S128x1024.size a ≤ S2048x1024.size a := fun v1307 k0_hw19 => k0_hw19

def k0_off20 (v1317 : BitVec 32) : Fin 2 → Nat :=
  let c128_i32_1545 : BitVec 32 := 128#32
  let v1318 : BitVec 32 := Scalar.muli v1317 c128_i32_1545
  let v1319 : Index := Scalar.indexCast v1318
  let c0_1546 : Index := 0#32
  ![v1319.toNat, 0]

def k0_chk20 (v1317 : BitVec 32) : Prop :=
  (∀ a, (k0_off20 v1317) a + S128x1024.size a ≤ S2048x1024.size a)
theorem k0_off20_inb : ∀ (v1317 : BitVec 32) (k0_hw20 : k0_chk20 v1317), ∀ a, (k0_off20 v1317) a + S128x1024.size a ≤ S2048x1024.size a := fun v1317 k0_hw20 => k0_hw20

def k0_dev71 (v1 : BitVec 32) : Nat :=
  let c0_i32_1581 : BitVec 32 := 0#32
  let c1_i32_1580 : BitVec 32 := 1#32
  let v1348 : BitVec 32 := Scalar.muli v1 c1_i32_1580
  let v1349 : BitVec 32 := Scalar.addi c0_i32_1581 v1348
  v1349.toNat
def k0_dev72 (v0 : BitVec 32) : Nat :=
  let c0_i32_1589 : BitVec 32 := 0#32
  let c1_i32_1588 : BitVec 32 := 1#32
  let v1350 : BitVec 32 := Scalar.muli v0 c1_i32_1588
  let v1351 : BitVec 32 := Scalar.addi c0_i32_1589 v1350
  v1351.toNat
def k0_dev73 (v0 : BitVec 32) : Nat :=
  let c0_i32_1623 : BitVec 32 := 0#32
  let c1_i32_1622 : BitVec 32 := 1#32
  let v1381 : BitVec 32 := Scalar.muli v0 c1_i32_1622
  let v1382 : BitVec 32 := Scalar.addi c0_i32_1623 v1381
  v1382.toNat
def k0_dev74 (v1 : BitVec 32) : Nat :=
  let c0_i32_1631 : BitVec 32 := 0#32
  let c1_i32_1630 : BitVec 32 := 1#32
  let v1383 : BitVec 32 := Scalar.muli v1 c1_i32_1630
  let v1384 : BitVec 32 := Scalar.addi c0_i32_1631 v1383
  v1384.toNat
def k0_dev75 (v1 : BitVec 32) : Nat :=
  let c0_i32_1665 : BitVec 32 := 0#32
  let c1_i32_1664 : BitVec 32 := 1#32
  let v1414 : BitVec 32 := Scalar.muli v1 c1_i32_1664
  let v1415 : BitVec 32 := Scalar.addi c0_i32_1665 v1414
  v1415.toNat
def k0_dev76 (v0 : BitVec 32) : Nat :=
  let c0_i32_1673 : BitVec 32 := 0#32
  let c1_i32_1672 : BitVec 32 := 1#32
  let v1416 : BitVec 32 := Scalar.muli v0 c1_i32_1672
  let v1417 : BitVec 32 := Scalar.addi c0_i32_1673 v1416
  v1417.toNat
def k0_dev77 (v0 : BitVec 32) : Nat :=
  let c0_i32_1707 : BitVec 32 := 0#32
  let c1_i32_1706 : BitVec 32 := 1#32
  let v1447 : BitVec 32 := Scalar.muli v0 c1_i32_1706
  let v1448 : BitVec 32 := Scalar.addi c0_i32_1707 v1447
  v1448.toNat
def k0_dev78 (v1 : BitVec 32) : Nat :=
  let c0_i32_1715 : BitVec 32 := 0#32
  let c1_i32_1714 : BitVec 32 := 1#32
  let v1449 : BitVec 32 := Scalar.muli v1 c1_i32_1714
  let v1450 : BitVec 32 := Scalar.addi c0_i32_1715 v1449
  v1450.toNat
def k0_off21 (v1459 : BitVec 32) : Fin 2 → Nat :=
  let c128_i32_1720 : BitVec 32 := 128#32
  let v1460 : BitVec 32 := Scalar.muli v1459 c128_i32_1720
  let v1461 : Index := Scalar.indexCast v1460
  let c0_1721 : Index := 0#32
  ![v1461.toNat, 0]

def k0_chk21 (v1459 : BitVec 32) : Prop :=
  (∀ a, (k0_off21 v1459) a + S128x1024.size a ≤ S2048x1024.size a)
theorem k0_off21_inb : ∀ (v1459 : BitVec 32) (k0_hw21 : k0_chk21 v1459), ∀ a, (k0_off21 v1459) a + S128x1024.size a ≤ S2048x1024.size a := fun v1459 k0_hw21 => k0_hw21

def k0_off22 (v1469 : BitVec 32) : Fin 2 → Nat :=
  let c128_i32_1727 : BitVec 32 := 128#32
  let v1470 : BitVec 32 := Scalar.muli v1469 c128_i32_1727
  let v1471 : Index := Scalar.indexCast v1470
  let c0_1728 : Index := 0#32
  ![v1471.toNat, 0]

def k0_chk22 (v1469 : BitVec 32) : Prop :=
  (∀ a, (k0_off22 v1469) a + S128x1024.size a ≤ S2048x1024.size a)
theorem k0_off22_inb : ∀ (v1469 : BitVec 32) (k0_hw22 : k0_chk22 v1469), ∀ a, (k0_off22 v1469) a + S128x1024.size a ≤ S2048x1024.size a := fun v1469 k0_hw22 => k0_hw22

def k0_dev79 (v1 : BitVec 32) : Nat :=
  let c0_i32_1763 : BitVec 32 := 0#32
  let c1_i32_1762 : BitVec 32 := 1#32
  let v1500 : BitVec 32 := Scalar.muli v1 c1_i32_1762
  let v1501 : BitVec 32 := Scalar.addi c0_i32_1763 v1500
  v1501.toNat
def k0_dev80 (v0 : BitVec 32) : Nat :=
  let c0_i32_1771 : BitVec 32 := 0#32
  let c1_i32_1770 : BitVec 32 := 1#32
  let v1502 : BitVec 32 := Scalar.muli v0 c1_i32_1770
  let v1503 : BitVec 32 := Scalar.addi c0_i32_1771 v1502
  v1503.toNat
def k0_dev81 (v0 : BitVec 32) : Nat :=
  let c0_i32_1805 : BitVec 32 := 0#32
  let c1_i32_1804 : BitVec 32 := 1#32
  let v1533 : BitVec 32 := Scalar.muli v0 c1_i32_1804
  let v1534 : BitVec 32 := Scalar.addi c0_i32_1805 v1533
  v1534.toNat
def k0_dev82 (v1 : BitVec 32) : Nat :=
  let c0_i32_1813 : BitVec 32 := 0#32
  let c1_i32_1812 : BitVec 32 := 1#32
  let v1535 : BitVec 32 := Scalar.muli v1 c1_i32_1812
  let v1536 : BitVec 32 := Scalar.addi c0_i32_1813 v1535
  v1536.toNat
def k0_dev83 (v1 : BitVec 32) : Nat :=
  let c0_i32_1847 : BitVec 32 := 0#32
  let c1_i32_1846 : BitVec 32 := 1#32
  let v1566 : BitVec 32 := Scalar.muli v1 c1_i32_1846
  let v1567 : BitVec 32 := Scalar.addi c0_i32_1847 v1566
  v1567.toNat
def k0_dev84 (v0 : BitVec 32) : Nat :=
  let c0_i32_1855 : BitVec 32 := 0#32
  let c1_i32_1854 : BitVec 32 := 1#32
  let v1568 : BitVec 32 := Scalar.muli v0 c1_i32_1854
  let v1569 : BitVec 32 := Scalar.addi c0_i32_1855 v1568
  v1569.toNat
def k0_dev85 (v0 : BitVec 32) : Nat :=
  let c0_i32_1889 : BitVec 32 := 0#32
  let c1_i32_1888 : BitVec 32 := 1#32
  let v1599 : BitVec 32 := Scalar.muli v0 c1_i32_1888
  let v1600 : BitVec 32 := Scalar.addi c0_i32_1889 v1599
  v1600.toNat
def k0_dev86 (v1 : BitVec 32) : Nat :=
  let c0_i32_1897 : BitVec 32 := 0#32
  let c1_i32_1896 : BitVec 32 := 1#32
  let v1601 : BitVec 32 := Scalar.muli v1 c1_i32_1896
  let v1602 : BitVec 32 := Scalar.addi c0_i32_1897 v1601
  v1602.toNat
def k0_off23 (v1611 : BitVec 32) : Fin 2 → Nat :=
  let c128_i32_1902 : BitVec 32 := 128#32
  let v1612 : BitVec 32 := Scalar.muli v1611 c128_i32_1902
  let v1613 : Index := Scalar.indexCast v1612
  let c0_1903 : Index := 0#32
  ![v1613.toNat, 0]

def k0_chk23 (v1611 : BitVec 32) : Prop :=
  (∀ a, (k0_off23 v1611) a + S128x1024.size a ≤ S2048x1024.size a)
theorem k0_off23_inb : ∀ (v1611 : BitVec 32) (k0_hw23 : k0_chk23 v1611), ∀ a, (k0_off23 v1611) a + S128x1024.size a ≤ S2048x1024.size a := fun v1611 k0_hw23 => k0_hw23

def k0_off24 (v1621 : BitVec 32) : Fin 2 → Nat :=
  let c128_i32_1909 : BitVec 32 := 128#32
  let v1622 : BitVec 32 := Scalar.muli v1621 c128_i32_1909
  let v1623 : Index := Scalar.indexCast v1622
  let c0_1910 : Index := 0#32
  ![v1623.toNat, 0]

def k0_chk24 (v1621 : BitVec 32) : Prop :=
  (∀ a, (k0_off24 v1621) a + S128x1024.size a ≤ S2048x1024.size a)
theorem k0_off24_inb : ∀ (v1621 : BitVec 32) (k0_hw24 : k0_chk24 v1621), ∀ a, (k0_off24 v1621) a + S128x1024.size a ≤ S2048x1024.size a := fun v1621 k0_hw24 => k0_hw24

def k0_dev87 (v1 : BitVec 32) : Nat :=
  let c0_i32_1945 : BitVec 32 := 0#32
  let c1_i32_1944 : BitVec 32 := 1#32
  let v1652 : BitVec 32 := Scalar.muli v1 c1_i32_1944
  let v1653 : BitVec 32 := Scalar.addi c0_i32_1945 v1652
  v1653.toNat
def k0_dev88 (v0 : BitVec 32) : Nat :=
  let c0_i32_1953 : BitVec 32 := 0#32
  let c1_i32_1952 : BitVec 32 := 1#32
  let v1654 : BitVec 32 := Scalar.muli v0 c1_i32_1952
  let v1655 : BitVec 32 := Scalar.addi c0_i32_1953 v1654
  v1655.toNat
def k0_dev89 (v0 : BitVec 32) : Nat :=
  let c0_i32_1987 : BitVec 32 := 0#32
  let c1_i32_1986 : BitVec 32 := 1#32
  let v1685 : BitVec 32 := Scalar.muli v0 c1_i32_1986
  let v1686 : BitVec 32 := Scalar.addi c0_i32_1987 v1685
  v1686.toNat
def k0_dev90 (v1 : BitVec 32) : Nat :=
  let c0_i32_1995 : BitVec 32 := 0#32
  let c1_i32_1994 : BitVec 32 := 1#32
  let v1687 : BitVec 32 := Scalar.muli v1 c1_i32_1994
  let v1688 : BitVec 32 := Scalar.addi c0_i32_1995 v1687
  v1688.toNat
def k0_dev91 (v1 : BitVec 32) : Nat :=
  let c0_i32_2029 : BitVec 32 := 0#32
  let c1_i32_2028 : BitVec 32 := 1#32
  let v1718 : BitVec 32 := Scalar.muli v1 c1_i32_2028
  let v1719 : BitVec 32 := Scalar.addi c0_i32_2029 v1718
  v1719.toNat
def k0_dev92 (v0 : BitVec 32) : Nat :=
  let c0_i32_2037 : BitVec 32 := 0#32
  let c1_i32_2036 : BitVec 32 := 1#32
  let v1720 : BitVec 32 := Scalar.muli v0 c1_i32_2036
  let v1721 : BitVec 32 := Scalar.addi c0_i32_2037 v1720
  v1721.toNat
def k0_dev93 (v0 : BitVec 32) : Nat :=
  let c0_i32_2071 : BitVec 32 := 0#32
  let c1_i32_2070 : BitVec 32 := 1#32
  let v1751 : BitVec 32 := Scalar.muli v0 c1_i32_2070
  let v1752 : BitVec 32 := Scalar.addi c0_i32_2071 v1751
  v1752.toNat
def k0_dev94 (v1 : BitVec 32) : Nat :=
  let c0_i32_2079 : BitVec 32 := 0#32
  let c1_i32_2078 : BitVec 32 := 1#32
  let v1753 : BitVec 32 := Scalar.muli v1 c1_i32_2078
  let v1754 : BitVec 32 := Scalar.addi c0_i32_2079 v1753
  v1754.toNat
def k0_off25 (v1763 : BitVec 32) : Fin 2 → Nat :=
  let c128_i32_2084 : BitVec 32 := 128#32
  let v1764 : BitVec 32 := Scalar.muli v1763 c128_i32_2084
  let v1765 : Index := Scalar.indexCast v1764
  let c0_2085 : Index := 0#32
  ![v1765.toNat, 0]

def k0_chk25 (v1763 : BitVec 32) : Prop :=
  (∀ a, (k0_off25 v1763) a + S128x1024.size a ≤ S2048x1024.size a)
theorem k0_off25_inb : ∀ (v1763 : BitVec 32) (k0_hw25 : k0_chk25 v1763), ∀ a, (k0_off25 v1763) a + S128x1024.size a ≤ S2048x1024.size a := fun v1763 k0_hw25 => k0_hw25

def k0_off26 (v1773 : BitVec 32) : Fin 2 → Nat :=
  let c128_i32_2091 : BitVec 32 := 128#32
  let v1774 : BitVec 32 := Scalar.muli v1773 c128_i32_2091
  let v1775 : Index := Scalar.indexCast v1774
  let c0_2092 : Index := 0#32
  ![v1775.toNat, 0]

def k0_chk26 (v1773 : BitVec 32) : Prop :=
  (∀ a, (k0_off26 v1773) a + S128x1024.size a ≤ S2048x1024.size a)
theorem k0_off26_inb : ∀ (v1773 : BitVec 32) (k0_hw26 : k0_chk26 v1773), ∀ a, (k0_off26 v1773) a + S128x1024.size a ≤ S2048x1024.size a := fun v1773 k0_hw26 => k0_hw26

def k0_dev95 (v1 : BitVec 32) : Nat :=
  let c0_i32_2127 : BitVec 32 := 0#32
  let c1_i32_2126 : BitVec 32 := 1#32
  let v1804 : BitVec 32 := Scalar.muli v1 c1_i32_2126
  let v1805 : BitVec 32 := Scalar.addi c0_i32_2127 v1804
  v1805.toNat
def k0_dev96 (v0 : BitVec 32) : Nat :=
  let c0_i32_2135 : BitVec 32 := 0#32
  let c1_i32_2134 : BitVec 32 := 1#32
  let v1806 : BitVec 32 := Scalar.muli v0 c1_i32_2134
  let v1807 : BitVec 32 := Scalar.addi c0_i32_2135 v1806
  v1807.toNat
def k0_dev97 (v0 : BitVec 32) : Nat :=
  let c0_i32_2169 : BitVec 32 := 0#32
  let c1_i32_2168 : BitVec 32 := 1#32
  let v1837 : BitVec 32 := Scalar.muli v0 c1_i32_2168
  let v1838 : BitVec 32 := Scalar.addi c0_i32_2169 v1837
  v1838.toNat
def k0_dev98 (v1 : BitVec 32) : Nat :=
  let c0_i32_2177 : BitVec 32 := 0#32
  let c1_i32_2176 : BitVec 32 := 1#32
  let v1839 : BitVec 32 := Scalar.muli v1 c1_i32_2176
  let v1840 : BitVec 32 := Scalar.addi c0_i32_2177 v1839
  v1840.toNat
def k0_dev99 (v1 : BitVec 32) : Nat :=
  let c0_i32_2211 : BitVec 32 := 0#32
  let c1_i32_2210 : BitVec 32 := 1#32
  let v1870 : BitVec 32 := Scalar.muli v1 c1_i32_2210
  let v1871 : BitVec 32 := Scalar.addi c0_i32_2211 v1870
  v1871.toNat
def k0_dev100 (v0 : BitVec 32) : Nat :=
  let c0_i32_2219 : BitVec 32 := 0#32
  let c1_i32_2218 : BitVec 32 := 1#32
  let v1872 : BitVec 32 := Scalar.muli v0 c1_i32_2218
  let v1873 : BitVec 32 := Scalar.addi c0_i32_2219 v1872
  v1873.toNat
def k0_dev101 (v0 : BitVec 32) : Nat :=
  let c0_i32_2253 : BitVec 32 := 0#32
  let c1_i32_2252 : BitVec 32 := 1#32
  let v1903 : BitVec 32 := Scalar.muli v0 c1_i32_2252
  let v1904 : BitVec 32 := Scalar.addi c0_i32_2253 v1903
  v1904.toNat
def k0_dev102 (v1 : BitVec 32) : Nat :=
  let c0_i32_2261 : BitVec 32 := 0#32
  let c1_i32_2260 : BitVec 32 := 1#32
  let v1905 : BitVec 32 := Scalar.muli v1 c1_i32_2260
  let v1906 : BitVec 32 := Scalar.addi c0_i32_2261 v1905
  v1906.toNat
def k0_off27 (v1915 : BitVec 32) : Fin 2 → Nat :=
  let c128_i32_2266 : BitVec 32 := 128#32
  let v1916 : BitVec 32 := Scalar.muli v1915 c128_i32_2266
  let v1917 : Index := Scalar.indexCast v1916
  let c0_2267 : Index := 0#32
  ![v1917.toNat, 0]

def k0_chk27 (v1915 : BitVec 32) : Prop :=
  (∀ a, (k0_off27 v1915) a + S128x1024.size a ≤ S2048x1024.size a)
theorem k0_off27_inb : ∀ (v1915 : BitVec 32) (k0_hw27 : k0_chk27 v1915), ∀ a, (k0_off27 v1915) a + S128x1024.size a ≤ S2048x1024.size a := fun v1915 k0_hw27 => k0_hw27

def k0_off28 (v1925 : BitVec 32) : Fin 2 → Nat :=
  let c128_i32_2273 : BitVec 32 := 128#32
  let v1926 : BitVec 32 := Scalar.muli v1925 c128_i32_2273
  let v1927 : Index := Scalar.indexCast v1926
  let c0_2274 : Index := 0#32
  ![v1927.toNat, 0]

def k0_chk28 (v1925 : BitVec 32) : Prop :=
  (∀ a, (k0_off28 v1925) a + S128x1024.size a ≤ S2048x1024.size a)
theorem k0_off28_inb : ∀ (v1925 : BitVec 32) (k0_hw28 : k0_chk28 v1925), ∀ a, (k0_off28 v1925) a + S128x1024.size a ≤ S2048x1024.size a := fun v1925 k0_hw28 => k0_hw28

def k0_dev103 (v1 : BitVec 32) : Nat :=
  let c0_i32_2309 : BitVec 32 := 0#32
  let c1_i32_2308 : BitVec 32 := 1#32
  let v1956 : BitVec 32 := Scalar.muli v1 c1_i32_2308
  let v1957 : BitVec 32 := Scalar.addi c0_i32_2309 v1956
  v1957.toNat
def k0_dev104 (v0 : BitVec 32) : Nat :=
  let c0_i32_2317 : BitVec 32 := 0#32
  let c1_i32_2316 : BitVec 32 := 1#32
  let v1958 : BitVec 32 := Scalar.muli v0 c1_i32_2316
  let v1959 : BitVec 32 := Scalar.addi c0_i32_2317 v1958
  v1959.toNat
def k0_dev105 (v0 : BitVec 32) : Nat :=
  let c0_i32_2351 : BitVec 32 := 0#32
  let c1_i32_2350 : BitVec 32 := 1#32
  let v1989 : BitVec 32 := Scalar.muli v0 c1_i32_2350
  let v1990 : BitVec 32 := Scalar.addi c0_i32_2351 v1989
  v1990.toNat
def k0_dev106 (v1 : BitVec 32) : Nat :=
  let c0_i32_2359 : BitVec 32 := 0#32
  let c1_i32_2358 : BitVec 32 := 1#32
  let v1991 : BitVec 32 := Scalar.muli v1 c1_i32_2358
  let v1992 : BitVec 32 := Scalar.addi c0_i32_2359 v1991
  v1992.toNat
def k0_dev107 (v1 : BitVec 32) : Nat :=
  let c0_i32_2393 : BitVec 32 := 0#32
  let c1_i32_2392 : BitVec 32 := 1#32
  let v2022 : BitVec 32 := Scalar.muli v1 c1_i32_2392
  let v2023 : BitVec 32 := Scalar.addi c0_i32_2393 v2022
  v2023.toNat
def k0_dev108 (v0 : BitVec 32) : Nat :=
  let c0_i32_2401 : BitVec 32 := 0#32
  let c1_i32_2400 : BitVec 32 := 1#32
  let v2024 : BitVec 32 := Scalar.muli v0 c1_i32_2400
  let v2025 : BitVec 32 := Scalar.addi c0_i32_2401 v2024
  v2025.toNat
def k0_dev109 (v0 : BitVec 32) : Nat :=
  let c0_i32_2435 : BitVec 32 := 0#32
  let c1_i32_2434 : BitVec 32 := 1#32
  let v2055 : BitVec 32 := Scalar.muli v0 c1_i32_2434
  let v2056 : BitVec 32 := Scalar.addi c0_i32_2435 v2055
  v2056.toNat
def k0_dev110 (v1 : BitVec 32) : Nat :=
  let c0_i32_2443 : BitVec 32 := 0#32
  let c1_i32_2442 : BitVec 32 := 1#32
  let v2057 : BitVec 32 := Scalar.muli v1 c1_i32_2442
  let v2058 : BitVec 32 := Scalar.addi c0_i32_2443 v2057
  v2058.toNat
def k0_off29 (v2067 : BitVec 32) : Fin 2 → Nat :=
  let c128_i32_2448 : BitVec 32 := 128#32
  let v2068 : BitVec 32 := Scalar.muli v2067 c128_i32_2448
  let v2069 : Index := Scalar.indexCast v2068
  let c0_2449 : Index := 0#32
  ![v2069.toNat, 0]

def k0_chk29 (v2067 : BitVec 32) : Prop :=
  (∀ a, (k0_off29 v2067) a + S128x1024.size a ≤ S2048x1024.size a)
theorem k0_off29_inb : ∀ (v2067 : BitVec 32) (k0_hw29 : k0_chk29 v2067), ∀ a, (k0_off29 v2067) a + S128x1024.size a ≤ S2048x1024.size a := fun v2067 k0_hw29 => k0_hw29

def k0_off30 (v2077 : BitVec 32) : Fin 2 → Nat :=
  let c128_i32_2455 : BitVec 32 := 128#32
  let v2078 : BitVec 32 := Scalar.muli v2077 c128_i32_2455
  let v2079 : Index := Scalar.indexCast v2078
  let c0_2456 : Index := 0#32
  ![v2079.toNat, 0]

def k0_chk30 (v2077 : BitVec 32) : Prop :=
  (∀ a, (k0_off30 v2077) a + S128x1024.size a ≤ S2048x1024.size a)
theorem k0_off30_inb : ∀ (v2077 : BitVec 32) (k0_hw30 : k0_chk30 v2077), ∀ a, (k0_off30 v2077) a + S128x1024.size a ≤ S2048x1024.size a := fun v2077 k0_hw30 => k0_hw30

def k0_dev111 (v1 : BitVec 32) : Nat :=
  let c0_i32_2491 : BitVec 32 := 0#32
  let c1_i32_2490 : BitVec 32 := 1#32
  let v2108 : BitVec 32 := Scalar.muli v1 c1_i32_2490
  let v2109 : BitVec 32 := Scalar.addi c0_i32_2491 v2108
  v2109.toNat
def k0_dev112 (v0 : BitVec 32) : Nat :=
  let c0_i32_2499 : BitVec 32 := 0#32
  let c1_i32_2498 : BitVec 32 := 1#32
  let v2110 : BitVec 32 := Scalar.muli v0 c1_i32_2498
  let v2111 : BitVec 32 := Scalar.addi c0_i32_2499 v2110
  v2111.toNat
def k0_dev113 (v0 : BitVec 32) : Nat :=
  let c0_i32_2533 : BitVec 32 := 0#32
  let c1_i32_2532 : BitVec 32 := 1#32
  let v2141 : BitVec 32 := Scalar.muli v0 c1_i32_2532
  let v2142 : BitVec 32 := Scalar.addi c0_i32_2533 v2141
  v2142.toNat
def k0_dev114 (v1 : BitVec 32) : Nat :=
  let c0_i32_2541 : BitVec 32 := 0#32
  let c1_i32_2540 : BitVec 32 := 1#32
  let v2143 : BitVec 32 := Scalar.muli v1 c1_i32_2540
  let v2144 : BitVec 32 := Scalar.addi c0_i32_2541 v2143
  v2144.toNat
def k0_dev115 (v1 : BitVec 32) : Nat :=
  let c0_i32_2575 : BitVec 32 := 0#32
  let c1_i32_2574 : BitVec 32 := 1#32
  let v2174 : BitVec 32 := Scalar.muli v1 c1_i32_2574
  let v2175 : BitVec 32 := Scalar.addi c0_i32_2575 v2174
  v2175.toNat
def k0_dev116 (v0 : BitVec 32) : Nat :=
  let c0_i32_2583 : BitVec 32 := 0#32
  let c1_i32_2582 : BitVec 32 := 1#32
  let v2176 : BitVec 32 := Scalar.muli v0 c1_i32_2582
  let v2177 : BitVec 32 := Scalar.addi c0_i32_2583 v2176
  v2177.toNat
def k0_dev117 (v0 : BitVec 32) : Nat :=
  let c0_i32_2617 : BitVec 32 := 0#32
  let c1_i32_2616 : BitVec 32 := 1#32
  let v2207 : BitVec 32 := Scalar.muli v0 c1_i32_2616
  let v2208 : BitVec 32 := Scalar.addi c0_i32_2617 v2207
  v2208.toNat

def k0_chk1_0 (v0 : BitVec 32) : Prop :=
  ((k0_dev1 v0) < nD) ∧
  (∀ a, (k0_off2 v0) a + S128x1024.size a ≤ S2048x1024.size a) ∧
  ((k0_dev3 v0) < nD) ∧
  ((k0_dev5 v0) < nD) ∧
  ((k0_dev8 v0) < nD) ∧
  ((k0_dev9 v0) < nD) ∧
  ((k0_dev12 v0) < nD) ∧
  ((k0_dev13 v0) < nD) ∧
  ((k0_dev16 v0) < nD) ∧
  ((k0_dev17 v0) < nD) ∧
  ((k0_dev20 v0) < nD) ∧
  ((k0_dev21 v0) < nD) ∧
  ((k0_dev24 v0) < nD) ∧
  ((k0_dev25 v0) < nD) ∧
  ((k0_dev28 v0) < nD) ∧
  ((k0_dev29 v0) < nD) ∧
  ((k0_dev32 v0) < nD) ∧
  ((k0_dev33 v0) < nD) ∧
  ((k0_dev36 v0) < nD) ∧
  ((k0_dev37 v0) < nD) ∧
  ((k0_dev40 v0) < nD) ∧
  ((k0_dev41 v0) < nD) ∧
  ((k0_dev44 v0) < nD) ∧
  ((k0_dev45 v0) < nD) ∧
  ((k0_dev48 v0) < nD) ∧
  ((k0_dev49 v0) < nD) ∧
  ((k0_dev52 v0) < nD) ∧
  ((k0_dev53 v0) < nD) ∧
  ((k0_dev56 v0) < nD) ∧
  ((k0_dev57 v0) < nD) ∧
  ((k0_dev60 v0) < nD) ∧
  ((k0_dev61 v0) < nD)
def k0_chk1_1 (v0 : BitVec 32) : Prop :=
  ((k0_dev64 v0) < nD) ∧
  ((k0_dev65 v0) < nD) ∧
  ((k0_dev68 v0) < nD) ∧
  ((k0_dev69 v0) < nD) ∧
  ((k0_dev72 v0) < nD) ∧
  ((k0_dev73 v0) < nD) ∧
  ((k0_dev76 v0) < nD) ∧
  ((k0_dev77 v0) < nD) ∧
  ((k0_dev80 v0) < nD) ∧
  ((k0_dev81 v0) < nD) ∧
  ((k0_dev84 v0) < nD) ∧
  ((k0_dev85 v0) < nD) ∧
  ((k0_dev88 v0) < nD) ∧
  ((k0_dev89 v0) < nD) ∧
  ((k0_dev92 v0) < nD) ∧
  ((k0_dev93 v0) < nD) ∧
  ((k0_dev96 v0) < nD) ∧
  ((k0_dev97 v0) < nD) ∧
  ((k0_dev100 v0) < nD) ∧
  ((k0_dev101 v0) < nD) ∧
  ((k0_dev104 v0) < nD) ∧
  ((k0_dev105 v0) < nD) ∧
  ((k0_dev108 v0) < nD) ∧
  ((k0_dev109 v0) < nD) ∧
  ((k0_dev112 v0) < nD) ∧
  ((k0_dev113 v0) < nD) ∧
  ((k0_dev116 v0) < nD) ∧
  ((k0_dev117 v0) < nD)
def k0_chk1 (v0 : BitVec 32) : Prop :=
  k0_chk1_0 v0 ∧
  k0_chk1_1 v0
theorem k0_dev1_lt : ∀ (v0 : BitVec 32) (k0_hw1 : k0_chk1 v0), (k0_dev1 v0) < nD := fun v0 k0_hw1 => k0_hw1.1.1
theorem k0_off2_inb : ∀ (v0 : BitVec 32) (k0_hw1 : k0_chk1 v0), ∀ a, (k0_off2 v0) a + S128x1024.size a ≤ S2048x1024.size a := fun v0 k0_hw1 => k0_hw1.1.2.1
theorem k0_dev3_lt : ∀ (v0 : BitVec 32) (k0_hw1 : k0_chk1 v0), (k0_dev3 v0) < nD := fun v0 k0_hw1 => k0_hw1.1.2.2.1
theorem k0_dev5_lt : ∀ (v0 : BitVec 32) (k0_hw1 : k0_chk1 v0), (k0_dev5 v0) < nD := fun v0 k0_hw1 => k0_hw1.1.2.2.2.1
theorem k0_dev8_lt : ∀ (v0 : BitVec 32) (k0_hw1 : k0_chk1 v0), (k0_dev8 v0) < nD := fun v0 k0_hw1 => k0_hw1.1.2.2.2.2.1
theorem k0_dev9_lt : ∀ (v0 : BitVec 32) (k0_hw1 : k0_chk1 v0), (k0_dev9 v0) < nD := fun v0 k0_hw1 => k0_hw1.1.2.2.2.2.2.1
theorem k0_dev12_lt : ∀ (v0 : BitVec 32) (k0_hw1 : k0_chk1 v0), (k0_dev12 v0) < nD := fun v0 k0_hw1 => k0_hw1.1.2.2.2.2.2.2.1
theorem k0_dev13_lt : ∀ (v0 : BitVec 32) (k0_hw1 : k0_chk1 v0), (k0_dev13 v0) < nD := fun v0 k0_hw1 => k0_hw1.1.2.2.2.2.2.2.2.1
theorem k0_dev16_lt : ∀ (v0 : BitVec 32) (k0_hw1 : k0_chk1 v0), (k0_dev16 v0) < nD := fun v0 k0_hw1 => k0_hw1.1.2.2.2.2.2.2.2.2.1
theorem k0_dev17_lt : ∀ (v0 : BitVec 32) (k0_hw1 : k0_chk1 v0), (k0_dev17 v0) < nD := fun v0 k0_hw1 => k0_hw1.1.2.2.2.2.2.2.2.2.2.1
theorem k0_dev20_lt : ∀ (v0 : BitVec 32) (k0_hw1 : k0_chk1 v0), (k0_dev20 v0) < nD := fun v0 k0_hw1 => k0_hw1.1.2.2.2.2.2.2.2.2.2.2.1
theorem k0_dev21_lt : ∀ (v0 : BitVec 32) (k0_hw1 : k0_chk1 v0), (k0_dev21 v0) < nD := fun v0 k0_hw1 => k0_hw1.1.2.2.2.2.2.2.2.2.2.2.2.1
theorem k0_dev24_lt : ∀ (v0 : BitVec 32) (k0_hw1 : k0_chk1 v0), (k0_dev24 v0) < nD := fun v0 k0_hw1 => k0_hw1.1.2.2.2.2.2.2.2.2.2.2.2.2.1
theorem k0_dev25_lt : ∀ (v0 : BitVec 32) (k0_hw1 : k0_chk1 v0), (k0_dev25 v0) < nD := fun v0 k0_hw1 => k0_hw1.1.2.2.2.2.2.2.2.2.2.2.2.2.2.1
theorem k0_dev28_lt : ∀ (v0 : BitVec 32) (k0_hw1 : k0_chk1 v0), (k0_dev28 v0) < nD := fun v0 k0_hw1 => k0_hw1.1.2.2.2.2.2.2.2.2.2.2.2.2.2.2.1
theorem k0_dev29_lt : ∀ (v0 : BitVec 32) (k0_hw1 : k0_chk1 v0), (k0_dev29 v0) < nD := fun v0 k0_hw1 => k0_hw1.1.2.2.2.2.2.2.2.2.2.2.2.2.2.2.2.1
theorem k0_dev32_lt : ∀ (v0 : BitVec 32) (k0_hw1 : k0_chk1 v0), (k0_dev32 v0) < nD := fun v0 k0_hw1 => k0_hw1.1.2.2.2.2.2.2.2.2.2.2.2.2.2.2.2.2.1
theorem k0_dev33_lt : ∀ (v0 : BitVec 32) (k0_hw1 : k0_chk1 v0), (k0_dev33 v0) < nD := fun v0 k0_hw1 => k0_hw1.1.2.2.2.2.2.2.2.2.2.2.2.2.2.2.2.2.2.1
theorem k0_dev36_lt : ∀ (v0 : BitVec 32) (k0_hw1 : k0_chk1 v0), (k0_dev36 v0) < nD := fun v0 k0_hw1 => k0_hw1.1.2.2.2.2.2.2.2.2.2.2.2.2.2.2.2.2.2.2.1
theorem k0_dev37_lt : ∀ (v0 : BitVec 32) (k0_hw1 : k0_chk1 v0), (k0_dev37 v0) < nD := fun v0 k0_hw1 => k0_hw1.1.2.2.2.2.2.2.2.2.2.2.2.2.2.2.2.2.2.2.2.1
theorem k0_dev40_lt : ∀ (v0 : BitVec 32) (k0_hw1 : k0_chk1 v0), (k0_dev40 v0) < nD := fun v0 k0_hw1 => k0_hw1.1.2.2.2.2.2.2.2.2.2.2.2.2.2.2.2.2.2.2.2.2.1
theorem k0_dev41_lt : ∀ (v0 : BitVec 32) (k0_hw1 : k0_chk1 v0), (k0_dev41 v0) < nD := fun v0 k0_hw1 => k0_hw1.1.2.2.2.2.2.2.2.2.2.2.2.2.2.2.2.2.2.2.2.2.2.1
theorem k0_dev44_lt : ∀ (v0 : BitVec 32) (k0_hw1 : k0_chk1 v0), (k0_dev44 v0) < nD := fun v0 k0_hw1 => k0_hw1.1.2.2.2.2.2.2.2.2.2.2.2.2.2.2.2.2.2.2.2.2.2.2.1
theorem k0_dev45_lt : ∀ (v0 : BitVec 32) (k0_hw1 : k0_chk1 v0), (k0_dev45 v0) < nD := fun v0 k0_hw1 => k0_hw1.1.2.2.2.2.2.2.2.2.2.2.2.2.2.2.2.2.2.2.2.2.2.2.2.1
theorem k0_dev48_lt : ∀ (v0 : BitVec 32) (k0_hw1 : k0_chk1 v0), (k0_dev48 v0) < nD := fun v0 k0_hw1 => k0_hw1.1.2.2.2.2.2.2.2.2.2.2.2.2.2.2.2.2.2.2.2.2.2.2.2.2.1
theorem k0_dev49_lt : ∀ (v0 : BitVec 32) (k0_hw1 : k0_chk1 v0), (k0_dev49 v0) < nD := fun v0 k0_hw1 => k0_hw1.1.2.2.2.2.2.2.2.2.2.2.2.2.2.2.2.2.2.2.2.2.2.2.2.2.2.1
theorem k0_dev52_lt : ∀ (v0 : BitVec 32) (k0_hw1 : k0_chk1 v0), (k0_dev52 v0) < nD := fun v0 k0_hw1 => k0_hw1.1.2.2.2.2.2.2.2.2.2.2.2.2.2.2.2.2.2.2.2.2.2.2.2.2.2.2.1
theorem k0_dev53_lt : ∀ (v0 : BitVec 32) (k0_hw1 : k0_chk1 v0), (k0_dev53 v0) < nD := fun v0 k0_hw1 => k0_hw1.1.2.2.2.2.2.2.2.2.2.2.2.2.2.2.2.2.2.2.2.2.2.2.2.2.2.2.2.1
theorem k0_dev56_lt : ∀ (v0 : BitVec 32) (k0_hw1 : k0_chk1 v0), (k0_dev56 v0) < nD := fun v0 k0_hw1 => k0_hw1.1.2.2.2.2.2.2.2.2.2.2.2.2.2.2.2.2.2.2.2.2.2.2.2.2.2.2.2.2.1
theorem k0_dev57_lt : ∀ (v0 : BitVec 32) (k0_hw1 : k0_chk1 v0), (k0_dev57 v0) < nD := fun v0 k0_hw1 => k0_hw1.1.2.2.2.2.2.2.2.2.2.2.2.2.2.2.2.2.2.2.2.2.2.2.2.2.2.2.2.2.2.1
theorem k0_dev60_lt : ∀ (v0 : BitVec 32) (k0_hw1 : k0_chk1 v0), (k0_dev60 v0) < nD := fun v0 k0_hw1 => k0_hw1.1.2.2.2.2.2.2.2.2.2.2.2.2.2.2.2.2.2.2.2.2.2.2.2.2.2.2.2.2.2.2.1
theorem k0_dev61_lt : ∀ (v0 : BitVec 32) (k0_hw1 : k0_chk1 v0), (k0_dev61 v0) < nD := fun v0 k0_hw1 => k0_hw1.1.2.2.2.2.2.2.2.2.2.2.2.2.2.2.2.2.2.2.2.2.2.2.2.2.2.2.2.2.2.2.2
theorem k0_dev64_lt : ∀ (v0 : BitVec 32) (k0_hw1 : k0_chk1 v0), (k0_dev64 v0) < nD := fun v0 k0_hw1 => k0_hw1.2.1
theorem k0_dev65_lt : ∀ (v0 : BitVec 32) (k0_hw1 : k0_chk1 v0), (k0_dev65 v0) < nD := fun v0 k0_hw1 => k0_hw1.2.2.1
theorem k0_dev68_lt : ∀ (v0 : BitVec 32) (k0_hw1 : k0_chk1 v0), (k0_dev68 v0) < nD := fun v0 k0_hw1 => k0_hw1.2.2.2.1
theorem k0_dev69_lt : ∀ (v0 : BitVec 32) (k0_hw1 : k0_chk1 v0), (k0_dev69 v0) < nD := fun v0 k0_hw1 => k0_hw1.2.2.2.2.1
theorem k0_dev72_lt : ∀ (v0 : BitVec 32) (k0_hw1 : k0_chk1 v0), (k0_dev72 v0) < nD := fun v0 k0_hw1 => k0_hw1.2.2.2.2.2.1
theorem k0_dev73_lt : ∀ (v0 : BitVec 32) (k0_hw1 : k0_chk1 v0), (k0_dev73 v0) < nD := fun v0 k0_hw1 => k0_hw1.2.2.2.2.2.2.1
theorem k0_dev76_lt : ∀ (v0 : BitVec 32) (k0_hw1 : k0_chk1 v0), (k0_dev76 v0) < nD := fun v0 k0_hw1 => k0_hw1.2.2.2.2.2.2.2.1
theorem k0_dev77_lt : ∀ (v0 : BitVec 32) (k0_hw1 : k0_chk1 v0), (k0_dev77 v0) < nD := fun v0 k0_hw1 => k0_hw1.2.2.2.2.2.2.2.2.1
theorem k0_dev80_lt : ∀ (v0 : BitVec 32) (k0_hw1 : k0_chk1 v0), (k0_dev80 v0) < nD := fun v0 k0_hw1 => k0_hw1.2.2.2.2.2.2.2.2.2.1
theorem k0_dev81_lt : ∀ (v0 : BitVec 32) (k0_hw1 : k0_chk1 v0), (k0_dev81 v0) < nD := fun v0 k0_hw1 => k0_hw1.2.2.2.2.2.2.2.2.2.2.1
theorem k0_dev84_lt : ∀ (v0 : BitVec 32) (k0_hw1 : k0_chk1 v0), (k0_dev84 v0) < nD := fun v0 k0_hw1 => k0_hw1.2.2.2.2.2.2.2.2.2.2.2.1
theorem k0_dev85_lt : ∀ (v0 : BitVec 32) (k0_hw1 : k0_chk1 v0), (k0_dev85 v0) < nD := fun v0 k0_hw1 => k0_hw1.2.2.2.2.2.2.2.2.2.2.2.2.1
theorem k0_dev88_lt : ∀ (v0 : BitVec 32) (k0_hw1 : k0_chk1 v0), (k0_dev88 v0) < nD := fun v0 k0_hw1 => k0_hw1.2.2.2.2.2.2.2.2.2.2.2.2.2.1
theorem k0_dev89_lt : ∀ (v0 : BitVec 32) (k0_hw1 : k0_chk1 v0), (k0_dev89 v0) < nD := fun v0 k0_hw1 => k0_hw1.2.2.2.2.2.2.2.2.2.2.2.2.2.2.1
theorem k0_dev92_lt : ∀ (v0 : BitVec 32) (k0_hw1 : k0_chk1 v0), (k0_dev92 v0) < nD := fun v0 k0_hw1 => k0_hw1.2.2.2.2.2.2.2.2.2.2.2.2.2.2.2.1
theorem k0_dev93_lt : ∀ (v0 : BitVec 32) (k0_hw1 : k0_chk1 v0), (k0_dev93 v0) < nD := fun v0 k0_hw1 => k0_hw1.2.2.2.2.2.2.2.2.2.2.2.2.2.2.2.2.1
theorem k0_dev96_lt : ∀ (v0 : BitVec 32) (k0_hw1 : k0_chk1 v0), (k0_dev96 v0) < nD := fun v0 k0_hw1 => k0_hw1.2.2.2.2.2.2.2.2.2.2.2.2.2.2.2.2.2.1
theorem k0_dev97_lt : ∀ (v0 : BitVec 32) (k0_hw1 : k0_chk1 v0), (k0_dev97 v0) < nD := fun v0 k0_hw1 => k0_hw1.2.2.2.2.2.2.2.2.2.2.2.2.2.2.2.2.2.2.1
theorem k0_dev100_lt : ∀ (v0 : BitVec 32) (k0_hw1 : k0_chk1 v0), (k0_dev100 v0) < nD := fun v0 k0_hw1 => k0_hw1.2.2.2.2.2.2.2.2.2.2.2.2.2.2.2.2.2.2.2.1
theorem k0_dev101_lt : ∀ (v0 : BitVec 32) (k0_hw1 : k0_chk1 v0), (k0_dev101 v0) < nD := fun v0 k0_hw1 => k0_hw1.2.2.2.2.2.2.2.2.2.2.2.2.2.2.2.2.2.2.2.2.1
theorem k0_dev104_lt : ∀ (v0 : BitVec 32) (k0_hw1 : k0_chk1 v0), (k0_dev104 v0) < nD := fun v0 k0_hw1 => k0_hw1.2.2.2.2.2.2.2.2.2.2.2.2.2.2.2.2.2.2.2.2.2.1
theorem k0_dev105_lt : ∀ (v0 : BitVec 32) (k0_hw1 : k0_chk1 v0), (k0_dev105 v0) < nD := fun v0 k0_hw1 => k0_hw1.2.2.2.2.2.2.2.2.2.2.2.2.2.2.2.2.2.2.2.2.2.2.1
theorem k0_dev108_lt : ∀ (v0 : BitVec 32) (k0_hw1 : k0_chk1 v0), (k0_dev108 v0) < nD := fun v0 k0_hw1 => k0_hw1.2.2.2.2.2.2.2.2.2.2.2.2.2.2.2.2.2.2.2.2.2.2.2.1
theorem k0_dev109_lt : ∀ (v0 : BitVec 32) (k0_hw1 : k0_chk1 v0), (k0_dev109 v0) < nD := fun v0 k0_hw1 => k0_hw1.2.2.2.2.2.2.2.2.2.2.2.2.2.2.2.2.2.2.2.2.2.2.2.2.1
theorem k0_dev112_lt : ∀ (v0 : BitVec 32) (k0_hw1 : k0_chk1 v0), (k0_dev112 v0) < nD := fun v0 k0_hw1 => k0_hw1.2.2.2.2.2.2.2.2.2.2.2.2.2.2.2.2.2.2.2.2.2.2.2.2.2.1
theorem k0_dev113_lt : ∀ (v0 : BitVec 32) (k0_hw1 : k0_chk1 v0), (k0_dev113 v0) < nD := fun v0 k0_hw1 => k0_hw1.2.2.2.2.2.2.2.2.2.2.2.2.2.2.2.2.2.2.2.2.2.2.2.2.2.2.1
theorem k0_dev116_lt : ∀ (v0 : BitVec 32) (k0_hw1 : k0_chk1 v0), (k0_dev116 v0) < nD := fun v0 k0_hw1 => k0_hw1.2.2.2.2.2.2.2.2.2.2.2.2.2.2.2.2.2.2.2.2.2.2.2.2.2.2.2.1
theorem k0_dev117_lt : ∀ (v0 : BitVec 32) (k0_hw1 : k0_chk1 v0), (k0_dev117 v0) < nD := fun v0 k0_hw1 => k0_hw1.2.2.2.2.2.2.2.2.2.2.2.2.2.2.2.2.2.2.2.2.2.2.2.2.2.2.2.2

def k0_dev118 (v1 : BitVec 32) : Nat :=
  let c0_i32_2625 : BitVec 32 := 0#32
  let c1_i32_2624 : BitVec 32 := 1#32
  let v2209 : BitVec 32 := Scalar.muli v1 c1_i32_2624
  let v2210 : BitVec 32 := Scalar.addi c0_i32_2625 v2209
  v2210.toNat

def k0_chk2_0 (v1 : BitVec 32) : Prop :=
  ((k0_dev2 v1) < nD) ∧
  (∀ a, (k0_off1 v1) a + S128x1024.size a ≤ S2048x1024.size a) ∧
  ((k0_dev4 v1) < nD) ∧
  ((k0_dev6 v1) < nD) ∧
  ((k0_dev7 v1) < nD) ∧
  ((k0_dev10 v1) < nD) ∧
  ((k0_dev11 v1) < nD) ∧
  ((k0_dev14 v1) < nD) ∧
  ((k0_dev15 v1) < nD) ∧
  ((k0_dev18 v1) < nD) ∧
  ((k0_dev19 v1) < nD) ∧
  ((k0_dev22 v1) < nD) ∧
  ((k0_dev23 v1) < nD) ∧
  ((k0_dev26 v1) < nD) ∧
  ((k0_dev27 v1) < nD) ∧
  ((k0_dev30 v1) < nD) ∧
  ((k0_dev31 v1) < nD) ∧
  ((k0_dev34 v1) < nD) ∧
  ((k0_dev35 v1) < nD) ∧
  ((k0_dev38 v1) < nD) ∧
  ((k0_dev39 v1) < nD) ∧
  ((k0_dev42 v1) < nD) ∧
  ((k0_dev43 v1) < nD) ∧
  ((k0_dev46 v1) < nD) ∧
  ((k0_dev47 v1) < nD) ∧
  ((k0_dev50 v1) < nD) ∧
  ((k0_dev51 v1) < nD) ∧
  ((k0_dev54 v1) < nD) ∧
  ((k0_dev55 v1) < nD) ∧
  ((k0_dev58 v1) < nD) ∧
  ((k0_dev59 v1) < nD) ∧
  ((k0_dev62 v1) < nD)
def k0_chk2_1 (v1 : BitVec 32) : Prop :=
  ((k0_dev63 v1) < nD) ∧
  ((k0_dev66 v1) < nD) ∧
  ((k0_dev67 v1) < nD) ∧
  ((k0_dev70 v1) < nD) ∧
  ((k0_dev71 v1) < nD) ∧
  ((k0_dev74 v1) < nD) ∧
  ((k0_dev75 v1) < nD) ∧
  ((k0_dev78 v1) < nD) ∧
  ((k0_dev79 v1) < nD) ∧
  ((k0_dev82 v1) < nD) ∧
  ((k0_dev83 v1) < nD) ∧
  ((k0_dev86 v1) < nD) ∧
  ((k0_dev87 v1) < nD) ∧
  ((k0_dev90 v1) < nD) ∧
  ((k0_dev91 v1) < nD) ∧
  ((k0_dev94 v1) < nD) ∧
  ((k0_dev95 v1) < nD) ∧
  ((k0_dev98 v1) < nD) ∧
  ((k0_dev99 v1) < nD) ∧
  ((k0_dev102 v1) < nD) ∧
  ((k0_dev103 v1) < nD) ∧
  ((k0_dev106 v1) < nD) ∧
  ((k0_dev107 v1) < nD) ∧
  ((k0_dev110 v1) < nD) ∧
  ((k0_dev111 v1) < nD) ∧
  ((k0_dev114 v1) < nD) ∧
  ((k0_dev115 v1) < nD) ∧
  ((k0_dev118 v1) < nD)
def k0_chk2 (v1 : BitVec 32) : Prop :=
  k0_chk2_0 v1 ∧
  k0_chk2_1 v1
theorem k0_dev2_lt : ∀ (v1 : BitVec 32) (k0_hw2 : k0_chk2 v1), (k0_dev2 v1) < nD := fun v1 k0_hw2 => k0_hw2.1.1
theorem k0_off1_inb : ∀ (v1 : BitVec 32) (k0_hw2 : k0_chk2 v1), ∀ a, (k0_off1 v1) a + S128x1024.size a ≤ S2048x1024.size a := fun v1 k0_hw2 => k0_hw2.1.2.1
theorem k0_dev4_lt : ∀ (v1 : BitVec 32) (k0_hw2 : k0_chk2 v1), (k0_dev4 v1) < nD := fun v1 k0_hw2 => k0_hw2.1.2.2.1
theorem k0_dev6_lt : ∀ (v1 : BitVec 32) (k0_hw2 : k0_chk2 v1), (k0_dev6 v1) < nD := fun v1 k0_hw2 => k0_hw2.1.2.2.2.1
theorem k0_dev7_lt : ∀ (v1 : BitVec 32) (k0_hw2 : k0_chk2 v1), (k0_dev7 v1) < nD := fun v1 k0_hw2 => k0_hw2.1.2.2.2.2.1
theorem k0_dev10_lt : ∀ (v1 : BitVec 32) (k0_hw2 : k0_chk2 v1), (k0_dev10 v1) < nD := fun v1 k0_hw2 => k0_hw2.1.2.2.2.2.2.1
theorem k0_dev11_lt : ∀ (v1 : BitVec 32) (k0_hw2 : k0_chk2 v1), (k0_dev11 v1) < nD := fun v1 k0_hw2 => k0_hw2.1.2.2.2.2.2.2.1
theorem k0_dev14_lt : ∀ (v1 : BitVec 32) (k0_hw2 : k0_chk2 v1), (k0_dev14 v1) < nD := fun v1 k0_hw2 => k0_hw2.1.2.2.2.2.2.2.2.1
theorem k0_dev15_lt : ∀ (v1 : BitVec 32) (k0_hw2 : k0_chk2 v1), (k0_dev15 v1) < nD := fun v1 k0_hw2 => k0_hw2.1.2.2.2.2.2.2.2.2.1
theorem k0_dev18_lt : ∀ (v1 : BitVec 32) (k0_hw2 : k0_chk2 v1), (k0_dev18 v1) < nD := fun v1 k0_hw2 => k0_hw2.1.2.2.2.2.2.2.2.2.2.1
theorem k0_dev19_lt : ∀ (v1 : BitVec 32) (k0_hw2 : k0_chk2 v1), (k0_dev19 v1) < nD := fun v1 k0_hw2 => k0_hw2.1.2.2.2.2.2.2.2.2.2.2.1
theorem k0_dev22_lt : ∀ (v1 : BitVec 32) (k0_hw2 : k0_chk2 v1), (k0_dev22 v1) < nD := fun v1 k0_hw2 => k0_hw2.1.2.2.2.2.2.2.2.2.2.2.2.1
theorem k0_dev23_lt : ∀ (v1 : BitVec 32) (k0_hw2 : k0_chk2 v1), (k0_dev23 v1) < nD := fun v1 k0_hw2 => k0_hw2.1.2.2.2.2.2.2.2.2.2.2.2.2.1
theorem k0_dev26_lt : ∀ (v1 : BitVec 32) (k0_hw2 : k0_chk2 v1), (k0_dev26 v1) < nD := fun v1 k0_hw2 => k0_hw2.1.2.2.2.2.2.2.2.2.2.2.2.2.2.1
theorem k0_dev27_lt : ∀ (v1 : BitVec 32) (k0_hw2 : k0_chk2 v1), (k0_dev27 v1) < nD := fun v1 k0_hw2 => k0_hw2.1.2.2.2.2.2.2.2.2.2.2.2.2.2.2.1
theorem k0_dev30_lt : ∀ (v1 : BitVec 32) (k0_hw2 : k0_chk2 v1), (k0_dev30 v1) < nD := fun v1 k0_hw2 => k0_hw2.1.2.2.2.2.2.2.2.2.2.2.2.2.2.2.2.1
theorem k0_dev31_lt : ∀ (v1 : BitVec 32) (k0_hw2 : k0_chk2 v1), (k0_dev31 v1) < nD := fun v1 k0_hw2 => k0_hw2.1.2.2.2.2.2.2.2.2.2.2.2.2.2.2.2.2.1
theorem k0_dev34_lt : ∀ (v1 : BitVec 32) (k0_hw2 : k0_chk2 v1), (k0_dev34 v1) < nD := fun v1 k0_hw2 => k0_hw2.1.2.2.2.2.2.2.2.2.2.2.2.2.2.2.2.2.2.1
theorem k0_dev35_lt : ∀ (v1 : BitVec 32) (k0_hw2 : k0_chk2 v1), (k0_dev35 v1) < nD := fun v1 k0_hw2 => k0_hw2.1.2.2.2.2.2.2.2.2.2.2.2.2.2.2.2.2.2.2.1
theorem k0_dev38_lt : ∀ (v1 : BitVec 32) (k0_hw2 : k0_chk2 v1), (k0_dev38 v1) < nD := fun v1 k0_hw2 => k0_hw2.1.2.2.2.2.2.2.2.2.2.2.2.2.2.2.2.2.2.2.2.1
theorem k0_dev39_lt : ∀ (v1 : BitVec 32) (k0_hw2 : k0_chk2 v1), (k0_dev39 v1) < nD := fun v1 k0_hw2 => k0_hw2.1.2.2.2.2.2.2.2.2.2.2.2.2.2.2.2.2.2.2.2.2.1
theorem k0_dev42_lt : ∀ (v1 : BitVec 32) (k0_hw2 : k0_chk2 v1), (k0_dev42 v1) < nD := fun v1 k0_hw2 => k0_hw2.1.2.2.2.2.2.2.2.2.2.2.2.2.2.2.2.2.2.2.2.2.2.1
theorem k0_dev43_lt : ∀ (v1 : BitVec 32) (k0_hw2 : k0_chk2 v1), (k0_dev43 v1) < nD := fun v1 k0_hw2 => k0_hw2.1.2.2.2.2.2.2.2.2.2.2.2.2.2.2.2.2.2.2.2.2.2.2.1
theorem k0_dev46_lt : ∀ (v1 : BitVec 32) (k0_hw2 : k0_chk2 v1), (k0_dev46 v1) < nD := fun v1 k0_hw2 => k0_hw2.1.2.2.2.2.2.2.2.2.2.2.2.2.2.2.2.2.2.2.2.2.2.2.2.1
theorem k0_dev47_lt : ∀ (v1 : BitVec 32) (k0_hw2 : k0_chk2 v1), (k0_dev47 v1) < nD := fun v1 k0_hw2 => k0_hw2.1.2.2.2.2.2.2.2.2.2.2.2.2.2.2.2.2.2.2.2.2.2.2.2.2.1
theorem k0_dev50_lt : ∀ (v1 : BitVec 32) (k0_hw2 : k0_chk2 v1), (k0_dev50 v1) < nD := fun v1 k0_hw2 => k0_hw2.1.2.2.2.2.2.2.2.2.2.2.2.2.2.2.2.2.2.2.2.2.2.2.2.2.2.1
theorem k0_dev51_lt : ∀ (v1 : BitVec 32) (k0_hw2 : k0_chk2 v1), (k0_dev51 v1) < nD := fun v1 k0_hw2 => k0_hw2.1.2.2.2.2.2.2.2.2.2.2.2.2.2.2.2.2.2.2.2.2.2.2.2.2.2.2.1
theorem k0_dev54_lt : ∀ (v1 : BitVec 32) (k0_hw2 : k0_chk2 v1), (k0_dev54 v1) < nD := fun v1 k0_hw2 => k0_hw2.1.2.2.2.2.2.2.2.2.2.2.2.2.2.2.2.2.2.2.2.2.2.2.2.2.2.2.2.1
theorem k0_dev55_lt : ∀ (v1 : BitVec 32) (k0_hw2 : k0_chk2 v1), (k0_dev55 v1) < nD := fun v1 k0_hw2 => k0_hw2.1.2.2.2.2.2.2.2.2.2.2.2.2.2.2.2.2.2.2.2.2.2.2.2.2.2.2.2.2.1
theorem k0_dev58_lt : ∀ (v1 : BitVec 32) (k0_hw2 : k0_chk2 v1), (k0_dev58 v1) < nD := fun v1 k0_hw2 => k0_hw2.1.2.2.2.2.2.2.2.2.2.2.2.2.2.2.2.2.2.2.2.2.2.2.2.2.2.2.2.2.2.1
theorem k0_dev59_lt : ∀ (v1 : BitVec 32) (k0_hw2 : k0_chk2 v1), (k0_dev59 v1) < nD := fun v1 k0_hw2 => k0_hw2.1.2.2.2.2.2.2.2.2.2.2.2.2.2.2.2.2.2.2.2.2.2.2.2.2.2.2.2.2.2.2.1
theorem k0_dev62_lt : ∀ (v1 : BitVec 32) (k0_hw2 : k0_chk2 v1), (k0_dev62 v1) < nD := fun v1 k0_hw2 => k0_hw2.1.2.2.2.2.2.2.2.2.2.2.2.2.2.2.2.2.2.2.2.2.2.2.2.2.2.2.2.2.2.2.2
theorem k0_dev63_lt : ∀ (v1 : BitVec 32) (k0_hw2 : k0_chk2 v1), (k0_dev63 v1) < nD := fun v1 k0_hw2 => k0_hw2.2.1
theorem k0_dev66_lt : ∀ (v1 : BitVec 32) (k0_hw2 : k0_chk2 v1), (k0_dev66 v1) < nD := fun v1 k0_hw2 => k0_hw2.2.2.1
theorem k0_dev67_lt : ∀ (v1 : BitVec 32) (k0_hw2 : k0_chk2 v1), (k0_dev67 v1) < nD := fun v1 k0_hw2 => k0_hw2.2.2.2.1
theorem k0_dev70_lt : ∀ (v1 : BitVec 32) (k0_hw2 : k0_chk2 v1), (k0_dev70 v1) < nD := fun v1 k0_hw2 => k0_hw2.2.2.2.2.1
theorem k0_dev71_lt : ∀ (v1 : BitVec 32) (k0_hw2 : k0_chk2 v1), (k0_dev71 v1) < nD := fun v1 k0_hw2 => k0_hw2.2.2.2.2.2.1
theorem k0_dev74_lt : ∀ (v1 : BitVec 32) (k0_hw2 : k0_chk2 v1), (k0_dev74 v1) < nD := fun v1 k0_hw2 => k0_hw2.2.2.2.2.2.2.1
theorem k0_dev75_lt : ∀ (v1 : BitVec 32) (k0_hw2 : k0_chk2 v1), (k0_dev75 v1) < nD := fun v1 k0_hw2 => k0_hw2.2.2.2.2.2.2.2.1
theorem k0_dev78_lt : ∀ (v1 : BitVec 32) (k0_hw2 : k0_chk2 v1), (k0_dev78 v1) < nD := fun v1 k0_hw2 => k0_hw2.2.2.2.2.2.2.2.2.1
theorem k0_dev79_lt : ∀ (v1 : BitVec 32) (k0_hw2 : k0_chk2 v1), (k0_dev79 v1) < nD := fun v1 k0_hw2 => k0_hw2.2.2.2.2.2.2.2.2.2.1
theorem k0_dev82_lt : ∀ (v1 : BitVec 32) (k0_hw2 : k0_chk2 v1), (k0_dev82 v1) < nD := fun v1 k0_hw2 => k0_hw2.2.2.2.2.2.2.2.2.2.2.1
theorem k0_dev83_lt : ∀ (v1 : BitVec 32) (k0_hw2 : k0_chk2 v1), (k0_dev83 v1) < nD := fun v1 k0_hw2 => k0_hw2.2.2.2.2.2.2.2.2.2.2.2.1
theorem k0_dev86_lt : ∀ (v1 : BitVec 32) (k0_hw2 : k0_chk2 v1), (k0_dev86 v1) < nD := fun v1 k0_hw2 => k0_hw2.2.2.2.2.2.2.2.2.2.2.2.2.1
theorem k0_dev87_lt : ∀ (v1 : BitVec 32) (k0_hw2 : k0_chk2 v1), (k0_dev87 v1) < nD := fun v1 k0_hw2 => k0_hw2.2.2.2.2.2.2.2.2.2.2.2.2.2.1
theorem k0_dev90_lt : ∀ (v1 : BitVec 32) (k0_hw2 : k0_chk2 v1), (k0_dev90 v1) < nD := fun v1 k0_hw2 => k0_hw2.2.2.2.2.2.2.2.2.2.2.2.2.2.2.1
theorem k0_dev91_lt : ∀ (v1 : BitVec 32) (k0_hw2 : k0_chk2 v1), (k0_dev91 v1) < nD := fun v1 k0_hw2 => k0_hw2.2.2.2.2.2.2.2.2.2.2.2.2.2.2.2.1
theorem k0_dev94_lt : ∀ (v1 : BitVec 32) (k0_hw2 : k0_chk2 v1), (k0_dev94 v1) < nD := fun v1 k0_hw2 => k0_hw2.2.2.2.2.2.2.2.2.2.2.2.2.2.2.2.2.1
theorem k0_dev95_lt : ∀ (v1 : BitVec 32) (k0_hw2 : k0_chk2 v1), (k0_dev95 v1) < nD := fun v1 k0_hw2 => k0_hw2.2.2.2.2.2.2.2.2.2.2.2.2.2.2.2.2.2.1
theorem k0_dev98_lt : ∀ (v1 : BitVec 32) (k0_hw2 : k0_chk2 v1), (k0_dev98 v1) < nD := fun v1 k0_hw2 => k0_hw2.2.2.2.2.2.2.2.2.2.2.2.2.2.2.2.2.2.2.1
theorem k0_dev99_lt : ∀ (v1 : BitVec 32) (k0_hw2 : k0_chk2 v1), (k0_dev99 v1) < nD := fun v1 k0_hw2 => k0_hw2.2.2.2.2.2.2.2.2.2.2.2.2.2.2.2.2.2.2.2.1
theorem k0_dev102_lt : ∀ (v1 : BitVec 32) (k0_hw2 : k0_chk2 v1), (k0_dev102 v1) < nD := fun v1 k0_hw2 => k0_hw2.2.2.2.2.2.2.2.2.2.2.2.2.2.2.2.2.2.2.2.2.1
theorem k0_dev103_lt : ∀ (v1 : BitVec 32) (k0_hw2 : k0_chk2 v1), (k0_dev103 v1) < nD := fun v1 k0_hw2 => k0_hw2.2.2.2.2.2.2.2.2.2.2.2.2.2.2.2.2.2.2.2.2.2.1
theorem k0_dev106_lt : ∀ (v1 : BitVec 32) (k0_hw2 : k0_chk2 v1), (k0_dev106 v1) < nD := fun v1 k0_hw2 => k0_hw2.2.2.2.2.2.2.2.2.2.2.2.2.2.2.2.2.2.2.2.2.2.2.1
theorem k0_dev107_lt : ∀ (v1 : BitVec 32) (k0_hw2 : k0_chk2 v1), (k0_dev107 v1) < nD := fun v1 k0_hw2 => k0_hw2.2.2.2.2.2.2.2.2.2.2.2.2.2.2.2.2.2.2.2.2.2.2.2.1
theorem k0_dev110_lt : ∀ (v1 : BitVec 32) (k0_hw2 : k0_chk2 v1), (k0_dev110 v1) < nD := fun v1 k0_hw2 => k0_hw2.2.2.2.2.2.2.2.2.2.2.2.2.2.2.2.2.2.2.2.2.2.2.2.2.1
theorem k0_dev111_lt : ∀ (v1 : BitVec 32) (k0_hw2 : k0_chk2 v1), (k0_dev111 v1) < nD := fun v1 k0_hw2 => k0_hw2.2.2.2.2.2.2.2.2.2.2.2.2.2.2.2.2.2.2.2.2.2.2.2.2.2.1
theorem k0_dev114_lt : ∀ (v1 : BitVec 32) (k0_hw2 : k0_chk2 v1), (k0_dev114 v1) < nD := fun v1 k0_hw2 => k0_hw2.2.2.2.2.2.2.2.2.2.2.2.2.2.2.2.2.2.2.2.2.2.2.2.2.2.2.1
theorem k0_dev115_lt : ∀ (v1 : BitVec 32) (k0_hw2 : k0_chk2 v1), (k0_dev115 v1) < nD := fun v1 k0_hw2 => k0_hw2.2.2.2.2.2.2.2.2.2.2.2.2.2.2.2.2.2.2.2.2.2.2.2.2.2.2.2.1
theorem k0_dev118_lt : ∀ (v1 : BitVec 32) (k0_hw2 : k0_chk2 v1), (k0_dev118 v1) < nD := fun v1 k0_hw2 => k0_hw2.2.2.2.2.2.2.2.2.2.2.2.2.2.2.2.2.2.2.2.2.2.2.2.2.2.2.2.2

def k0_off31 (v2219 : BitVec 32) : Fin 2 → Nat :=
  let c128_i32_2630 : BitVec 32 := 128#32
  let v2220 : BitVec 32 := Scalar.muli v2219 c128_i32_2630
  let v2221 : Index := Scalar.indexCast v2220
  let c0_2631 : Index := 0#32
  ![v2221.toNat, 0]

def k0_chk31 (v2219 : BitVec 32) : Prop :=
  (∀ a, (k0_off31 v2219) a + S128x1024.size a ≤ S2048x1024.size a)
theorem k0_off31_inb : ∀ (v2219 : BitVec 32) (k0_hw31 : k0_chk31 v2219), ∀ a, (k0_off31 v2219) a + S128x1024.size a ≤ S2048x1024.size a := fun v2219 k0_hw31 => k0_hw31

def k0_off32 (v2229 : BitVec 32) : Fin 2 → Nat :=
  let c128_i32_2637 : BitVec 32 := 128#32
  let v2230 : BitVec 32 := Scalar.muli v2229 c128_i32_2637
  let v2231 : Index := Scalar.indexCast v2230
  let c0_2638 : Index := 0#32
  ![v2231.toNat, 0]

def k0_chk32 (v2229 : BitVec 32) : Prop :=
  (∀ a, (k0_off32 v2229) a + S128x1024.size a ≤ S2048x1024.size a)
theorem k0_off32_inb : ∀ (v2229 : BitVec 32) (k0_hw32 : k0_chk32 v2229), ∀ a, (k0_off32 v2229) a + S128x1024.size a ≤ S2048x1024.size a := fun v2229 k0_hw32 => k0_hw32

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S32 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x16384 : Shape := ⟨2, ![2048, 16384]⟩
abbrev S16384x2048 : Shape := ⟨2, ![16384, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x16384, .bf16⟩
  | .hbm, ⟨1, _⟩ => ⟨S16384x2048, .bf16⟩
  | .hbm, ⟨2, _⟩ => ⟨S2048x2048, .f32⟩
  | .hbm, ⟨3, _⟩ => ⟨S2048x2048, .bf16⟩
  | .hbm, ⟨4, _⟩ => ⟨S2048x2048, .f32⟩
  | _, _ => ⟨S2048x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Ops.lean ====
module

public import proofs.«01_k».proof.Proof.Gen.KernelIdeal.Skeleton

@[expose] public section

noncomputable section

namespace Cert.KernelIdeal.RS

open Idealize.ShloMosaic Idealize.SL.Sem
open Cert.KernelIdeal Facts₀ Facts

variable {F : FTy → Type} [FloatOps F]

/-- A program of the kernel's body. -/
abbrev Body (F : FTy → Type) [FloatOps F] := Prog (TpuEff nD τ sig (Elt F) Λ₀ .tc) PUnit

/-- The two-slot accumulator buffer of stream `j`. -/
def bufM : Fin 4 → Memref sig .tc .vmem S2x128x512 .bf16
  | 0 => Memref.whole cc0_scratch4 | 1 => Memref.whole cc0_scratch8
  | 2 => Memref.whole cc0_scratch12 | 3 => Memref.whole cc0_scratch16

/-- A stream's buffer is a whole buffer. -/
theorem bufM_whole : ∀ j, (bufM j).IsWhole
  | 0 => Memref.isWhole_whole _ | 1 => Memref.isWhole_whole _
  | 2 => Memref.isWhole_whole _ | 3 => Memref.isWhole_whole _

/-- The send semaphores of stream `j`, one for each slot. -/
def sndA : Fin 4 → DmaSems sig S2
  | 0 => cc0_scratch5 | 1 => cc0_scratch9 | 2 => cc0_scratch13 | 3 => cc0_scratch17

/-- The receive semaphores of stream `j`, one for each slot. -/
def rcvA : Fin 4 → DmaSems sig S2
  | 0 => cc0_scratch6 | 1 => cc0_scratch10 | 2 => cc0_scratch14 | 3 => cc0_scratch18

/-- The credit semaphore of stream `j`. -/
def crdA : Fin 4 → Sems sig S_
  | 0 => cc0_scratch7 | 1 => cc0_scratch11 | 2 => cc0_scratch15 | 3 => cc0_scratch19

/-- The direction a stream runs in: `0` to the successor, `1` to the predecessor. -/
def dirOf : Fin 4 → Fin 2
  | 0 => 0 | 1 => 1 | 2 => 0 | 3 => 1

/-- The column half of a partial product a stream carries. -/
def loOf : Fin 4 → Fin 2
  | 0 => 0 | 1 => 0 | 2 => 1 | 3 => 1

/-- The partial-product buffer of a direction. -/
def pcM : Fin 2 → Memref sig .tc .vmem S128x1024 .bf16
  | 0 => Memref.whole cc0_scratch2 | 1 => Memref.whole cc0_scratch3

/-- A partial product's buffer is a whole buffer. -/
theorem pcM_whole : ∀ d, (pcM d).IsWhole
  | 0 => Memref.isWhole_whole _ | 1 => Memref.isWhole_whole _

abbrev aM : Memref sig .tc .vmem S2048x1024 .bf16 := Memref.whole cc0_stg0_0
abbrev bM : Memref sig .tc .vmem S1024x2048 .bf16 := Memref.whole cc0_stg1_0
abbrev prmM : Memref sig .tc .smem S32 .i32 := Memref.whole cc0_stg2_0
abbrev oM : Memref sig .tc .vmem S128x2048 .f32 := Memref.whole cc0_stg3_0
abbrev abM : Memref sig .tc .vmem S2048x1024 .bf16 := Memref.whole cc0_scratch0
abbrev bbM : Memref sig .tc .vmem S1024x2048 .bf16 := Memref.whole cc0_scratch1

/-- Either slot lies in its stream's buffer. -/
theorem inbSlot : ∀ (p : Fin 2) (a : Fin S2x128x512.rank), (![p.val, 0, 0] : Fin 3 → ℕ) a + S1x128x512.size a ≤ S2x128x512.size a := by
  decide
/-- Either half of the columns lies in a partial product. -/
theorem inbLo : ∀ (l : Fin 2) (a : Fin S128x1024.rank), (![0, l.val * 512] : Fin 2 → ℕ) a + S128x512.size a ≤ S128x1024.size a := by
  decide
/-- Either half of the columns lies in the right operand. -/
theorem inbHalf : ∀ (d : Fin 2) (a : Fin S1024x2048.rank), (![0, d.val * 1024] : Fin 2 → ℕ) a + S1024x1024.size a ≤ S1024x2048.size a := by
  decide
/-- Either semaphore lies in its array. -/
theorem inbSem : ∀ (p : Fin 2) (a : Fin S2.rank), (![p.val] : Fin 1 → ℕ) a + S1.size a ≤ S2.size a := by
  decide
/-- Every word lies in the parameters. -/
theorem inbWord : ∀ (i : Fin 32) (a : Fin S32.rank), (![i.val] : Fin 1 → ℕ) a + S1.size a ≤ S32.size a := by
  decide

/-- The rectangle of slot `p` in a two-slot buffer. -/
abbrev slotR (p : Fin 2) : Rect S2x128x512 := Rect.unit (s := S2x128x512) ![p.val, 0, 0] S1x128x512.size (inbSlot p)
/-- The rectangle of a column half of a partial product. -/
abbrev loR (l : Fin 2) : Rect S128x1024 := Rect.unit (s := S128x1024) ![0, l.val * 512] S128x512.size (inbLo l)
/-- The columns of the right operand a direction uses. -/
abbrev halfR (d : Fin 2) : Rect S1024x2048 := Rect.unit (s := S1024x2048) ![0, d.val * 1024] S1024x1024.size (inbHalf d)

/-- Slot `p` of the buffer of stream `j`. -/
abbrev slot (j : Fin 4) (p : Fin 2) : Memref sig .tc .vmem S128x512 .bf16 :=
  ((bufM j).slice (slotR p) (fun _ => rfl)).squeeze S128x512 squeezes_S1x128x512_S128x512

/-- The one semaphore at place `p` of a pair. -/
abbrev semAt (s : DmaSems sig S2) (p : Fin 2) : DmaSem sig :=
  ((s.slice (Rect.unit (s := S2) ![p.val] S1.size (inbSem p))).squeeze S_ squeezes_S1_S_).sem

abbrev snd (j : Fin 4) (p : Fin 2) : DmaSem sig := semAt (sndA j) p
abbrev rcv (j : Fin 4) (p : Fin 2) : DmaSem sig := semAt (rcvA j) p
abbrev crd (j : Fin 4) : Sem sig := (crdA j).sem
/-- The barrier semaphore. -/
abbrev bar : Sem sig := (SemArray.scalar (sig.barrier 0 rfl) : Sems sig S_).sem

/-- A slot holds whole words. -/
theorem wordsR : ∀ p : Fin 2, (slotR p).WholeWords (EltTy.packing .bf16)
  | 0 => wordsbf16_S2x128x512_S1x128x512_0_0_0 | 1 => wordsbf16_S2x128x512_S1x128x512_1_0_0
/-- A slot's rows are packed. -/
theorem packedR : ∀ p : Fin 2, (slotR p).PackedRows (EltTy.packing .bf16)
  | 0 => packedbf16_S2x128x512_S1x128x512_0_0_0 | 1 => packedbf16_S2x128x512_S1x128x512_1_0_0

/-- A slot, as the copies see it, holds whole words. -/
theorem wordsSlot (j : Fin 4) (p : Fin 2) : (slot j p).view.WordExact :=
  ((bufM_whole j).wordExact_slice rfl _ (wordsR p)).reshape _ _

/-- The other slot. -/
def other : Fin 2 → Fin 2 | 0 => 1 | 1 => 0

/-- Wait until the transfer into (or out of) a slot is complete. -/
def waitK (s : DmaSem sig) (j : Fin 4) (p q : Fin 2) (k : Body F) : Body F :=
  .op (.waitDma2 s (slot j p) (slot j q) (wordsSlot j p) (wordsSlot j q)) fun _ => k

/-- Send slot `p` to slot `other p` of the device `d`. -/
def sendK (j : Fin 4) (p : Fin 2) (d : Dev nD) (k : Body F) : Body F :=
  .op (.enqueueDma (slot j p) (.remote (Dev.tc d) (slot j (other p)) (.dma (snd j p))) (.dma (rcv j (other p)))
    (wordsSlot j p) (wordsSlot j (other p)) ⟨⟨rfl, Or.inl rfl⟩, trivial⟩) fun _ => k

/-- What the addition of a hop leaves. -/
def accPay (x : Vec F S1x128x512 .bf16) (y : Vec F S128x512 .bf16) : FVec F S1x128x512 .bf16 :=
  shapeCast S1x128x512 (addf (shapeCast S128x512 x shapeCasts_S1x128x512_S128x512 : FVec F S128x512 .bf16) y) shapeCasts_S128x512_S1x128x512

/-- A slot may be stored into. -/
theorem storesSlot (j : Fin 4) (p : Fin 2) : ((bufM j).access (slotR p)).Stores Finset.univ :=
  View.stores_vmem h_S1x128x512 ((bufM_whole j).storeExact_slice rfl _ (packedR p)) (fun _ => rfl)

def accK (j : Fin 4) (p : Fin 2) (k : Body F) : Body F :=
  .op (.load (bufM j) (slotR p).toLoadRect (View.loadsAt_vmem h_S1x128x512)) fun (x : Vec F S1x128x512 .bf16) =>
  .op (.load (pcM (dirOf j)) (loR (loOf j)).toLoadRect (View.loadsAt_vmem h_S128x512)) fun (y : Vec F S128x512 .bf16) =>
  .op (.load (bufM j) (slotR p).toLoadRect (View.loadsAt_vmem h_S1x128x512)) fun (_ : Vec F S1x128x512 .bf16) =>
  .op (.store (bufM j) (slotR p) (accPay x y) Finset.univ (storesSlot j p) (.inl rfl)) fun _ => k

/-- Hop `h`'s tail and hop `h + 1`'s start, `p` the slot hop `h` was sent from. -/
def hopK (j : Fin 4) (p : Fin 2) (u d : Dev nD) (k : Body F) : Body F :=
  waitK (rcv j (other p)) j p (other p) <|
  accK j (other p) <|
  waitK (snd j p) j (other p) p <|
  .op (.semSignal (u, .tc) (crd j) (1#32).toInt) fun _ =>
  .op (.semWait (crd j) (1#32).toInt) fun _ =>
  sendK j (other p) d k

/-- What a product leaves: the partial product of a block of rows with a half of the columns. -/
def mmPay (x : Vec F S128x1024 .bf16) (y : Vec F S1024x1024 .bf16) : FVec F S128x1024 .bf16 :=
  shapeCast S128x1024 (truncf .bf16 (matmul dot_S128x1024_S1024x1024_S128x1024_1_0_0_1_n_n none x y
    (constant S128x1024 .f32 0x00000000#32) : FVec F S128x1024 .f32) bitsLt_bf16_f32 : FVec F S128x1024 .bf16)
    shapeCasts_S128x1024_S128x1024

abbrev pcR : Rect S128x1024 := Rect.unit (s := S128x1024) ![0, 0] S128x1024.size inb_S128x1024_S128x1024_0_0

/-- A partial product's buffer may be stored into. -/
theorem storesPc (d : Fin 2) : ((pcM d).access pcR).Stores Finset.univ :=
  View.stores_vmem h_S128x1024 ((pcM_whole d).storeExact_slice rfl _ packedbf16_S128x1024_S128x1024_0_0) (fun _ => rfl)

/-- The product into the buffer of direction `d`, of the rows at `off`. -/
def mmK (d : Fin 2) (off : Fin 2 → ℕ) (inb : ∀ a, off a + S128x1024.size a ≤ S2048x1024.size a) (k : Body F) : Body F :=
  .op (.load abM (Rect.unit (s := S2048x1024) off S128x1024.size inb).toLoadRect (View.loadsAt_vmem h_S128x1024)) fun (x : Vec F S128x1024 .bf16) =>
  .op (.load bbM (halfR d).toLoadRect (View.loadsAt_vmem h_S1024x1024)) fun (y : Vec F S1024x1024 .bf16) =>
  .op (.load (pcM d) pcR.toLoadRect (View.loadsAt_vmem h_S128x1024)) fun (_ : Vec F S128x1024 .bf16) =>
  .op (.store (pcM d) pcR (mmPay x y) Finset.univ (storesPc d) (.inl rfl)) fun _ => k

/-- The one place of a one-element vector. -/
abbrev ix0 : S1.Idx := Shape.Idx.first ((numel1_S1 : S1.numel = 1).symm ▸ Nat.one_pos)

/-- Read parameter word `i` and check it. -/
def wordK (i : Fin 32) (C : Vec F S1 .i32 → Prop) (dec : ∀ w, Decidable (C w)) (k : ∀ w, PLift (C w) → Body F) : Body F :=
  .op (.load prmM (Rect.unit (s := S32) ![i.val] S1.size (inbWord i)).toLoadRect (View.loadsAt_rect (View.loads_smem_one rfl numel1_S1)))
    fun (w : Vec F S1 .i32) => .op (TpuEff.assume (C w) (dec w)) fun h => k w h

/-- The load and store of one whole buffer into another. -/
def abK (k : Body F) : Body F :=
  .op (.load aM (Rect.unit (s := S2048x1024) ![0, 0] S2048x1024.size inb_S2048x1024_S2048x1024_0_0).toLoadRect (View.loadsAt_vmem h_S2048x1024)) fun (x : Vec F S2048x1024 .bf16) =>
  .op (.load abM (Rect.unit (s := S2048x1024) ![0, 0] S2048x1024.size inb_S2048x1024_S2048x1024_0_0).toLoadRect (View.loadsAt_vmem h_S2048x1024)) fun (_ : Vec F S2048x1024 .bf16) =>
  .op (.store abM (Rect.unit (s := S2048x1024) ![0, 0] S2048x1024.size inb_S2048x1024_S2048x1024_0_0)
    (shapeCast S2048x1024 (shapeCast S2048x1024 x shapeCasts_S2048x1024_S2048x1024 : FVec F S2048x1024 .bf16) shapeCasts_S2048x1024_S2048x1024 : FVec F S2048x1024 .bf16)
    Finset.univ (View.stores_vmem h_S2048x1024 ((Memref.isWhole_whole _).storeExact_slice rfl _ packedbf16_S2048x1024_S2048x1024_0_0) (fun _ => rfl)) (.inl rfl)) fun _ => k

def bbK (k : Body F) : Body F :=
  .op (.load bM (Rect.unit (s := S1024x2048) ![0, 0] S1024x2048.size inb_S1024x2048_S1024x2048_0_0).toLoadRect (View.loadsAt_vmem h_S1024x2048)) fun (x : Vec F S1024x2048 .bf16) =>
  .op (.load bbM (Rect.unit (s := S1024x2048) ![0, 0] S1024x2048.size inb_S1024x2048_S1024x2048_0_0).toLoadRect (View.loadsAt_vmem h_S1024x2048)) fun (_ : Vec F S1024x2048 .bf16) =>
  .op (.store bbM (Rect.unit (s := S1024x2048) ![0, 0] S1024x2048.size inb_S1024x2048_S1024x2048_0_0)
    (shapeCast S1024x2048 (shapeCast S1024x2048 x shapeCasts_S1024x2048_S1024x2048 : FVec F S1024x2048 .bf16) shapeCasts_S1024x2048_S1024x2048 : FVec F S1024x2048 .bf16)
    Finset.univ (View.stores_vmem h_S1024x2048 ((Memref.isWhole_whole _).storeExact_slice rfl _ packedbf16_S1024x2048_S1024x2048_0_0) (fun _ => rfl)) (.inl rfl)) fun _ => k

/-- The barrier with the two neighbours. -/
def barK (d u : Dev nD) (k : Body F) : Body F :=
  .op (.semSignal (d, .tc) bar (1#32).toInt) fun _ =>
  .op (.semSignal (u, .tc) bar (1#32).toInt) fun _ =>
  .op (.semWait bar (2#32).toInt) fun _ => k

/-- The first partial product's half put into slot 0. -/
def initK (j : Fin 4) (k : Body F) : Body F :=
  .op (.load (pcM (dirOf j)) (loR (loOf j)).toLoadRect (View.loadsAt_vmem h_S128x512)) fun (y : Vec F S128x512 .bf16) =>
  .op (.load (bufM j) (slotR 0).toLoadRect (View.loadsAt_vmem h_S1x128x512)) fun (_ : Vec F S1x128x512 .bf16) =>
  .op (.store (bufM j) (slotR 0) (shapeCast S1x128x512 y shapeCasts_S128x512_S1x128x512 : FVec F S1x128x512 .bf16) Finset.univ (storesSlot j 0) (.inl rfl)) fun _ => k

/-- A stream's columns lie in the result. -/
theorem inbOut : ∀ (j : Fin 4) (a : Fin S128x2048.rank), (![0, (dirOf j).val * 1024 + (loOf j).val * 512] : Fin 2 → ℕ) a + S128x512.size a ≤ S128x2048.size a := by
  decide
/-- The columns of the result stream `j` fills. -/
abbrev outR (j : Fin 4) : Rect S128x2048 := Rect.unit (s := S128x2048) ![0, (dirOf j).val * 1024 + (loOf j).val * 512] S128x512.size (inbOut j)

/-- What the last hop leaves in the result. -/
def outPay (x : Vec F S1x128x512 .bf16) (y : Vec F S128x512 .bf16) : FVec F S128x512 .f32 :=
  extf .f32 (addf (shapeCast S128x512 x shapeCasts_S1x128x512_S128x512 : FVec F S128x512 .bf16) y) bitsLt_bf16_f32

/-- The last hop of stream `j`. -/
def lastK (j : Fin 4) (k : Body F) : Body F :=
  waitK (rcv j 1) j 0 1 <|
  .op (.load (bufM j) (slotR 1).toLoadRect (View.loadsAt_vmem h_S1x128x512)) fun (x : Vec F S1x128x512 .bf16) =>
  .op (.load (pcM (dirOf j)) (loR (loOf j)).toLoadRect (View.loadsAt_vmem h_S128x512)) fun (y : Vec F S128x512 .bf16) =>
  .op (.load oM (outR j).toLoadRect (View.loadsAt_vmem h_S128x512)) fun (_ : Vec F S128x512 .f32) =>
  .op (.store oM (outR j) (outPay x y) Finset.univ (View.stores_vmem_bits_univ h_S128x512 rfl) (.inl rfl)) fun _ => k

end Cert.KernelIdeal.RS
-- ==== Proof.Proto.lean ====
module

public import proofs.«01_k».proof.Proof.Ops
public import proofs.«01_k».proof.Proof.Gen.KernelIdeal.Regions
public import Idealize.ShloMosaic.Lib.Pipeline.Kit
public import Idealize.ShloMosaic.Lib.Rounds
public import Idealize.ShloMosaic.Lib.Tactic

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ring -/

/-- The device after each device on the ring. -/
def succT : Fin 16 → Fin 16 := ![1, 5, 3, 7, 0, 9, 2, 11, 4, 13, 6, 15, 8, 14, 10, 12]
/-- The device before each device on the ring. -/
def predT : Fin 16 → Fin 16 := ![4, 0, 6, 2, 8, 1, 10, 3, 12, 5, 14, 7, 15, 9, 13, 11]

/-- The neighbour of a device in a direction. -/
def nb : Fin 2 → Dev nD → Dev nD
  | 0 => succT | 1 => predT

/-- A neighbour's neighbour the other way is the device. -/
theorem nb_other : ∀ (d : Fin 2) (c : Dev nD), nb (other d) (nb d c) = c := by decide
/-- The same the other way round. -/
theorem nb_nb_other : ∀ (d : Fin 2) (c : Dev nD), nb d (nb (other d) c) = c := by decide
/-- The other of the other direction is the direction. -/
theorem other_other : ∀ d : Fin 2, other (other d) = d := by decide

/-- Where stream `j` sends to from a device. -/
abbrev dstOf (j : Fin 4) (c : Dev nD) : Dev nD := nb (dirOf j) c
/-- Where stream `j` receives from at a device. -/
abbrev upsOf (j : Fin 4) (c : Dev nD) : Dev nD := nb (other (dirOf j)) c
/-- A stream's receiver has the device upstream. -/
theorem ups_dst (j : Fin 4) (c : Dev nD) : upsOf j (dstOf j c) = c := nb_other _ c
/-- A stream's sender has the device downstream. -/
theorem dst_ups (j : Fin 4) (c : Dev nD) : dstOf j (upsOf j c) = c := nb_nb_other _ c

/-- The two streams of a direction. -/
def jOf : Fin 2 → Fin 2 → Fin 4
  | 0, 0 => 0 | 0, 1 => 2 | 1, 0 => 1 | 1, 1 => 3

/-- The slot hop `h` is sent from. -/
def par (h : ℕ) : Fin 2 := if h % 2 = 0 then 0 else 1
/-- The next hop uses the other slot. -/
theorem par_succ (h : ℕ) : par (h + 1) = other (par h) := by
  unfold par
  rcases Nat.mod_two_eq_zero_or_one h with e | e
  · rw [if_neg (by omega), if_pos e]; rfl
  · rw [if_pos (by omega), if_neg (by omega)]; rfl
/-- The hop after the next uses the same slot. -/
theorem par_add_two (h : ℕ) : par (h + 2) = par h := by
  unfold par; rw [Nat.add_mod_right]
/-- The slot's number is the hop's remainder by two. -/
theorem par_val (h : ℕ) : (par h).val = h % 2 := by
  unfold par; split <;> rename_i e
  · rw [e]; rfl
  · show 1 = h % 2; omega

/-! ## The cells -/

/-- The semaphores the devices talk over. -/
inductive Kd | bar | crd (j : Fin 4) | snd (j : Fin 4) (p : Fin 2) | rcv (j : Fin 4) (p : Fin 2)
  deriving DecidableEq

/-- The semaphore of each kind. -/
def locOf : Kd → SemLoc sig
  | .bar => .reg bar | .crd j => .reg (crd j) | .snd j p => .dma (snd j p) | .rcv j p => .dma (rcv j p)

/-- The kind of a semaphore, if it is one of these. -/
def kindOf : SemLoc sig → Option Kd
  | .reg i => if i.val = 4 then some .bar else if i.val < 4 then some (.crd (Fin.ofNat 4 i.val)) else none
  | .dma i => if i.val < 4 then none else
      if ((i.val - 4) / 2) % 2 = 0 then some (.snd (Fin.ofNat 4 ((i.val - 4) / 4)) (Fin.ofNat 2 i.val))
      else some (.rcv (Fin.ofNat 4 ((i.val - 4) / 4)) (Fin.ofNat 2 i.val))

set_option maxRecDepth 4096 in
/-- A cell's kind is read back from its place. -/
theorem kindOf_locOf (k : Kd) : kindOf (locOf k) = some k := by
  cases k with
  | bar => decide
  | crd j => revert j; decide
  | snd j p => revert j p; decide
  | rcv j p => revert j p; decide

/-- Different kinds have different places. -/
theorem locOf_inj : Function.Injective locOf := fun a b h => by
  have := congrArg kindOf h; rw [kindOf_locOf, kindOf_locOf] at this; exact Option.some.inj this

/-- The cell of a kind on a device. -/
abbrev cellOf (c : Dev nD) (k : Kd) : GSem nD τ sig := ((c : Thread nD τ), locOf k)
abbrev barCell (c : Dev nD) : GSem nD τ sig := cellOf c .bar
abbrev crdCell (c : Dev nD) (j : Fin 4) : GSem nD τ sig := cellOf c (.crd j)
abbrev sndCell (c : Dev nD) (j : Fin 4) (p : Fin 2) : GSem nD τ sig := cellOf c (.snd j p)
abbrev rcvCell (c : Dev nD) (j : Fin 4) (p : Fin 2) : GSem nD τ sig := cellOf c (.rcv j p)

/-- A cell names its device and its kind. -/
theorem cellOf_inj {c c' : Dev nD} {k k' : Kd} (h : cellOf c k = cellOf c' k') : c = c' ∧ k = k' :=
  ⟨congrArg (fun g : GSem nD τ sig => g.1.1) h, locOf_inj (congrArg (fun g : GSem nD τ sig => g.2) h)⟩

/-! ## The resources -/

abbrev UU : Type := UR sig nD τ × Rounds.URounds (GSem nD τ sig) (Fin 2)

local notation "𝕄" => MT nD τ sig ℕ (Elt F) ℕ UU ℕ

abbrev EP : Emb (UR sig nD τ) (MT nD τ sig ℕ (Elt F) ℕ UU ℕ) := embL
abbrev ER : Emb (Rounds.URounds (GSem nD τ sig) (Fin 2)) (MT nD τ sig ℕ (Elt F) ℕ UU ℕ) := embR

/-- What one transfer of a slot adds to a semaphore. -/
abbrev N : ℕ := (slot 0 0).view.dmaCredit
/-- A copy credits at least one unit. -/
theorem N_pos : 0 < N := View.dmaCredit_pos _ (by decide)
/-- Every slot's copy credits the same. -/
theorem credit_eq (j : Fin 4) (p : Fin 2) : (slot j p).view.dmaCredit = N := by
  fin_cases j <;> fin_cases p <;> rfl

/-- A slot of a device, at the contents `f` of its buffer. -/
abbrev slotPts (c : Dev nD) (j : Fin 4) (p : Fin 2) (f : Buf (Elt F) ((slot j p).view.loc (c : Thread nD τ))) : sProp 𝕄 :=
  (slot j p).view.loc (c : Thread nD τ) ↦[(slot j p).view.set]{fullShare} f
/-- A slot of a device, at contents not named. -/
def slotAny (c : Dev nD) (j : Fin 4) (p : Fin 2) : sProp 𝕄 := iprop(∃ f, slotPts (F := F) c j p f)
/-- A slot of a device holding the block `v`. -/
def slotHas (c : Dev nD) (j : Fin 4) (p : Fin 2) (v : Vec F S128x512 .bf16) : sProp 𝕄 :=
  iprop(∃ f : Buf (Elt F) ((slot j p).view.loc (c : Thread nD τ)), ⌜(slot j p).view.read (Elt F) f = v⌝ ∗ slotPts (F := F) c j p f)

/-! ## The schedule -/

/-- What every stream's hops carry: stream, hop, sending device. -/
abbrev Cont (F : FTy → Type) [FloatOps F] := Fin 4 → ℕ → Dev nD → Vec F S128x512 .bf16

variable (cont : Cont F)

/-- Paid to the barrier of `x` by its neighbour in direction `d`: the neighbour's receiving slots of the streams in that direction. -/
def barPay (x : Dev nD) (d : Fin 2) : sProp 𝕄 :=
  iprop((slotAny (F := F) (nb d x) (jOf d 0) 1 ∗ reached ER (rcvCell (nb d x) (jOf d 0) 1) 0)
    ∗ (slotAny (F := F) (nb d x) (jOf d 1) 1 ∗ reached ER (rcvCell (nb d x) (jOf d 1) 1) 0))
/-- Paid by hop `h` arriving at `x`. -/
def rcvPay (x : Dev nD) (j : Fin 4) (h : ℕ) (p : Fin 2) : sProp 𝕄 :=
  iprop(slotHas x j p (cont j h (upsOf j x)) ∗ reached ER (crdCell (upsOf j x) j) h)
/-- Paid to the credit cell of `x` by the device it sends to: the slot hop `h + 1` is to arrive in. -/
def crdPay (x : Dev nD) (j : Fin 4) (h : ℕ) : sProp 𝕄 :=
  iprop(slotAny (F := F) (dstOf j x) j (par h) ∗ reached ER (rcvCell (dstOf j x) j (par h)) ((h + 1) / 2))

/-- Who pays each round. -/
def dutiesK : Kd → ℕ → Finset (Fin 2)
  | .bar, r => if r = 0 then Finset.univ else ∅
  | .crd _, r => if r < 14 then {0} else ∅
  | .snd _ p, r => if 2 * r + p.val ≤ 14 then {0} else ∅
  | .rcv _ p, r => if 2 * r + 1 - p.val ≤ 14 then {0} else ∅

/-- How much each payment is. -/
def amtK : Kd → ℕ
  | .bar => 1 | .crd _ => 1 | .snd _ _ => N | .rcv _ _ => N

/-- Every payment is of at least one unit. -/
theorem amtK_pos : ∀ k, 0 < amtK k
  | .bar => Nat.one_pos | .crd _ => Nat.one_pos | .snd _ _ => N_pos | .rcv _ _ => N_pos

/-- What each payment hands over. -/
def payK (x : Dev nD) : Kd → ℕ → Fin 2 → sProp 𝕄
  | .bar, _, d => barPay x d
  | .crd j, r, _ => crdPay x j r
  | .snd j p, _, _ => slotAny x j p
  | .rcv j p, r, _ => rcvPay cont x j (2 * r + 1 - p.val) p

/-- The rounds of every cell. -/
def talk : Rounds.Schedule (GSem nD τ sig) (Fin 2) 𝕄 where
  duties g r := if g.1.2 = .tc then (kindOf g.2).elim ∅ (fun k => dutiesK k r) else ∅
  unitless _ := False
  amount g _ _ := (kindOf g.2).elim 1 amtK
  payload g r d := match kindOf g.2 with | none => iprop(emp) | some k => payK cont g.1.1 k r d
  amount_pos g _ _ _ := by
    cases kindOf g.2 with
    | none => exact Nat.one_pos
    | some k => exact amtK_pos k

instance slotAny_storable (c : Dev nD) (j : Fin 4) (p : Fin 2) : BI.Storable (upEmb : UEmb _ 𝕄) (slotAny (F := F) c j p) := by
  unfold slotAny; infer_instance
instance slotHas_storable (c : Dev nD) (j : Fin 4) (p : Fin 2) (v) : BI.Storable (upEmb : UEmb _ 𝕄) (slotHas (F := F) c j p v) := by
  unfold slotHas; infer_instance
instance payK_storable (x : Dev nD) (k : Kd) (r : ℕ) (d : Fin 2) : BI.Storable (upEmb : UEmb _ 𝕄) (payK cont x k r d) := by
  cases k <;> unfold payK
  · unfold barPay; infer_instance
  · unfold crdPay; infer_instance
  · infer_instance
  · unfold rcvPay; infer_instance
instance talk_storable (g : GSem nD τ sig) (r : ℕ) (d : Fin 2) : BI.Storable (upEmb : UEmb _ 𝕄) ((talk cont).payload g r d) := by
  show BI.Storable upEmb (match kindOf g.2 with | none => iprop(emp) | some k => payK cont g.1.1 k r d)
  split <;> infer_instance

/-- The schedule's duties at a cell. -/
theorem duties_cell (c : Dev nD) (k : Kd) (r : ℕ) : (talk cont).duties (cellOf c k) r = dutiesK k r := by
  dsimp only [talk]; rw [kindOf_locOf]; exact if_pos rfl
/-- The schedule's amounts at a cell. -/
theorem amount_cell (c : Dev nD) (k : Kd) (r : ℕ) (d : Fin 2) : (talk cont).amount (cellOf c k) r d = amtK k := by
  dsimp only [talk]; rw [kindOf_locOf]; rfl
/-- The schedule's payloads at a cell. -/
theorem payload_cell (c : Dev nD) (k : Kd) (r : ℕ) (d : Fin 2) : (talk cont).payload (cellOf c k) r d = payK cont c k r d := by
  dsimp only [talk]; rw [kindOf_locOf]
/-- What a round of a cell adds up to. -/
theorem expect_cell (c : Dev nD) (k : Kd) (r : ℕ) : (talk cont).expect (cellOf c k) r = (dutiesK k r).card * amtK k := by
  unfold Schedule.expect Schedule.amountOf
  rw [duties_cell, Finset.sum_congr rfl (fun d _ => amount_cell cont c k r d), Finset.sum_const, smul_eq_mul]

/-- The round's one payment, where there is just one. -/
theorem expect_one {c : Dev nD} {k : Kd} {r : ℕ} (h : dutiesK k r = {0}) : (talk cont).expect (cellOf c k) r = amtK k := by
  rw [expect_cell, h, Finset.card_singleton, Nat.one_mul]
/-- A round with one duty hands over that duty's payload. -/
theorem rest_one {c : Dev nD} {k : Kd} {r : ℕ} (h : dutiesK k r = {0}) :
    bigSep ((talk cont).duties (cellOf c k) r \ ∅) (fun u => (talk cont).payload (cellOf c k) r u) = payK cont c k r 0 := by
  rw [Finset.sdiff_empty, duties_cell, h, bigSep_singleton, payload_cell]
/-- The one duty of a round is among its duties. -/
theorem mem_one {c : Dev nD} {k : Kd} {r : ℕ} (h : dutiesK k r = {0}) : (0 : Fin 2) ∈ (talk cont).duties (cellOf c k) r := by
  rw [duties_cell, h]; exact Finset.mem_singleton_self _

/-- The credit of each of the first fourteen hops has one duty. -/
theorem duties_crd (j : Fin 4) {h : ℕ} (hh : h < 14) : dutiesK (.crd j) h = {0} := if_pos hh
/-- The end of each send has one duty. -/
theorem duties_snd (j : Fin 4) {h : ℕ} (hh : h ≤ 14) : dutiesK (.snd j (par h)) (h / 2) = {0} :=
  if_pos (by rw [par_val]; omega)
/-- A landing's hop, from its slot and its round. -/
theorem hop_rcv (h : ℕ) : 2 * (h / 2) + 1 - (par (h + 1)).val = h := by rw [par_val]; omega
/-- Each landing has one duty. -/
theorem duties_rcv (j : Fin 4) {h : ℕ} (hh : h ≤ 14) : dutiesK (.rcv j (par (h + 1))) (h / 2) = {0} :=
  if_pos (by rw [hop_rcv]; exact hh)
/-- What a landing hands over, by its hop. -/
theorem pay_rcv (x : Dev nD) (j : Fin 4) (h : ℕ) :
    payK cont x (.rcv j (par (h + 1))) (h / 2) 0 = rcvPay cont x j h (par (h + 1)) := by
  show rcvPay cont x j (2 * (h / 2) + 1 - (par (h + 1)).val) _ = _
  rw [hop_rcv]

/-- The number of rounds of each cell. -/
def lastR : Kd → ℕ
  | .bar => 1 | .crd _ => 14 | .snd _ p => if p = 0 then 8 else 7 | .rcv _ p => if p = 0 then 7 else 8
/-- After a cell's last round nothing is due on it. -/
theorem duties_done (c : Dev nD) (k : Kd) : ∀ r, lastR k ≤ r → (talk cont).duties (cellOf c k) r = ∅ := by
  intro r hr
  rw [duties_cell]
  cases k with
  | bar => exact if_neg (Nat.ne_of_gt hr)
  | crd j => exact if_neg (Nat.not_lt.mpr hr)
  | snd j p => refine if_neg ?_; revert hr; unfold lastR; fin_cases p <;> simp <;> omega
  | rcv j p => refine if_neg ?_; revert hr; unfold lastR; fin_cases p <;> simp <;> omega

/-! ## Levels, and what is owed -/

/-- A core's cells have the indices below 200, ranked by themselves. -/
def L (g : GSem nD τ sig) : Finset ℕ := if g.1.2 = .tc then Finset.range 200 else ∅
def lv (_ : GSem nD τ sig) (ι : ℕ) : ℕ := ι

/-- The index of hop `h` arriving, and of the credit for hop `h + 1`. -/
def rix (h : ℕ) (j : Fin 4) : ℕ := 3 + 2 * (4 * h + j.val)
def cix (h : ℕ) (j : Fin 4) : ℕ := 4 + 2 * (4 * h + j.val)

abbrev Owe := CellTallies nD τ sig ℕ

/-- Hop `h` owed to the device stream `j` sends to. -/
abbrev rT (c : Dev nD) (j : Fin 4) (h : ℕ) : Owe := tallyAt (rcvCell (dstOf j c) j (par (h + 1))) (rix h j) N
/-- The credit for hop `h + 1` owed to the device stream `j` receives from. -/
abbrev cT (c : Dev nD) (j : Fin 4) (h : ℕ) : Owe := tallyAt (crdCell (upsOf j c) j) (cix h j) 1
/-- The signal owed to the neighbour's barrier. -/
abbrev bT (c : Dev nD) (d : Fin 2) : Owe := tallyAt (barCell (nb d c)) 1 1

/-- The stream of a step. -/
def sj (i : ℕ) : Fin 4 := Fin.ofNat 4 i
/-- The stream of a step. -/
theorem sj_val (i : ℕ) : (sj i).val = i % 4 := rfl
/-- What step `i` pays. -/
def sT (c : Dev nD) (i : ℕ) : Owe := rT c (sj i) (i / 4 + 1) + cT c (sj i) (i / 4)
/-- What is owed from step `n` on. -/
def ow (c : Dev nD) (n : ℕ) : Owe := ∑ i ∈ Finset.Ico n 56, sT c i
/-- The first of a range of steps is taken out. -/
theorem ico_first {n k : ℕ} (h : n < k) : Finset.Ico n k = insert n (Finset.Ico (n + 1) k) := by
  ext i; simp only [Finset.mem_Ico, Finset.mem_insert]; omega
/-- The first step is not among the later ones. -/
theorem first_not_mem (n k : ℕ) : n ∉ Finset.Ico (n + 1) k := by simp
/-- What is owed before a step is what is owed after it, and the step's. -/
theorem ow_succ (c : Dev nD) {n : ℕ} (hn : n < 56) : ow c n = ow c (n + 1) + sT c n := by
  unfold ow; rw [ico_first hn, Finset.sum_insert (first_not_mem _ _), add_comm]
/-- After the last step nothing is owed. -/
theorem ow_end (c : Dev nD) : ow c 56 = 0 := by unfold ow; rw [Finset.Ico_self]; rfl

/-- Everything owed is at an index over `n`. -/
def Above (n : ℕ) (O : Owe) : Prop := ∀ g ι, 0 < O g ι → g.1.2 = .tc ∧ n < ι ∧ ι < 200

/-- Two debts above a level are together above it. -/
theorem Above.add {n : ℕ} {O O' : Owe} (h : Above n O) (h' : Above n O') : Above n (O + O') := fun g ι hg => by
  rcases Nat.eq_zero_or_pos (O g ι) with e | e
  · exact h' g ι (by rw [show (O + O') g ι = O g ι + O' g ι from rfl, e, Nat.zero_add] at hg; exact hg)
  · exact h g ι e
/-- No debt is above every level. -/
theorem above_zero (n : ℕ) : Above n 0 := fun _ _ h => absurd h (lt_irrefl 0)
/-- One payment is above every smaller level. -/
theorem above_tally {n : ℕ} (x : Dev nD) (k : Kd) {ι : ℕ} (v : ℕ) (h : n < ι) (h' : ι < 200) : Above n (tallyAt (cellOf x k) ι v) :=
  fun g ι' hg => by
    rw [tallyAt_apply] at hg
    split at hg
    · rename_i e; rw [e.1, e.2]; exact ⟨rfl, h, h'⟩
    · exact absurd hg (lt_irrefl 0)
/-- A sum of debts above a level is above it. -/
theorem above_sum {n : ℕ} (S : Finset ℕ) (f : ℕ → Owe) (h : ∀ i ∈ S, Above n (f i)) : Above n (∑ i ∈ S, f i) := by
  induction S using Finset.induction_on with
  | empty => exact above_zero n
  | insert a S ha ih =>
    rw [Finset.sum_insert ha]
    exact (h a (Finset.mem_insert_self _ _)).add (ih fun i hi => h i (Finset.mem_insert_of_mem hi))
/-- What a step owes is above the levels before it. -/
theorem above_sT {n i : ℕ} (c : Dev nD) (h : n < 4 + 2 * i) (hi : i < 56) : Above n (sT c i) := by
  have e := Nat.div_add_mod i 4
  have e' := sj_val i
  exact (above_tally _ _ _ (by unfold rix; omega) (by unfold rix; omega)).add
    (above_tally _ _ _ (by unfold cix; omega) (by unfold cix; omega))
/-- What is owed from step `n` on is over `3 + 2 n`. -/
theorem above_ow {n i : ℕ} (c : Dev nD) (h : n < 4 + 2 * i) : Above n (ow c i) :=
  above_sum _ _ fun k hk => above_sT c (by have := (Finset.mem_Ico.mp hk).1; omega) (Finset.mem_Ico.mp hk).2

/-- A wait at an index under everything owed is allowed. -/
theorem mayWait (c : Dev nD) (sm : SemLoc sig) {ι : ℕ} {O : Owe} (h : Above ι O) (hι : ι < 200) :
    (levAts L lv : sProp 𝕄) ⊢ MayWait (c : Thread nD τ) sm ι O := by
  refine MayOwe.of_cut (L := L) (lev := lv) ι ?_ ?_ ?_ ?_
  · intro p hp
    rw [Finset.mem_singleton.mp hp]
    show ι ∈ (if _ then _ else _)
    rw [if_pos rfl]; exact Finset.mem_range.mpr hι
  · intro g i hg
    show i ∈ (if _ then _ else _)
    rw [if_pos (h g i hg).1]; exact Finset.mem_range.mpr (h g i hg).2.2
  · intro p hp; rw [Finset.mem_singleton.mp hp]; exact le_refl _
  · intro g i hg; exact (h g i hg).2.1

end Cert.KernelIdeal.RS
-- ==== Proof.Steps.lean ====
module

public import proofs.«01_k».proof.Proof.Proto
public import Idealize.ShloMosaic.Lib.Pipeline.Value

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

abbrev 𝒱₀ : Variants := Variants.none

/-- The weakest precondition of a program of the body on device `c`. -/
abbrev WP (c : Dev nD) (p : Body F) (Φ : PUnit → sProp 𝕄) : sProp 𝕄 :=
  wp frame (wpE (defs₀ (F := F)) 𝒱₀ (c : Thread nD τ) none) Set.univ p Φ

variable (cont : Cont F)

/-- Every cell's invariant. -/
def invs (K : GSem nD τ sig → ℕ) : sProp 𝕄 :=
  iprop(∀ x : Dev nD, ∀ k : Kd, cellInv ER (talk cont) (K (cellOf x k)) (cellOf x k))
instance invs_persistent (K : GSem nD τ sig → ℕ) : BI.Persistent (invs cont K : sProp 𝕄) := by
  unfold invs; infer_instance
/-- One cell's invariant out of all of them. -/
theorem inv_at (K : GSem nD τ sig → ℕ) (x : Dev nD) (k : Kd) :
    (invs cont K : sProp 𝕄) ⊢ cellInv ER (talk cont) (K (cellOf x k)) (cellOf x k) := by
  unfold invs
  exact (forall_elim x).trans (forall_elim k)

/-- What holds throughout: every cell's invariant and the levels. -/
def ctx (K : GSem nD τ sig → ℕ) : sProp 𝕄 := iprop(invs cont K ∗ levAts L lv)
instance ctx_persistent (K : GSem nD τ sig → ℕ) : BI.Persistent (ctx cont K : sProp 𝕄) := by
  unfold ctx; infer_instance
/-- One cell's invariant out of the context. -/
theorem ctx_inv (K : GSem nD τ sig → ℕ) (x : Dev nD) (k : Kd) :
    (ctx cont K : sProp 𝕄) ⊢ cellInv ER (talk cont) (K (cellOf x k)) (cellOf x k) := by
  unfold ctx; iintro ⟨H, -⟩; iapply (inv_at cont K x k); iexact H
/-- A wait below all that is owed is allowed. -/
theorem ctx_may (K : GSem nD τ sig → ℕ) (c : Dev nD) (sm : SemLoc sig) {ι : ℕ} {O : Owe} (h : Above ι O) (hι : ι < 200) :
    (ctx cont K : sProp 𝕄) ⊢ MayWait (c : Thread nD τ) sm ι O := by
  unfold ctx; iintro ⟨-, H⟩; iapply (mayWait c sm h hι); iexact H

/-! ## Transfers and credits -/

/-- What is owed, whatever has been waited for. -/
def owe (c : Dev nD) (O : Owe) : sProp 𝕄 := iprop(∃ W, owes (c : Thread nD τ) O W)

/-- A wait for a cell's round of one payment, over a semaphore operation that waits for that much. -/
theorem wp_one (K : GSem nD τ sig → ℕ) (c : Dev nD) (k : Kd) (r ι : ℕ) {O : Owe} (hd : dutiesK k r = {0}) (ha : Above ι O) (hι : ι < 200)
    {w : TpuEff nD τ sig (Elt F) Λ₀ .tc PUnit} {n : ℕ} (hn : n = amtK k)
    (hw : ∀ Q : PUnit → sProp 𝕄, wpE (defs₀ (F := F)) 𝒱₀ (c : Thread nD τ) none Set.univ w Q = waitSpec (c : Thread nD τ) Set.univ (locOf k) n Q)
    (p : Body F) (Φ : PUnit → sProp 𝕄) :
    iprop(ctx cont K ∗ cred (tallyAt (cellOf c k) ι n) ∗ owe c O ∗ atPos ER (cellOf c k) r ∅ 0)
      ⊢ iprop(((owe c O ∗ atPos ER (cellOf c k) (r + 1) ∅ 0 ∗ reached ER (cellOf c k) (r + 1) ∗ payK cont c k r 0) -∗ WP c p Φ)
        -∗ WP c (.op w fun _ => p) Φ) := by
  unfold owe
  iintro ⟨#Hc, Hcr, ⟨%W, HO⟩, Hat⟩ Hk
  iapply (Rounds.wp_wait_rest_token 𝒱₀ ER (talk cont) (c : Thread nD τ) none (κ := K (cellOf c k)) (sm := locOf k) (k' := n)
      hw (Set.mem_univ _) ι (O := O) (W := W) (R := r) (m := 0) (T := ∅)
      (by rw [Nat.zero_add, hn]; exact (expect_one cont hd).symm)) $$ [Hcr HO Hat]
  · isplitr; · iapply (ctx_inv cont K c k); iexact Hc
    isplitl [Hcr]; · iexact Hcr
    isplitl [HO]; · iexact HO
    isplitr; · iapply (ctx_may cont K c (locOf k) ha hι); iexact Hc
    iexact Hat
  iintro ⟨HO, Hat, Hr, Hpay⟩
  ihave Hp := (Entails.of_eq (rest_one cont hd)) $$ Hpay
  iapply Hk
  isplitl [HO]; · iexists _; iexact HO
  isplitl [Hat]; · iexact Hat
  isplitl [Hr]; · iexact Hr
  iexact Hp

/-- The wait for hop `h` of stream `j` to arrive. -/
theorem wp_waitRcv (K : GSem nD τ sig → ℕ) (c : Dev nD) (j : Fin 4) {h : ℕ} (hh : h ≤ 14) {O : Owe} (ha : Above (rix h j) O)
    (p q : Fin 2) (k : Body F) (Φ : PUnit → sProp 𝕄) :
    iprop(ctx cont K ∗ cred (tallyAt (rcvCell c j (par (h + 1))) (rix h j) N) ∗ owe c O ∗ atPos ER (rcvCell c j (par (h + 1))) (h / 2) ∅ 0)
      ⊢ iprop(((owe c O ∗ atPos ER (rcvCell c j (par (h + 1))) (h / 2 + 1) ∅ 0 ∗ reached ER (rcvCell c j (par (h + 1))) (h / 2 + 1)
            ∗ slotHas c j (par (h + 1)) (cont j h (upsOf j c)) ∗ reached ER (crdCell (upsOf j c) j) h) -∗ WP c k Φ)
        -∗ WP c (waitK (rcv j (par (h + 1))) j p q k) Φ) := by
  have e := wp_one cont K c (.rcv j (par (h + 1))) (h / 2) (rix h j) (duties_rcv j hh) ha (by unfold rix; omega) (n := N) rfl
    (w := .waitDma2 (rcv j (par (h + 1))) (slot j p) (slot j q) (wordsSlot j p) (wordsSlot j q))
    (fun Q => by rw [wpE_waitDma2_eq, credit_eq]; rfl) k Φ
  rw [pay_rcv] at e
  exact e

/-- The wait for the sending of hop `h` of stream `j` to be done. -/
theorem wp_waitSnd (K : GSem nD τ sig → ℕ) (c : Dev nD) (j : Fin 4) {h : ℕ} (hh : h ≤ 14) {O : Owe} (ha : Above 0 O)
    (p q : Fin 2) (k : Body F) (Φ : PUnit → sProp 𝕄) :
    iprop(ctx cont K ∗ cred (tallyAt (sndCell c j (par h)) 0 N) ∗ owe c O ∗ atPos ER (sndCell c j (par h)) (h / 2) ∅ 0)
      ⊢ iprop(((owe c O ∗ atPos ER (sndCell c j (par h)) (h / 2 + 1) ∅ 0 ∗ reached ER (sndCell c j (par h)) (h / 2 + 1)
            ∗ slotAny c j (par h)) -∗ WP c k Φ)
        -∗ WP c (waitK (snd j (par h)) j p q k) Φ) :=
  wp_one cont K c (.snd j (par h)) (h / 2) 0 (duties_snd j hh) ha (by omega) (n := N) rfl
    (w := .waitDma2 (snd j (par h)) (slot j p) (slot j q) (wordsSlot j p) (wordsSlot j q))
    (fun Q => by rw [wpE_waitDma2_eq, credit_eq]; rfl) k Φ

/-- The wait for the credit for hop `h + 1` of stream `j`. -/
theorem wp_waitCrd (K : GSem nD τ sig → ℕ) (c : Dev nD) (j : Fin 4) {h : ℕ} (hh : h < 14) {O : Owe} (ha : Above (cix h j) O)
    (k : Body F) (Φ : PUnit → sProp 𝕄) :
    iprop(ctx cont K ∗ cred (tallyAt (crdCell c j) (cix h j) 1) ∗ owe c O ∗ atPos ER (crdCell c j) h ∅ 0)
      ⊢ iprop(((owe c O ∗ atPos ER (crdCell c j) (h + 1) ∅ 0 ∗ reached ER (crdCell c j) (h + 1) ∗ crdPay c j h) -∗ WP c k Φ)
        -∗ WP c (.op (.semWait (crd j) (1#32).toInt) fun _ => k) Φ) :=
  wp_one cont K c (.crd j) h (cix h j) (duties_crd j hh) ha (by unfold cix; omega) (n := 1) rfl (w := .semWait (crd j) (1#32).toInt)
    (fun Q => rfl) k Φ

/-- What is handed over with the credit. -/
theorem crdPay_to (c : Dev nD) (j : Fin 4) (h : ℕ) :
    (iprop(slotAny c j (par h) ∗ reached ER (rcvCell c j (par h)) ((h + 1) / 2)) : sProp 𝕄)
      ⊢ (talk cont).payload ((upsOf j c : Thread nD τ), .reg (crd j)) h 0 := by
  refine BIBase.Entails.trans ?_ (Entails.of_eq (payload_cell cont (upsOf j c) (.crd j) h 0).symm)
  show _ ⊢ crdPay (upsOf j c) j h
  unfold crdPay
  rw [dst_ups]

/-- The credit for hop `h + 1` of stream `j` given to the device it comes from. -/
theorem wp_giveCrd (K : GSem nD τ sig → ℕ) (c : Dev nD) (j : Fin 4) {h : ℕ} (hh : h < 14) {O₀ O : Owe} (hO : O₀ = O + cT c j h)
    (k : Body F) (Φ : PUnit → sProp 𝕄) :
    iprop(ctx cont K ∗ owe c O₀ ∗ dutyTok ER (crdCell (upsOf j c) j) h 0 ∗ reached ER (crdCell (upsOf j c) j) h
        ∗ slotAny c j (par h) ∗ reached ER (rcvCell c j (par h)) ((h + 1) / 2))
      ⊢ iprop((owe c O -∗ WP c k Φ) -∗ WP c (.op (.semSignal ((upsOf j c : Dev nD), .tc) (crd j) (1#32).toInt) fun _ => k) Φ) := by
  unfold owe
  iintro ⟨#Hc, ⟨%W, HO⟩, Htok, #Hr, Hs, #Hr'⟩ Hk
  iapply (Rounds.wp_signal 𝒱₀ ER (talk cont) (c : Thread nD τ) none (dst := (upsOf j c : Thread nD τ)) (sem := crd j) (r := h) (d := 0)
      (κ := K (crdCell (upsOf j c) j)) (k' := 1) (mem_one cont (duties_crd j hh)) (amount_cell cont _ (.crd j) h 0) (cix h j) O hO) $$ [HO Htok Hs]
  · isplitr; · iapply (ctx_inv cont K (upsOf j c) (.crd j)); iexact Hc
    isplitl [HO]; · iexact HO
    isplitl [Htok]; · iexact Htok
    isplitl [Hs]
    · iapply (crdPay_to cont c j h)
      isplitl [Hs]; · iexact Hs
      iexact Hr'
    · iexact Hr
  iintro HO
  iapply Hk
  iexists _; iexact HO

/-- A send names the slot that it lands in. -/
theorem sendK_to (j : Fin 4) {p q : Fin 2} (h : other p = q) (d : Dev nD) (k : Body F) :
    sendK j p d k = .op (.enqueueDma (slot j p) (.remote (Dev.tc d) (slot j q) (.dma (snd j p))) (.dma (rcv j q))
      (wordsSlot j p) (wordsSlot j q) ⟨⟨rfl, Or.inl rfl⟩, trivial⟩) fun _ => k := by
  subst h; rfl

/-- Hop `h` of stream `j` sent. -/
theorem wp_sendHop (K : GSem nD τ sig → ℕ) (c : Dev nD) (j : Fin 4) {h : ℕ} (hh : h ≤ 14) {O₀ O : Owe} (hO : O₀ = O + rT c j h)
    (k : Body F) (Φ : PUnit → sProp 𝕄) :
    iprop(ctx cont K ∗ slotHas c j (par h) (cont j h c) ∗ slotAny (dstOf j c) j (par (h + 1)) ∗ reached ER (crdCell c j) h ∗ owe c O₀
        ∗ dutyTok ER (sndCell c j (par h)) (h / 2) 0 ∗ reached ER (sndCell c j (par h)) (h / 2)
        ∗ dutyTok ER (rcvCell (dstOf j c) j (par (h + 1))) (h / 2) 0 ∗ reached ER (rcvCell (dstOf j c) j (par (h + 1))) (h / 2))
      ⊢ iprop(((cred (tallyAt (sndCell c j (par h)) 0 N) ∗ owe c O) -∗ WP c k Φ) -∗ WP c (sendK j (par h) (dstOf j c) k) Φ) := by
  unfold owe slotHas slotAny
  rw [sendK_to j (par_succ h).symm]
  iintro ⟨#Hc, ⟨%fs, %hfs, Hs⟩, ⟨%fd, Hd⟩, #Hrc, ⟨%W, HO⟩, HtS, #HrS, HtR, #HrR⟩ Hk
  iapply (Rounds.wp_send_pointsTo_with 𝒱₀ ER (talk cont) (c : Thread nD τ) none (c' := (dstOf j c : Thread nD τ)) (src := slot j (par h))
      (dst := slot j (par (h + 1))) (sS := .dma (snd j (par h))) (sem := .dma (rcv j (par (h + 1)))) (q := fullShare) (fs := fs) (fd := fd)
      (κ₁ := K (sndCell c j (par h))) (κ₂ := K (rcvCell (dstOf j c) j (par (h + 1)))) (r₁ := h / 2) (r₂ := h / 2) (d₁ := 0) (d₂ := 0)
      (F := reached ER (crdCell c j) h)
      (mem_one cont (duties_snd j hh)) (mem_one cont (duties_rcv j hh)) (rix h j) 0 N (credit_eq j _)
      (amount_cell cont _ (.snd j (par h)) (h / 2) 0) (amount_cell cont _ (.rcv j (par (h + 1))) (h / 2) 0) O hO
      (by
        refine BIBase.Entails.trans ?_ (Entails.of_eq (payload_cell cont c (.snd j (par h)) (h / 2) 0).symm)
        show _ ⊢ slotAny c j (par h)
        unfold slotAny
        iintro H; iexists _; iexact H)
      (by
        refine BIBase.Entails.trans ?_ (Entails.of_eq (payload_cell cont (dstOf j c) (.rcv j (par (h + 1))) (h / 2) 0).symm)
        rw [pay_rcv]; unfold rcvPay slotHas
        rw [ups_dst]
        iintro ⟨H, Hr⟩
        isplitl [H]
        · iexists ((slot j (par (h + 1))).view.write (Elt F) fd ((slot j (par h)).view.read (Elt F) fs) Finset.univ)
          isplitr; · ipureintro; exact (View.read_write_univ _ _).trans hfs
          iexact H
        iexact Hr)) $$ [Hs Hd HO HtS HtR]
  · isplitr; · iapply (ctx_inv cont K c (.snd j (par h))); iexact Hc
    isplitr; · iapply (ctx_inv cont K (dstOf j c) (.rcv j (par (h + 1)))); iexact Hc
    isplitl [Hs]; · iexact Hs
    isplitl [Hd]
    · isplitl [Hd]; · iexact Hd
      iexact Hrc
    isplitl [HO]; · iexact HO
    isplitl [HtS]; · iexact HtS
    isplitr; · iexact HrS
    isplitl [HtR]; · iexact HtR
    iexact HrR
  iintro ⟨Hcr, HO⟩
  iapply Hk
  isplitl [Hcr]; · iexact Hcr
  iexists _; iexact HO

end Cert.KernelIdeal.RS
-- ==== Proof.Mem.lean ====
module

public import proofs.«01_k».proof.Proof.Steps

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Facts₀ Facts

variable {F : FTy → Type} [FloatOps F]

local notation "𝕄" => MT nD τ sig ℕ (Elt F) ℕ UU ℕ

/-! ## Loads and stores -/

/-- A load from a buffer held whole. -/
theorem wp_ld (c : Dev nD) {cs : CoreSpace} {s : Shape} {e : EltTy} (M : Memref sig .tc cs s e) (r : Rect s) (f : Buf (Elt F) (M.view.loc (c : Thread nD τ)))
    {hl} (k : (r.shape.Idx → Elt F e) → Body F) (Φ : PUnit → sProp 𝕄) :
    (M.view.loc (c : Thread nD τ) ↦{fullShare} f : sProp 𝕄)
      ⊢ iprop(((M.view.loc (c : Thread nD τ) ↦{fullShare} f) -∗ WP c (k ((M.access r).read (Elt F) f)) Φ) -∗ WP c (.op (.load M r.toLoadRect hl) k) Φ) :=
  wp_load_rect 𝒱₀ (c : Thread nD τ) none Set.univ (m := M) (r := r) (S := Finset.univ) (q := fullShare) (f := f) (Finset.subset_univ _)

/-- A store into a buffer held whole. -/
theorem wp_st (c : Dev nD) {cs : CoreSpace} {s : Shape} {e : EltTy} (M : Memref sig .tc cs s e) (r : Rect s) (f : Buf (Elt F) (M.view.loc (c : Thread nD τ)))
    (w : r.shape.Idx → Elt F e) (Mk : Finset r.shape.Idx) {hx hm} (k : Body F) (Φ : PUnit → sProp 𝕄) :
    (M.view.loc (c : Thread nD τ) ↦{fullShare} f : sProp 𝕄)
      ⊢ iprop(((M.view.loc (c : Thread nD τ) ↦{fullShare} ((M.access r).write (Elt F) f w Mk)) -∗ WP c k Φ)
        -∗ WP c (.op (.store M r w Mk hx hm) fun _ => k) Φ) :=
  wp_store 𝒱₀ (c : Thread nD τ) none Set.univ (m := M) (r := r) (S := Finset.univ) (f := f) (w := w) (Mk := Mk) (k := fun _ => k) (Finset.subset_univ _)

/-! ## Slots -/

/-- A slot's elements are the access's. -/
theorem slot_set (j : Fin 4) (p : Fin 2) : (slot j p).view.set = ((bufM j).access (slotR p)).set := View.set_reshape _ _

/-- What a slot holds, through the access. -/
theorem slot_read (j : Fin 4) (p : Fin 2) (f : (slot j p).view.ty.Contents (Elt F)) :
    (slot j p).view.read (Elt F) f = shapeCast S128x512 (((bufM j).access (slotR p)).read (Elt F) f : Vec F S1x128x512 .bf16) shapeCasts_S1x128x512_S128x512 := rfl

/-- A load from a slot. -/
theorem wp_loadSlot (c : Dev nD) (j : Fin 4) (p : Fin 2) (f : Buf (Elt F) ((slot j p).view.loc (c : Thread nD τ)))
    {hl} (k : Vec F S1x128x512 .bf16 → Body F) (Φ : PUnit → sProp 𝕄) :
    (slotPts c j p f : sProp 𝕄) ⊢ iprop((slotPts c j p f -∗ WP c (k (((bufM j).access (slotR p)).read (Elt F) f)) Φ)
      -∗ WP c (.op (.load (bufM j) (slotR p).toLoadRect hl) k) Φ) :=
  wp_load_rect 𝒱₀ (c : Thread nD τ) none Set.univ (m := bufM j) (r := slotR p) (S := (slot j p).view.set) (q := fullShare) (f := f)
    (by rw [slot_set])

/-- After a store the slot holds what was stored. -/
theorem slot_write (j : Fin 4) (p : Fin 2) (f : (slot j p).view.ty.Contents (Elt F)) (w : Vec F S1x128x512 .bf16) :
    (slot j p).view.read (Elt F) (((bufM j).access (slotR p)).write (Elt F) f w Finset.univ)
      = shapeCast S128x512 w shapeCasts_S1x128x512_S128x512 := by
  rw [slot_read, View.read_write_univ]

/-- The same, as a state of the slot. -/
theorem slotHas_write (c : Dev nD) (j : Fin 4) (p : Fin 2) (f : Buf (Elt F) ((slot j p).view.loc (c : Thread nD τ))) (w : Vec F S1x128x512 .bf16) :
    (slotPts c j p (((bufM j).access (slotR p)).write (Elt F) f w Finset.univ) : sProp 𝕄)
      ⊢ slotHas c j p (shapeCast S128x512 w shapeCasts_S1x128x512_S128x512) := by
  unfold slotHas
  iintro H
  iexists (((bufM j).access (slotR p)).write (Elt F) f w Finset.univ)
  isplitr; · ipureintro; exact slot_write j p f w
  iexact H

/-- A store into a slot, elements and all. -/
theorem wp_stSlot (c : Dev nD) (j : Fin 4) (p : Fin 2) (f : Buf (Elt F) ((slot j p).view.loc (c : Thread nD τ)))
    (w : Vec F S1x128x512 .bf16) {hx hm} (k : Body F) (Φ : PUnit → sProp 𝕄) :
    (slotPts c j p f : sProp 𝕄) ⊢ iprop((slotPts c j p (((bufM j).access (slotR p)).write (Elt F) f w Finset.univ) -∗ WP c k Φ)
      -∗ WP c (.op (.store (bufM j) (slotR p) w Finset.univ hx hm) fun _ => k) Φ) :=
  wp_store 𝒱₀ (c : Thread nD τ) none Set.univ (m := bufM j) (r := slotR p) (S := (slot j p).view.set) (f := f) (w := w) (Mk := Finset.univ)
    (k := fun _ => k) (by rw [slot_set]; exact View.setOn_subset_set _ _)

/-- A store into a slot leaves what was stored. -/
theorem wp_storeSlot (c : Dev nD) (j : Fin 4) (p : Fin 2) (f : Buf (Elt F) ((slot j p).view.loc (c : Thread nD τ)))
    (w : Vec F S128x512 .bf16) {hx hm} (k : Body F) (Φ : PUnit → sProp 𝕄) :
    (slotPts c j p f : sProp 𝕄) ⊢ iprop((slotHas c j p w -∗ WP c k Φ)
      -∗ WP c (.op (.store (bufM j) (slotR p) (shapeCast S1x128x512 w shapeCasts_S128x512_S1x128x512 : FVec F S1x128x512 .bf16) Finset.univ hx hm)
        fun _ => k) Φ) := by
  have e := slotHas_write (F := F) c j p f (shapeCast S1x128x512 w shapeCasts_S128x512_S1x128x512)
  rw [shapeCast_shapeCast] at e
  iintro H Hk
  iapply (wp_stSlot c j p f) $$ H
  iintro H
  iapply Hk
  iapply e
  iexact H

/-! ## Partial products -/

/-- The partial-product buffer of direction `d` holding `v`. -/
def pcHas (c : Dev nD) (d : Fin 2) (v : Vec F S128x1024 .bf16) : sProp 𝕄 :=
  iprop(∃ f : Buf (Elt F) ((pcM d).view.loc (c : Thread nD τ)), ⌜(pcM d).view.read (Elt F) f = v⌝ ∗ ((pcM d).view.loc (c : Thread nD τ) ↦{fullShare} f))
/-- The partial-product buffer of direction `d`, at contents not named. -/
def pcAny (c : Dev nD) (d : Fin 2) : sProp 𝕄 :=
  iprop(∃ f : Buf (Elt F) ((pcM d).view.loc (c : Thread nD τ)), ((pcM d).view.loc (c : Thread nD τ) ↦{fullShare} f))
/-- A partial product's buffer, its contents forgotten. -/
theorem pcHas_any (c : Dev nD) (d : Fin 2) (v : Vec F S128x1024 .bf16) : (pcHas c d v : sProp 𝕄) ⊢ pcAny c d := by
  unfold pcHas pcAny
  iintro ⟨%f, -, H⟩
  iexists f; iexact H

/-- The column half of a partial product. -/
def loV (l : Fin 2) (v : Vec F S128x1024 .bf16) : Vec F S128x512 .bf16 := fun i => v ((loR l).emb i)

/-- A load of one half of a partial product's columns. -/
theorem wp_loadLo (c : Dev nD) (d l : Fin 2) (v : Vec F S128x1024 .bf16) {hl} (k : Vec F S128x512 .bf16 → Body F) (Φ : PUnit → sProp 𝕄) :
    (pcHas c d v : sProp 𝕄) ⊢ iprop((pcHas c d v -∗ WP c (k (loV l v)) Φ) -∗ WP c (.op (.load (pcM d) (loR l).toLoadRect hl) k) Φ) := by
  unfold pcHas
  iintro ⟨%f, %hf, H⟩ Hk
  have e : ((pcM d).access (loR l)).read (Elt F) f = loV l v := by rw [← hf]; rfl
  have h := wp_ld c (pcM d) (loR l) f (hl := hl) k Φ
  rw [e] at h
  iapply h $$ H
  iintro H
  iapply Hk
  iexists f
  isplitr; · ipureintro; exact hf
  iexact H

/-- The offset zero, written out. -/
theorem off_zero : (![0, 0] : Fin 2 → ℕ) = fun _ => 0 := by decide

/-- A store over the whole partial product leaves what was stored. -/
theorem pc_write : ∀ (d : Fin 2) (f : (pcM d).view.ty.Contents (Elt F)) (w : Vec F S128x1024 .bf16),
    (pcM d).view.read (Elt F) (((pcM d).access pcR).write (Elt F) f w Finset.univ) = w
  | 0, f, w => (View.read_whole _ _).trans (Memref.write_access_unit_zero_univ (Elt F) cc0_scratch2 off_zero _ f w)
  | 1, f, w => (View.read_whole _ _).trans (Memref.write_access_unit_zero_univ (Elt F) cc0_scratch3 off_zero _ f w)

/-- The rows of the left operand at an offset. -/
def rowsV (off : Fin 2 → ℕ) (inb : ∀ a, off a + S128x1024.size a ≤ S2048x1024.size a) (a : Vec F S2048x1024 .bf16) : Vec F S128x1024 .bf16 :=
  fun i => a ((Rect.unit (s := S2048x1024) off S128x1024.size inb).emb i)
/-- The columns of the right operand in a direction. -/
def colsV (d : Fin 2) (b : Vec F S1024x2048 .bf16) : Vec F S1024x1024 .bf16 := fun i => b ((halfR d).emb i)

/-- The two operands' copies. -/
def abHas (c : Dev nD) (a : Vec F S2048x1024 .bf16) : sProp 𝕄 := (abM.view.loc (c : Thread nD τ) ↦{fullShare} (a : Buf (Elt F) (abM.view.loc (c : Thread nD τ))))
def bbHas (c : Dev nD) (b : Vec F S1024x2048 .bf16) : sProp 𝕄 := (bbM.view.loc (c : Thread nD τ) ↦{fullShare} (b : Buf (Elt F) (bbM.view.loc (c : Thread nD τ))))

/-- A product leaves the partial product of the rows and the columns it read. -/
theorem wp_mmK (c : Dev nD) (d : Fin 2) (off : Fin 2 → ℕ) (inb) (a : Vec F S2048x1024 .bf16) (b : Vec F S1024x2048 .bf16) (k : Body F) (Φ : PUnit → sProp 𝕄) :
    iprop(abHas c a ∗ bbHas c b ∗ pcAny c d)
      ⊢ iprop(((abHas c a ∗ bbHas c b ∗ pcHas c d (mmPay (rowsV off inb a) (colsV d b))) -∗ WP c k Φ) -∗ WP c (mmK d off inb k) Φ) := by
  unfold mmK pcAny abHas bbHas
  iintro ⟨Ha, Hb, ⟨%f, Hp⟩⟩ Hk
  iapply (wp_ld c abM _ _) $$ Ha
  iintro Ha
  iapply (wp_ld c bbM _ _) $$ Hb
  iintro Hb
  iapply (wp_ld c (pcM d) _ f) $$ Hp
  iintro Hp
  iapply (wp_st c (pcM d) _ f _ _) $$ Hp
  iintro Hp
  iapply Hk
  isplitl [Ha]; · iexact Ha
  isplitl [Hb]; · iexact Hb
  unfold pcHas
  iexists _
  isplitr
  rotate_left
  · iexact Hp
  ipureintro
  exact pc_write d f _

/-- An addition leaves the sum of the slot and the partial product's half. -/
theorem wp_accK (c : Dev nD) (j : Fin 4) (p : Fin 2) (v : Vec F S128x512 .bf16) (w : Vec F S128x1024 .bf16) (k : Body F) (Φ : PUnit → sProp 𝕄) :
    iprop(slotHas c j p v ∗ pcHas c (dirOf j) w)
      ⊢ iprop(((slotHas c j p (addf v (loV (loOf j) w) : FVec F S128x512 .bf16) ∗ pcHas c (dirOf j) w) -∗ WP c k Φ) -∗ WP c (accK j p k) Φ) := by
  conv_lhs => unfold slotHas
  unfold accK
  iintro ⟨⟨%f, %hf, Hs⟩, Hp⟩ Hk
  iapply (wp_loadSlot c j p f) $$ Hs
  iintro Hs
  iapply (wp_loadLo c (dirOf j) (loOf j) w) $$ Hp
  iintro Hp
  iapply (wp_loadSlot c j p f) $$ Hs
  iintro Hs
  iapply (wp_storeSlot c j p f) $$ Hs
  iintro Hs
  iapply Hk
  rw [← hf, slot_read]
  isplitl [Hs]; · iexact Hs
  iexact Hp

/-- The first store of a stream leaves the partial product's half. -/
theorem wp_initK (c : Dev nD) (j : Fin 4) (w : Vec F S128x1024 .bf16) (k : Body F) (Φ : PUnit → sProp 𝕄) :
    iprop(slotAny c j 0 ∗ pcHas c (dirOf j) w)
      ⊢ iprop(((slotHas c j 0 (loV (loOf j) w) ∗ pcHas c (dirOf j) w) -∗ WP c k Φ) -∗ WP c (initK j k) Φ) := by
  unfold slotAny initK
  iintro ⟨⟨%f, Hs⟩, Hp⟩ Hk
  iapply (wp_loadLo c (dirOf j) (loOf j) w) $$ Hp
  iintro Hp
  iapply (wp_loadSlot c j 0 f) $$ Hs
  iintro Hs
  iapply (wp_storeSlot c j 0 f) $$ Hs
  iintro Hs
  iapply Hk
  isplitl [Hs]; · iexact Hs
  iexact Hp

/-! ## The operands' copies -/

/-- A store over the whole copy of the left operand leaves what was stored. -/
theorem ab_copied (c : Dev nD) (f : Buf (Elt F) (abM.view.loc (c : Thread nD τ))) (a : Vec F S2048x1024 .bf16) :
    (abM.view.loc (c : Thread nD τ) ↦{fullShare} ((abM.access (Rect.unit (s := S2048x1024) ![0, 0] S2048x1024.size inb_S2048x1024_S2048x1024_0_0)).write (Elt F) f
      ((aM.access (Rect.unit (s := S2048x1024) ![0, 0] S2048x1024.size inb_S2048x1024_S2048x1024_0_0)).read (Elt F) a) Finset.univ) : sProp 𝕄)
      ⊢ (abM.view.loc (c : Thread nD τ) ↦{fullShare} (a : Buf (Elt F) (abM.view.loc (c : Thread nD τ)))) :=
  Entails.of_eq (congrArg (fun z => (abM.view.loc (c : Thread nD τ) ↦{fullShare} z : sProp 𝕄))
    ((Memref.write_access_unit_zero_univ (Elt F) cc0_scratch0 off_zero _ f _).trans (Memref.read_access_unit_zero (Elt F) cc0_stg0_0 off_zero _ a)))

/-- The left operand's copy. -/
theorem wp_abK (c : Dev nD) (a : Vec F S2048x1024 .bf16) (k : Body F) (Φ : PUnit → sProp 𝕄) :
    iprop((aM.view.loc (c : Thread nD τ) ↦{fullShare} (a : Buf (Elt F) (aM.view.loc (c : Thread nD τ))))
        ∗ ∃ f : Buf (Elt F) (abM.view.loc (c : Thread nD τ)), (abM.view.loc (c : Thread nD τ) ↦{fullShare} f))
      ⊢ iprop((((aM.view.loc (c : Thread nD τ) ↦{fullShare} (a : Buf (Elt F) (aM.view.loc (c : Thread nD τ)))) ∗ abHas c a) -∗ WP c k Φ)
        -∗ WP c (abK k) Φ) := by
  unfold abK abHas
  iintro ⟨Ha, ⟨%f, Hb⟩⟩ Hk
  iapply (wp_ld c aM _ _) $$ Ha
  iintro Ha
  iapply (wp_ld c abM _ f) $$ Hb
  iintro Hb
  iapply (wp_st c abM _ f _ _) $$ Hb
  iintro Hb
  iapply Hk
  isplitl [Ha]; · iexact Ha
  rw [shapeCast_self, shapeCast_self]
  iapply (ab_copied c f a)
  iexact Hb

/-- A store over the whole copy of the right operand leaves what was stored. -/
theorem bb_copied (c : Dev nD) (f : Buf (Elt F) (bbM.view.loc (c : Thread nD τ))) (b : Vec F S1024x2048 .bf16) :
    (bbM.view.loc (c : Thread nD τ) ↦{fullShare} ((bbM.access (Rect.unit (s := S1024x2048) ![0, 0] S1024x2048.size inb_S1024x2048_S1024x2048_0_0)).write (Elt F) f
      ((bM.access (Rect.unit (s := S1024x2048) ![0, 0] S1024x2048.size inb_S1024x2048_S1024x2048_0_0)).read (Elt F) b) Finset.univ) : sProp 𝕄)
      ⊢ (bbM.view.loc (c : Thread nD τ) ↦{fullShare} (b : Buf (Elt F) (bbM.view.loc (c : Thread nD τ)))) :=
  Entails.of_eq (congrArg (fun z => (bbM.view.loc (c : Thread nD τ) ↦{fullShare} z : sProp 𝕄))
    ((Memref.write_access_unit_zero_univ (Elt F) cc0_scratch1 off_zero _ f _).trans (Memref.read_access_unit_zero (Elt F) cc0_stg1_0 off_zero _ b)))

/-- The right operand's copy. -/
theorem wp_bbK (c : Dev nD) (b : Vec F S1024x2048 .bf16) (k : Body F) (Φ : PUnit → sProp 𝕄) :
    iprop((bM.view.loc (c : Thread nD τ) ↦{fullShare} (b : Buf (Elt F) (bM.view.loc (c : Thread nD τ))))
        ∗ ∃ f : Buf (Elt F) (bbM.view.loc (c : Thread nD τ)), (bbM.view.loc (c : Thread nD τ) ↦{fullShare} f))
      ⊢ iprop((((bM.view.loc (c : Thread nD τ) ↦{fullShare} (b : Buf (Elt F) (bM.view.loc (c : Thread nD τ)))) ∗ bbHas c b) -∗ WP c k Φ)
        -∗ WP c (bbK k) Φ) := by
  unfold bbK bbHas
  iintro ⟨Ha, ⟨%f, Hb⟩⟩ Hk
  iapply (wp_ld c bM _ _) $$ Ha
  iintro Ha
  iapply (wp_ld c bbM _ f) $$ Hb
  iintro Hb
  iapply (wp_st c bbM _ f _ _) $$ Hb
  iintro Hb
  iapply Hk
  isplitl [Ha]; · iexact Ha
  rw [shapeCast_self, shapeCast_self]
  iapply (bb_copied c f b)
  iexact Hb

/-! ## The parameters -/

/-- The parameters at `P`. -/
def prmHas (c : Dev nD) (P : Vec F S32 .i32) : sProp 𝕄 := (prmM.view.loc (c : Thread nD τ) ↦{fullShare} (P : Buf (Elt F) (prmM.view.loc (c : Thread nD τ))))

/-- Word `i` of the parameters. -/
def wordV (i : Fin 32) (P : Vec F S32 .i32) : Vec F S1 .i32 :=
  fun x => P ((Rect.unit (s := S32) ![i.val] S1.size (inbWord i)).emb x)

/-- A parameter is read, and passes its check. -/
theorem wp_wordK (c : Dev nD) (P : Vec F S32 .i32) (i : Fin 32) (C : Vec F S1 .i32 → Prop) (dec) (h : C (wordV i P)) (k : ∀ w, PLift (C w) → Body F)
    (Φ : PUnit → sProp 𝕄) :
    (prmHas c P : sProp 𝕄) ⊢ iprop((prmHas c P -∗ WP c (k (wordV i P) ⟨h⟩) Φ) -∗ WP c (wordK i C dec k) Φ) := by
  unfold prmHas wordK
  iintro Hp Hk
  iapply (wp_ld c prmM _ _) $$ Hp
  iintro Hp
  iapply (wp_assume 𝒱₀ (c : Thread nD τ) none Set.univ (P := C (wordV i P)) (k := k (wordV i P)) h)
  iapply Hk
  iexact Hp

end Cert.KernelIdeal.RS
-- ==== Proof.Hop.lean ====
module

public import proofs.«01_k».proof.Proof.Mem

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

/-! ## The contents of the hops -/

/-- The chunk a device works on at each step of a direction. -/
def chk (d : Fin 2) (c : Dev nD) : ℕ → Dev nD
  | 0 => nb (other d) c
  | n + 1 => nb (other d) (chk d c n)

/-- The offset of a chunk's rows. -/
abbrev rowOff (x : Dev nD) : Fin 2 → ℕ := ![x.val * 128, 0]
/-- A chunk's rows lie in the left operand. -/
theorem rowInb : ∀ (x : Dev nD) (a : Fin S2048x1024.rank), rowOff x a + S128x1024.size a ≤ S2048x1024.size a := by decide

/-- The partial product of chunk `x` in direction `d`. -/
def pcV (d : Fin 2) (a : Vec F S2048x1024 .bf16) (b : Vec F S1024x2048 .bf16) (x : Dev nD) : Vec F S128x1024 .bf16 :=
  mmPay (rowsV (rowOff x) (rowInb x) a) (colsV d b)

/-- What each hop carries. -/
def contV (A : Dev nD → Vec F S2048x1024 .bf16) (B : Dev nD → Vec F S1024x2048 .bf16) (j : Fin 4) : ℕ → Dev nD → Vec F S128x512 .bf16
  | 0, c => loV (loOf j) (pcV (dirOf j) (A c) (B c) (chk (dirOf j) c 0))
  | h + 1, c => (addf (contV A B j h (upsOf j c)) (loV (loOf j) (pcV (dirOf j) (A c) (B c) (chk (dirOf j) c (h + 1)))) : FVec F S128x512 .bf16)

variable (A : Dev nD → Vec F S2048x1024 .bf16) (B : Dev nD → Vec F S1024x2048 .bf16)

/-! ## A stream's state -/

/-- What step `i` of stream `j` uses up. -/
def stepRes (c : Dev nD) (j : Fin 4) (i : ℕ) : sProp 𝕄 :=
  iprop(cred (tallyAt (crdCell c j) (cix i j) 1) ∗ cred (tallyAt (rcvCell c j (par (i + 1 + 1))) (rix (i + 1) j) N)
    ∗ dutyTok ER (crdCell (upsOf j c) j) i 0 ∗ dutyTok ER (rcvCell (dstOf j c) j (par (i + 1 + 1))) ((i + 1) / 2) 0
    ∗ dutyTok ER (sndCell c j (par (i + 1))) ((i + 1) / 2) 0)

/-- Stream `j` of a device once hop `h` has been sent. -/
def strm (c : Dev nD) (j : Fin 4) (h : ℕ) : sProp 𝕄 :=
  iprop(atPos ER (rcvCell c j (par (h + 1))) (h / 2) ∅ 0 ∗ atPos ER (rcvCell c j (par h)) ((h + 1) / 2) ∅ 0
    ∗ atPos ER (sndCell c j (par h)) (h / 2) ∅ 0 ∗ atPos ER (sndCell c j (par (h + 1))) ((h + 1) / 2) ∅ 0
    ∗ atPos ER (crdCell c j) h ∅ 0
    ∗ reached ER (sndCell c j (par (h + 1))) ((h + 1) / 2) ∗ reached ER (rcvCell c j (par h)) ((h + 1) / 2)
    ∗ cred (tallyAt (sndCell c j (par h)) 0 N) ∗ cred (tallyAt (rcvCell c j (par (h + 1))) (rix h j) N)
    ∗ bigSep (Finset.Ico h 14) (fun i => stepRes (F := F) c j i))

/-- The first of a range of resources is taken out. -/
theorem sep_first {n k : ℕ} (h : n < k) (Φ : ℕ → sProp 𝕄) : bigSep (Finset.Ico n k) Φ = iprop(Φ n ∗ bigSep (Finset.Ico (n + 1) k) Φ) := by
  rw [ico_first h]; exact BI.bigSep_insert (first_not_mem _ _)

/-- A hop, step by step. -/
theorem hopK_eq (j : Fin 4) (h : ℕ) (u d : Dev nD) (k : Body F) :
    hopK j (par h) u d k = (waitK (rcv j (par (h + 1))) j (par h) (par (h + 1)) <| accK j (par (h + 1)) <|
      waitK (snd j (par h)) j (par (h + 1)) (par h) <| .op (.semSignal (u, .tc) (crd j) (1#32).toInt) fun _ =>
      .op (.semWait (crd j) (1#32).toInt) fun _ => sendK j (par (h + 1)) d k) := by
  unfold hopK; rw [← par_succ]

/-- Two hops on, a slot is one round on. -/
theorem half_succ (h : ℕ) : (h + 1 + 1) / 2 = h / 2 + 1 := by omega

/-- The step of stream `j` from hop `h` to hop `h + 1`. -/
theorem wp_hopK (K : GSem nD τ sig → ℕ) (c : Dev nD) (j : Fin 4) {h n : ℕ} (hh : h < 14) (hn : n = 4 * h + j.val) {u d : Dev nD}
    (hu : u = upsOf j c) (hd : d = dstOf j c) (k : Body F) (Φ : PUnit → sProp 𝕄) :
    iprop(ctx (contV A B) K ∗ strm c j h ∗ pcHas c (dirOf j) (pcV (dirOf j) (A c) (B c) (chk (dirOf j) c (h + 1))) ∗ owe c (ow c n))
      ⊢ iprop(((strm c j (h + 1) ∗ pcHas c (dirOf j) (pcV (dirOf j) (A c) (B c) (chk (dirOf j) c (h + 1))) ∗ owe c (ow c (n + 1))) -∗ WP c k Φ)
        -∗ WP c (hopK j (par h) u d k) Φ) := by
  subst hu hd
  have hj := j.isLt
  have ej : sj n = j := Fin.ext (by rw [sj_val]; omega)
  have eh : n / 4 = h := by omega
  have hO : ow c n = (ow c (n + 1) + rT c j (h + 1)) + cT c j h := by
    rw [ow_succ c (by omega), sT, ej, eh]; exact (add_assoc _ _ _).symm
  have a0 : Above (rix h j) (ow c n) := above_ow c (by unfold rix; omega)
  have a1 : Above 0 (ow c n) := above_ow c (by omega)
  have a2 : Above (cix h j) (ow c (n + 1) + rT c j (h + 1)) :=
    (above_ow c (by unfold cix; omega)).add (above_tally _ _ _ (by unfold cix rix; omega) (by unfold rix; omega))
  unfold strm
  rw [hopK_eq, sep_first hh, half_succ]
  unfold stepRes
  iintro ⟨#Hc, ⟨HaR, HaR', HaS, HaS', HaC, #HrS, #HrR, HcS, HcR, ⟨HcC, HcR', HtC, HtR, HtS⟩, Hrest⟩, Hp, HO⟩ Hk
  iapply (wp_waitRcv (contV A B) K c j (h := h) (by omega) a0) $$ [HcR HO HaR]
  · isplitr; · iexact Hc
    isplitl [HcR]; · iexact HcR
    isplitl [HO]; · iexact HO
    iexact HaR
  iintro ⟨HO, HaR, #HrR', Hs, #HrC⟩
  iapply (wp_accK c j (par (h + 1)) _ _) $$ [Hs Hp]
  · isplitl [Hs]; · iexact Hs
    iexact Hp
  iintro ⟨Hs, Hp⟩
  iapply (wp_waitSnd (contV A B) K c j (h := h) (by omega) a1) $$ [HcS HO HaS]
  · isplitr; · iexact Hc
    isplitl [HcS]; · iexact HcS
    isplitl [HO]; · iexact HO
    iexact HaS
  iintro ⟨HO, HaS, #HrS', Hs'⟩
  iapply (wp_giveCrd (contV A B) K c j hh hO) $$ [HO HtC Hs']
  · isplitr; · iexact Hc
    isplitl [HO]; · iexact HO
    isplitl [HtC]; · iexact HtC
    isplitr; · iexact HrC
    isplitl [Hs']; · iexact Hs'
    iexact HrR
  iintro HO
  iapply (wp_waitCrd (contV A B) K c j hh a2) $$ [HcC HO HaC]
  · isplitr; · iexact Hc
    isplitl [HcC]; · iexact HcC
    isplitl [HO]; · iexact HO
    iexact HaC
  iintro ⟨HO, HaC, #HrC', Hcp⟩
  unfold crdPay
  icases Hcp with ⟨Hd, #HrD⟩
  rw [← par_add_two h]
  iapply (wp_sendHop (contV A B) K c j (h := h + 1) (by omega) rfl) $$ [Hs Hd HO HtS HtR]
  · isplitr; · iexact Hc
    isplitl [Hs]; · iexact Hs
    isplitl [Hd]; · iexact Hd
    isplitr; · iexact HrC'
    isplitl [HO]; · iexact HO
    isplitl [HtS]; · iexact HtS
    isplitr; · iexact HrS
    isplitl [HtR]; · iexact HtR
    iexact HrD
  iintro ⟨HcS, HO⟩
  iapply Hk
  isplitr [Hp HO]
  · isplitl [HaR']; · iexact HaR'
    isplitl [HaR]; · iexact HaR
    isplitl [HaS']; · iexact HaS'
    isplitl [HaS]; · iexact HaS
    isplitl [HaC]; · iexact HaC
    isplitr; · iexact HrS'
    isplitr; · iexact HrR'
    isplitl [HcS]; · iexact HcS
    isplitl [HcR']; · iexact HcR'
    iexact Hrest
  isplitl [Hp]; · iexact Hp
  iexact HO

end Cert.KernelIdeal.RS
-- ==== Proof.Round.lean ====
module

public import proofs.«01_k».proof.Proof.Hop

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

/-! ## The parameters -/

/-- The device each parameter word names. -/
def tab (c : Dev nD) (i : Fin 32) : Dev nD :=
  if i.val = 0 then nb 0 c else if i.val = 1 then nb 1 c
  else if i.val < 17 then chk 0 c (i.val - 1) else chk 1 c (i.val - 16)

/-- A word naming a device. -/
abbrev wrd (x : Dev nD) : Vec F S1 .i32 := fun _ => (BitVec.ofNat 32 x.val : BitVec 32)

/-- The parameters of a device name the devices of its table. -/
def Prm (c : Dev nD) (P : Vec F S32 .i32) : Prop := ∀ i : Fin 32, wordV i P = wrd (tab c i)

variable (A : Dev nD → Vec F S2048x1024 .bf16) (B : Dev nD → Vec F S1024x2048 .bf16) (P : Dev nD → Vec F S32 .i32)

/-- Reading a parameter word. -/
theorem wp_word (hP : ∀ c, Prm c (P c)) (c : Dev nD) (i : Fin 32) (C : Vec F S1 .i32 → Prop) (dec) (h : C (wrd (tab c i)))
    (k : ∀ w, PLift (C w) → Body F) (Φ : PUnit → sProp 𝕄) :
    (prmHas c (P c) : sProp 𝕄) ⊢ iprop((prmHas c (P c) -∗ WP c (k (wrd (tab c i)) ⟨h⟩) Φ) -∗ WP c (wordK i C dec k) Φ) := by
  have e := hP c i
  revert h
  rw [← e]
  intro h
  exact wp_wordK c (P c) i C dec h k Φ

/-- A product, with the chunk its offset names. -/
theorem wp_mm (c : Dev nD) (d : Fin 2) (x : Dev nD) {off : Fin 2 → ℕ} (hoff : off = rowOff x) (inb) (a : Vec F S2048x1024 .bf16) (b : Vec F S1024x2048 .bf16)
    (k : Body F) (Φ : PUnit → sProp 𝕄) :
    iprop(abHas c a ∗ bbHas c b ∗ pcAny c d)
      ⊢ iprop(((abHas c a ∗ bbHas c b ∗ pcHas c d (pcV d a b x)) -∗ WP c k Φ) -∗ WP c (mmK d off inb k) Φ) := by
  subst hoff
  exact wp_mmK c d (rowOff x) inb a b k Φ

/-- The operands' copies, the parameters, and the two partial products of step `n`. -/
def work (c : Dev nD) (n : ℕ) : sProp 𝕄 :=
  iprop(prmHas c (P c) ∗ abHas c (A c) ∗ bbHas c (B c) ∗ pcHas c 0 (pcV 0 (A c) (B c) (chk 0 c n)) ∗ pcHas c 1 (pcV 1 (A c) (B c) (chk 1 c n)))

/-- The two products of the next step. -/
theorem wp_pair (hP : ∀ c, Prm c (P c)) (c : Dev nD) (n : ℕ) (i₁ i₂ : Fin 32) (h₁ : tab c i₁ = chk 0 c (n + 1)) (h₂ : tab c i₂ = chk 1 c (n + 1))
    {C₁ C₂ : Vec F S1 .i32 → Prop} {dec₁ dec₂} (c₁ : C₁ (wrd (tab c i₁))) (c₂ : C₂ (wrd (tab c i₂)))
    {off₁ off₂ : Vec F S1 .i32 → Fin 2 → ℕ} {inb₁ : ∀ w, PLift (C₁ w) → ∀ a, off₁ w a + S128x1024.size a ≤ S2048x1024.size a}
    {inb₂ : ∀ w, PLift (C₂ w) → ∀ a, off₂ w a + S128x1024.size a ≤ S2048x1024.size a}
    (o₁ : ∀ x : Dev nD, off₁ (wrd x) = rowOff x) (o₂ : ∀ x : Dev nD, off₂ (wrd x) = rowOff x)
    {k : ∀ w, PLift (C₁ w) → ∀ w', PLift (C₂ w') → Body F} {Φ : PUnit → sProp 𝕄} {R : sProp 𝕄}
    (hk : iprop(work A B P c (n + 1) ∗ R) ⊢ WP c (k (wrd (tab c i₁)) ⟨c₁⟩ (wrd (tab c i₂)) ⟨c₂⟩) Φ) :
    iprop(work A B P c n ∗ R) ⊢ WP c (wordK i₁ C₁ dec₁ fun w hw => mmK 0 (off₁ w) (inb₁ w hw) <| wordK i₂ C₂ dec₂ fun w' hw' => mmK 1 (off₂ w') (inb₂ w' hw')
      (k w hw w' hw')) Φ := by
  conv_lhs => unfold work
  iintro ⟨⟨Hp, Ha, Hb, H0, H1⟩, HR⟩
  iapply (wp_word P hP c i₁ C₁ _ c₁) $$ Hp
  iintro Hp
  iapply (wp_mm c 0 (tab c i₁) (o₁ _) _ (A c) (B c)) $$ [Ha Hb H0]
  · isplitl [Ha]; · iexact Ha
    isplitl [Hb]; · iexact Hb
    iapply pcHas_any; iexact H0
  iintro ⟨Ha, Hb, H0⟩
  iapply (wp_word P hP c i₂ C₂ _ c₂) $$ Hp
  iintro Hp
  iapply (wp_mm c 1 (tab c i₂) (o₂ _) _ (A c) (B c)) $$ [Ha Hb H1]
  · isplitl [Ha]; · iexact Ha
    isplitl [Hb]; · iexact Hb
    iapply pcHas_any; iexact H1
  iintro ⟨Ha, Hb, H1⟩
  iapply hk
  unfold work
  rw [← h₁, ← h₂]
  isplitr [HR]
  · isplitl [Hp]; · iexact Hp
    isplitl [Ha]; · iexact Ha
    isplitl [Hb]; · iexact Hb
    isplitl [H0]; · iexact H0
    iexact H1
  iexact HR

/-! ## The four streams -/

/-- The four streams once hop `h` is sent, and what is still owed. -/
def strms (c : Dev nD) (h : ℕ) : sProp 𝕄 :=
  iprop(strm c 0 h ∗ strm c 1 h ∗ strm c 2 h ∗ strm c 3 h ∗ owe c (ow c (4 * h)))

/-- The four streams' steps from hop `h` to hop `h + 1`. -/
theorem wp_hops (K : GSem nD τ sig → ℕ) (c : Dev nD) (h : ℕ) (hh : h < 14) {p : Fin 2} (hp : p = par h)
    {u₀ d₀ u₁ d₁ u₂ d₂ u₃ d₃ : Dev nD} (hu₀ : u₀ = nb 1 c) (hd₀ : d₀ = nb 0 c) (hu₁ : u₁ = nb 0 c) (hd₁ : d₁ = nb 1 c)
    (hu₂ : u₂ = nb 1 c) (hd₂ : d₂ = nb 0 c) (hu₃ : u₃ = nb 0 c) (hd₃ : d₃ = nb 1 c)
    {k : Body F} {Φ : PUnit → sProp 𝕄} {R : sProp 𝕄}
    (hk : iprop(work A B P c (h + 1) ∗ ctx (contV A B) K ∗ strms c (h + 1) ∗ R) ⊢ WP c k Φ) :
    iprop(work A B P c (h + 1) ∗ ctx (contV A B) K ∗ strms c h ∗ R)
      ⊢ WP c (hopK 0 p u₀ d₀ <| hopK 1 p u₁ d₁ <| hopK 2 p u₂ d₂ <| hopK 3 p u₃ d₃ k) Φ := by
  subst hp
  conv_lhs => unfold strms work
  iintro ⟨⟨Hp, Ha, Hb, H0, H1⟩, #Hc, ⟨S0, S1, S2, S3, HO⟩, HR⟩
  iapply (wp_hopK A B K c 0 hh (n := 4 * h) rfl hu₀ hd₀) $$ [S0 H0 HO]
  · isplitr; · iexact Hc
    isplitl [S0]; · iexact S0
    isplitl [H0]; · iexact H0
    iexact HO
  iintro ⟨S0, H0, HO⟩
  iapply (wp_hopK A B K c 1 hh (n := 4 * h + 1) rfl hu₁ hd₁) $$ [S1 H1 HO]
  · isplitr; · iexact Hc
    isplitl [S1]; · iexact S1
    isplitl [H1]; · iexact H1
    iexact HO
  iintro ⟨S1, H1, HO⟩
  iapply (wp_hopK A B K c 2 hh (n := 4 * h + 1 + 1) rfl hu₂ hd₂) $$ [S2 H0 HO]
  · isplitr; · iexact Hc
    isplitl [S2]; · iexact S2
    isplitl [H0]; · iexact H0
    iexact HO
  iintro ⟨S2, H0, HO⟩
  iapply (wp_hopK A B K c 3 hh (n := 4 * h + 1 + 1 + 1) rfl hu₃ hd₃) $$ [S3 H1 HO]
  · isplitr; · iexact Hc
    isplitl [S3]; · iexact S3
    isplitl [H1]; · iexact H1
    iexact HO
  iintro ⟨S3, H1, HO⟩
  iapply hk
  isplitl [Hp Ha Hb H0 H1]
  · unfold work
    isplitl [Hp]; · iexact Hp
    isplitl [Ha]; · iexact Ha
    isplitl [Hb]; · iexact Hb
    isplitl [H0]; · iexact H0
    iexact H1
  isplitr; · iexact Hc
  isplitr [HR]
  · unfold strms
    isplitl [S0]; · iexact S0
    isplitl [S1]; · iexact S1
    isplitl [S2]; · iexact S2
    isplitl [S3]; · iexact S3
    iexact HO
  iexact HR

end Cert.KernelIdeal.RS
-- ==== Proof.Ends.lean ====
module

public import proofs.«01_k».proof.Proof.Round

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

variable (A : Dev nD → Vec F S2048x1024 .bf16) (B : Dev nD → Vec F S1024x2048 .bf16) (P : Dev nD → Vec F S32 .i32)
variable (cont : Cont F)

/-! ## The barrier -/

/-- A device's receiving slot of stream `j`, ready. -/
def ready (c : Dev nD) (j : Fin 4) : sProp 𝕄 := iprop(slotAny (F := F) c j 1 ∗ reached ER (rcvCell c j 1) 0)

/-- What a device's barrier uses. -/
def barR (c : Dev nD) : sProp 𝕄 :=
  iprop(atPos ER (barCell c) 0 ∅ 0 ∗ cred (tallyAt (barCell c) 1 2)
    ∗ (dutyTok ER (barCell (nb 0 c)) 0 1 ∗ reached ER (barCell (nb 0 c)) 0)
    ∗ (dutyTok ER (barCell (nb 1 c)) 0 0 ∗ reached ER (barCell (nb 1 c)) 0))

/-- What a device hands over with its signal to the neighbour in direction `d`. -/
theorem barPay_to (c : Dev nD) (d d' : Fin 2) (hd : d' = other d) :
    (iprop(ready c (jOf d' 0) ∗ ready c (jOf d' 1)) : sProp 𝕄)
      ⊢ (talk cont).payload ((nb d c : Thread nD τ), .reg bar) 0 d' := by
  subst hd
  refine BIBase.Entails.trans ?_ (Entails.of_eq (payload_cell cont (nb d c) .bar 0 (other d)).symm)
  show _ ⊢ barPay (nb d c) (other d)
  unfold barPay ready
  rw [nb_other]

/-- What the barrier hands over: both neighbours' slots. -/
theorem bar_rest (c : Dev nD) :
    bigSep ((talk cont).duties (barCell c) 0 \ ∅) (fun u => (talk cont).payload (barCell c) 0 u) = iprop(barPay (F := F) c 0 ∗ barPay c 1) := by
  rw [Finset.sdiff_empty, duties_cell]
  show bigSep Finset.univ _ = _
  rw [BI.bigSep_fin_two, payload_cell, payload_cell]
  rfl

/-- The barrier: two signals and the wait for two. -/
theorem wp_barK (K : GSem nD τ sig → ℕ) (c : Dev nD) {O : Owe} (hO : Above 1 O) {d u : Dev nD} (hd : d = nb 0 c) (hu : u = nb 1 c)
    (k : Body F) (Φ : PUnit → sProp 𝕄) :
    iprop(ctx cont K ∗ barR c ∗ (ready c 0 ∗ ready c 1 ∗ ready c 2 ∗ ready c 3) ∗ owe c (O + bT c 1 + bT c 0))
      ⊢ iprop(((atPos ER (barCell c) 1 ∅ 0 ∗ (ready (dstOf 0 c) 0 ∗ ready (dstOf 1 c) 1 ∗ ready (dstOf 2 c) 2 ∗ ready (dstOf 3 c) 3) ∗ owe c O) -∗ WP c k Φ)
        -∗ WP c (barK d u k) Φ) := by
  subst hd hu
  unfold barR owe barK
  iintro ⟨#Hc, ⟨Hat, Hcr, ⟨Ht0, #Hr0⟩, ⟨Ht1, #Hr1⟩⟩, ⟨R0, R1, R2, R3⟩, ⟨%W, HO⟩⟩ Hk
  iapply (Rounds.wp_signal 𝒱₀ ER (talk cont) (c : Thread nD τ) none (dst := (nb 0 c : Thread nD τ)) (sem := bar) (r := 0) (d := 1)
      (κ := K (barCell (nb 0 c))) (k' := 1) (by rw [show ((nb 0 c : Thread nD τ), SemLoc.reg bar) = cellOf (nb 0 c) .bar from rfl, duties_cell]; exact Finset.mem_univ _)
      (amount_cell cont _ .bar 0 1) 1 (O + bT c 1) rfl) $$ [HO Ht0 R1 R3]
  · isplitr; · iapply (ctx_inv cont K (nb 0 c) .bar); iexact Hc
    isplitl [HO]; · iexact HO
    isplitl [Ht0]; · iexact Ht0
    isplitl [R1 R3]
    · iapply (barPay_to cont c 0 1 rfl)
      isplitl [R1]; · iexact R1
      iexact R3
    · iexact Hr0
  iintro HO
  iapply (Rounds.wp_signal 𝒱₀ ER (talk cont) (c : Thread nD τ) none (dst := (nb 1 c : Thread nD τ)) (sem := bar) (r := 0) (d := 0)
      (κ := K (barCell (nb 1 c))) (k' := 1) (by rw [show ((nb 1 c : Thread nD τ), SemLoc.reg bar) = cellOf (nb 1 c) .bar from rfl, duties_cell]; exact Finset.mem_univ _)
      (amount_cell cont _ .bar 0 0) 1 O rfl) $$ [HO Ht1 R0 R2]
  · isplitr; · iapply (ctx_inv cont K (nb 1 c) .bar); iexact Hc
    isplitl [HO]; · iexact HO
    isplitl [Ht1]; · iexact Ht1
    isplitl [R0 R2]
    · iapply (barPay_to cont c 1 0 rfl)
      isplitl [R0]; · iexact R0
      iexact R2
    · iexact Hr1
  iintro HO
  iapply (Rounds.wp_wait_rest_token 𝒱₀ ER (talk cont) (c : Thread nD τ) none (κ := K (barCell c)) (sm := locOf .bar) (k' := 2)
      (wpE_semWait_eq 𝒱₀ (c : Thread nD τ) none Set.univ) (Set.mem_univ _) 1 (O := O) (W := W) (R := 0) (m := 0) (T := ∅)
      ((Nat.zero_add 2).trans (expect_cell cont c .bar 0).symm)) $$ [Hcr HO Hat]
  · isplitr; · iapply (ctx_inv cont K c .bar); iexact Hc
    isplitl [Hcr]; · iexact Hcr
    isplitl [HO]; · iexact HO
    isplitr; · iapply (ctx_may cont K c (locOf .bar) hO (by omega)); iexact Hc
    iexact Hat
  iintro ⟨HO, Hat, -, Hpay⟩
  ihave Hp := (Entails.of_eq (bar_rest cont c)) $$ Hpay
  unfold barPay
  icases Hp with ⟨⟨R0, R2⟩, ⟨R1, R3⟩⟩
  iapply Hk
  unfold ready
  isplitl [Hat]; · iexact Hat
  isplitr [HO]
  · isplitl [R0]; · iexact R0
    isplitl [R1]; · iexact R1
    isplitl [R2]; · iexact R2
    iexact R3
  iexists _; iexact HO

/-! ## The first hop -/

/-- Stream `j` before its first hop. -/
def preS (c : Dev nD) (j : Fin 4) : sProp 𝕄 :=
  iprop(atPos ER (rcvCell c j (par 1)) 0 ∅ 0 ∗ atPos ER (rcvCell c j (par 0)) 0 ∅ 0
    ∗ atPos ER (sndCell c j (par 0)) 0 ∅ 0 ∗ atPos ER (sndCell c j (par 1)) 0 ∅ 0 ∗ atPos ER (crdCell c j) 0 ∅ 0
    ∗ (reached ER (sndCell c j (par 1)) 0 ∗ reached ER (rcvCell c j (par 0)) 0 ∗ reached ER (sndCell c j (par 0)) 0 ∗ reached ER (crdCell c j) 0)
    ∗ cred (tallyAt (rcvCell c j (par 1)) (rix 0 j) N)
    ∗ dutyTok ER (sndCell c j (par 0)) 0 0 ∗ dutyTok ER (rcvCell (dstOf j c) j (par 1)) 0 0
    ∗ bigSep (Finset.Ico 0 14) (fun i => stepRes (F := F) c j i))

/-- Hop 0 uses slot 0. -/
theorem par_zero : par 0 = 0 := rfl
/-- Hop 1 uses slot 1. -/
theorem par_one : par 1 = 1 := rfl

/-- The first send of a stream. -/
theorem wp_first (K : GSem nD τ sig → ℕ) (c : Dev nD) (j : Fin 4) (O : Owe) {d : Dev nD} (hd : d = dstOf j c)
    (k : Body F) (Φ : PUnit → sProp 𝕄) :
    iprop(ctx (contV A B) K ∗ preS c j ∗ slotHas c j 0 (contV A B j 0 c) ∗ ready (dstOf j c) j ∗ owe c (O + rT c j 0))
      ⊢ iprop(((strm c j 0 ∗ owe c O) -∗ WP c k Φ) -∗ WP c (sendK j 0 d k) Φ) := by
  subst hd
  unfold preS ready
  rw [← par_zero, ← par_one]
  iintro ⟨#Hc, ⟨HaR, HaR', HaS, HaS', HaC, ⟨#HrS1, #HrR0, #HrS0, #HrC⟩, HcR, HtS, HtR, Hrest⟩, Hs, ⟨Hd, #HrD⟩, HO⟩ Hk
  iapply (wp_sendHop (contV A B) K c j (h := 0) (by omega) rfl) $$ [Hs Hd HO HtS HtR]
  · isplitr; · iexact Hc
    isplitl [Hs]; · iexact Hs
    isplitl [Hd]; · iexact Hd
    isplitr; · iexact HrC
    isplitl [HO]; · iexact HO
    isplitl [HtS]; · iexact HtS
    isplitr; · iexact HrS0
    isplitl [HtR]; · iexact HtR
    iexact HrD
  iintro ⟨HcS, HO⟩
  iapply Hk
  isplitr [HO]
  · unfold strm
    isplitl [HaR]; · iexact HaR
    isplitl [HaR']; · iexact HaR'
    isplitl [HaS]; · iexact HaS
    isplitl [HaS']; · iexact HaS'
    isplitl [HaC]; · iexact HaC
    isplitr; · iexact HrS1
    isplitr; · iexact HrR0
    isplitl [HcS]; · iexact HcS
    isplitl [HcR]; · iexact HcR
    iexact Hrest
  iexact HO

/-! ## The last hop -/

/-- A stream when all is done. -/
def endS (c : Dev nD) (j : Fin 4) : sProp 𝕄 :=
  iprop(atPos ER (rcvCell c j 0) 7 ∅ 0 ∗ atPos ER (rcvCell c j 1) 8 ∅ 0 ∗ atPos ER (sndCell c j 0) 8 ∅ 0 ∗ atPos ER (sndCell c j 1) 7 ∅ 0
    ∗ atPos ER (crdCell c j) 14 ∅ 0 ∗ slotAny c j 0 ∗ slotAny c j 1)
/-- A stream that only its last sending is waited for. -/
def lastS (c : Dev nD) (j : Fin 4) : sProp 𝕄 :=
  iprop(atPos ER (rcvCell c j 0) 7 ∅ 0 ∗ atPos ER (rcvCell c j 1) 8 ∅ 0 ∗ atPos ER (sndCell c j 0) 7 ∅ 0 ∗ atPos ER (sndCell c j 1) 7 ∅ 0
    ∗ atPos ER (crdCell c j) 14 ∅ 0 ∗ cred (tallyAt (sndCell c j 0) 0 N) ∗ slotAny c j 1)

/-- The result at `f`. -/
def outHas (c : Dev nD) (f : Vec F S128x2048 .f32) : sProp 𝕄 := (oM.view.loc (c : Thread nD τ) ↦{fullShare} (f : Buf (Elt F) (oM.view.loc (c : Thread nD τ))))

/-- Stream `j`'s columns put into the result. -/
def putOut (j : Fin 4) (f : Vec F S128x2048 .f32) (w : Vec F S128x512 .f32) : Vec F S128x2048 .f32 :=
  (oM.access (outR j)).write (Elt F) f w Finset.univ

/-- What stream `j` contributes to the result. -/
def outV (c : Dev nD) (j : Fin 4) : Vec F S128x512 .f32 :=
  (extf .f32 (addf (contV A B j 14 (upsOf j c)) (loV (loOf j) (pcV (dirOf j) (A c) (B c) (chk (dirOf j) c 15))) : FVec F S128x512 .bf16) bitsLt_bf16_f32 : FVec F S128x512 .f32)

/-- A slot, its contents forgotten. -/
theorem slotHas_any (c : Dev nD) (j : Fin 4) (p : Fin 2) (v : Vec F S128x512 .bf16) : (slotHas c j p v : sProp 𝕄) ⊢ slotAny c j p := by
  unfold slotHas slotAny
  iintro ⟨%f, -, H⟩
  iexists f; iexact H

/-- The addition of the last hop, into the result. -/
theorem wp_out (c : Dev nD) (j : Fin 4) (v : Vec F S128x512 .bf16) (w : Vec F S128x1024 .bf16) (f : Vec F S128x2048 .f32)
    {h₁ h₂ h₃ h₄ h₅} (k : Body F) (Φ : PUnit → sProp 𝕄) :
    iprop(slotHas c j 1 v ∗ pcHas c (dirOf j) w ∗ outHas c f)
      ⊢ iprop(((slotHas c j 1 v ∗ pcHas c (dirOf j) w
            ∗ outHas c (putOut j f (extf .f32 (addf v (loV (loOf j) w) : FVec F S128x512 .bf16) bitsLt_bf16_f32 : FVec F S128x512 .f32))) -∗ WP c k Φ)
        -∗ WP c (.op (.load (bufM j) (slotR 1).toLoadRect h₁) fun (x : Vec F S1x128x512 .bf16) =>
  .op (.load (pcM (dirOf j)) (loR (loOf j)).toLoadRect h₂) fun (y : Vec F S128x512 .bf16) =>
  .op (.load oM (outR j).toLoadRect h₃) fun (_ : Vec F S128x512 .f32) =>
  .op (.store oM (outR j) (outPay x y) Finset.univ h₄ h₅) fun _ => k) Φ) := by
  conv_lhs => unfold slotHas outHas
  iintro ⟨⟨%g, %hg, Hs⟩, Hp, Ho⟩ Hk
  iapply (wp_loadSlot c j 1 g) $$ Hs
  iintro Hs
  iapply (wp_loadLo c (dirOf j) (loOf j) w) $$ Hp
  iintro Hp
  iapply (wp_ld c oM _ f) $$ Ho
  iintro Ho
  iapply (wp_st c oM _ f _ _) $$ Ho
  iintro Ho
  iapply Hk
  isplitl [Hs]
  · unfold slotHas
    iexists g
    isplitr; · ipureintro; exact hg
    iexact Hs
  isplitl [Hp]; · iexact Hp
  rw [← hg, slot_read]
  unfold outHas
  iexact Ho

/-- The last hop of a stream, into the result. -/
theorem wp_lastK (K : GSem nD τ sig → ℕ) (c : Dev nD) (j : Fin 4) (f : Vec F S128x2048 .f32) (k : Body F) (Φ : PUnit → sProp 𝕄) :
    iprop(ctx (contV A B) K ∗ strm c j 14 ∗ pcHas c (dirOf j) (pcV (dirOf j) (A c) (B c) (chk (dirOf j) c 15)) ∗ outHas c f ∗ owe c 0)
      ⊢ iprop(((lastS c j ∗ pcHas c (dirOf j) (pcV (dirOf j) (A c) (B c) (chk (dirOf j) c 15)) ∗ outHas c (putOut j f (outV A B c j)) ∗ owe c 0) -∗ WP c k Φ)
        -∗ WP c (lastK j k) Φ) := by
  unfold strm lastK
  iintro ⟨#Hc, ⟨HaR, HaR', HaS, HaS', HaC, -, -, HcS, HcR, -⟩, Hp, Ho, HO⟩ Hk
  iapply (wp_waitRcv (contV A B) K c j (h := 14) (le_refl _) (above_zero _)) $$ [HcR HO HaR]
  · isplitr; · iexact Hc
    isplitl [HcR]; · iexact HcR
    isplitl [HO]; · iexact HO
    iexact HaR
  iintro ⟨HO, HaR, -, Hs, -⟩
  iapply (wp_out c j _ _ f) $$ [Hs Hp Ho]
  · isplitl [Hs]; · iexact Hs
    isplitl [Hp]; · iexact Hp
    iexact Ho
  iintro ⟨Hs, Hp, Ho⟩
  iapply Hk
  isplitr [Hp Ho HO]
  · unfold lastS
    isplitl [HaR']; · iexact HaR'
    isplitl [HaR]; · iexact HaR
    isplitl [HaS]; · iexact HaS
    isplitl [HaS']; · iexact HaS'
    isplitl [HaC]; · iexact HaC
    isplitl [HcS]; · iexact HcS
    iapply slotHas_any; iexact Hs
  isplitl [Hp]; · iexact Hp
  isplitl [Ho]; · iexact Ho
  iexact HO

/-- The wait for a stream's last send. -/
theorem wp_lastWait (K : GSem nD τ sig → ℕ) (c : Dev nD) (j : Fin 4) (k : Body F) (Φ : PUnit → sProp 𝕄) :
    iprop(ctx (contV A B) K ∗ lastS c j ∗ owe c 0)
      ⊢ iprop(((endS c j ∗ owe c 0) -∗ WP c k Φ) -∗ WP c (waitK (snd j 0) j 1 0 k) Φ) := by
  unfold lastS endS
  iintro ⟨#Hc, ⟨HaR, HaR', HaS, HaS', HaC, HcS, Hs⟩, HO⟩ Hk
  iapply (wp_waitSnd (contV A B) K c j (h := 14) (le_refl _) (above_zero _)) $$ [HcS HO HaS]
  · isplitr; · iexact Hc
    isplitl [HcS]; · iexact HcS
    isplitl [HO]; · iexact HO
    iexact HaS
  iintro ⟨HO, HaS, -, Hs0⟩
  iapply Hk
  isplitr [HO]
  · isplitl [HaR]; · iexact HaR
    isplitl [HaR']; · iexact HaR'
    isplitl [HaS]; · iexact HaS
    isplitl [HaS']; · iexact HaS'
    isplitl [HaC]; · iexact HaC
    isplitl [Hs0]; · iexact Hs0
    iexact Hs
  iexact HO

end Cert.KernelIdeal.RS
-- ==== Proof.Body.lean ====
module

public import proofs.«01_k».proof.Proof.Ends

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

variable (A : Dev nD → Vec F S2048x1024 .bf16) (B : Dev nD → Vec F S1024x2048 .bf16) (P : Dev nD → Vec F S32 .i32)

/-! ## The start -/

/-- What a device owes at the start of each hop-0 sending, from the last to the first, and at the barrier. -/
def owA (c : Dev nD) : Owe := ow c 0 + rT c 3 0 + rT c 2 0 + rT c 1 0 + rT c 0 0
def owStart (c : Dev nD) : Owe := owA c + bT c 1 + bT c 0

/-- All that is owed at the barrier is above the barrier's level. -/
theorem above_owA (c : Dev nD) : Above 1 (owA c) :=
  ((((above_ow c (by omega)).add (above_tally _ _ _ (by decide) (by decide))).add (above_tally _ _ _ (by decide) (by decide))).add
    (above_tally _ _ _ (by decide) (by decide))).add (above_tally _ _ _ (by decide) (by decide))

/-- An operand in its staging buffer. -/
def aHas (c : Dev nD) (a : Vec F S2048x1024 .bf16) : sProp 𝕄 := (aM.view.loc (c : Thread nD τ) ↦{fullShare} (a : Buf (Elt F) (aM.view.loc (c : Thread nD τ))))
def bHas (c : Dev nD) (b : Vec F S1024x2048 .bf16) : sProp 𝕄 := (bM.view.loc (c : Thread nD τ) ↦{fullShare} (b : Buf (Elt F) (bM.view.loc (c : Thread nD τ))))

/-- The scratch buffers at contents not named. -/
def scratch (c : Dev nD) : sProp 𝕄 :=
  iprop((∃ f : Buf (Elt F) (abM.view.loc (c : Thread nD τ)), (abM.view.loc (c : Thread nD τ) ↦{fullShare} f))
    ∗ (∃ f : Buf (Elt F) (bbM.view.loc (c : Thread nD τ)), (bbM.view.loc (c : Thread nD τ) ↦{fullShare} f))
    ∗ pcAny c 0 ∗ pcAny c 1)

/-- What the kernel starts from, beside the parameters. -/
def startR (c : Dev nD) : sProp 𝕄 :=
  iprop(barR c ∗ (preS c 0 ∗ preS c 1 ∗ preS c 2 ∗ preS c 3)
    ∗ (slotAny c 0 0 ∗ slotAny c 1 0 ∗ slotAny c 2 0 ∗ slotAny c 3 0) ∗ (ready c 0 ∗ ready c 1 ∗ ready c 2 ∗ ready c 3)
    ∗ aHas c (A c) ∗ bHas c (B c) ∗ scratch c ∗ owe c (owStart c))

/-- The barrier, the operands' copies, the first two products, and the first hop of every stream. -/
theorem wp_start (K : GSem nD τ sig → ℕ) (c : Dev nD) {d u : Dev nD} (hd : d = nb 0 c) (hu : u = nb 1 c)
    {off₀ off₁ : Fin 2 → ℕ} {inb₀ inb₁} (o₀ : off₀ = rowOff (nb 1 c)) (o₁ : off₁ = rowOff (nb 0 c))
    {d₀ d₁ d₂ d₃ : Dev nD} (hd₀ : d₀ = nb 0 c) (hd₁ : d₁ = nb 1 c) (hd₂ : d₂ = nb 0 c) (hd₃ : d₃ = nb 1 c)
    {k : Body F} {Φ : PUnit → sProp 𝕄} {R : sProp 𝕄}
    (hk : iprop(work A B P c 0 ∗ ctx (contV A B) K ∗ strms c 0 ∗ R ∗ aHas c (A c) ∗ bHas c (B c) ∗ atPos ER (barCell c) 1 ∅ 0) ⊢ WP c k Φ) :
    iprop(prmHas c (P c) ∗ ctx (contV A B) K ∗ startR A B c ∗ R)
      ⊢ WP c (barK d u <| abK <| bbK <| mmK 0 off₀ inb₀ <| mmK 1 off₁ inb₁ <| initK 0 <| initK 1 <| initK 2 <| initK 3 <|
        sendK 0 0 d₀ <| sendK 1 0 d₁ <| sendK 2 0 d₂ <| sendK 3 0 d₃ k) Φ := by
  unfold startR scratch owStart aHas bHas
  unfold aHas bHas at hk
  iintro ⟨Hprm, #Hc, ⟨Hbar, ⟨S0, S1, S2, S3⟩, ⟨Z0, Z1, Z2, Z3⟩, Hrd, Ha, Hb, ⟨Hab, Hbb, Hp0, Hp1⟩, HO⟩, HR⟩
  iapply (wp_barK (contV A B) K c (above_owA c) hd hu) $$ [Hbar Hrd HO]
  · isplitr; · iexact Hc
    isplitl [Hbar]; · iexact Hbar
    isplitl [Hrd]; · iexact Hrd
    iexact HO
  iintro ⟨Hbar, ⟨R0, R1, R2, R3⟩, HO⟩
  unfold owA
  iapply (wp_abK c (A c)) $$ [Ha Hab]
  · isplitl [Ha]; · iexact Ha
    iexact Hab
  iintro ⟨Ha, Hab⟩
  iapply (wp_bbK c (B c)) $$ [Hb Hbb]
  · isplitl [Hb]; · iexact Hb
    iexact Hbb
  iintro ⟨Hb, Hbb⟩
  iapply (wp_mm c 0 (nb 1 c) o₀ _ (A c) (B c)) $$ [Hab Hbb Hp0]
  · isplitl [Hab]; · iexact Hab
    isplitl [Hbb]; · iexact Hbb
    iexact Hp0
  iintro ⟨Hab, Hbb, Hp0⟩
  iapply (wp_mm c 1 (nb 0 c) o₁ _ (A c) (B c)) $$ [Hab Hbb Hp1]
  · isplitl [Hab]; · iexact Hab
    isplitl [Hbb]; · iexact Hbb
    iexact Hp1
  iintro ⟨Hab, Hbb, Hp1⟩
  iapply (wp_initK c 0 _) $$ [Z0 Hp0]
  · isplitl [Z0]; · iexact Z0
    iexact Hp0
  iintro ⟨Z0, Hp0⟩
  iapply (wp_initK c 1 _) $$ [Z1 Hp1]
  · isplitl [Z1]; · iexact Z1
    iexact Hp1
  iintro ⟨Z1, Hp1⟩
  iapply (wp_initK c 2 _) $$ [Z2 Hp0]
  · isplitl [Z2]; · iexact Z2
    iexact Hp0
  iintro ⟨Z2, Hp0⟩
  iapply (wp_initK c 3 _) $$ [Z3 Hp1]
  · isplitl [Z3]; · iexact Z3
    iexact Hp1
  iintro ⟨Z3, Hp1⟩
  iapply (wp_first A B K c 0 _ hd₀) $$ [S0 Z0 R0 HO]
  · isplitr; · iexact Hc
    isplitl [S0]; · iexact S0
    isplitl [Z0]; · iexact Z0
    isplitl [R0]; · iexact R0
    iexact HO
  iintro ⟨S0, HO⟩
  iapply (wp_first A B K c 1 _ hd₁) $$ [S1 Z1 R1 HO]
  · isplitr; · iexact Hc
    isplitl [S1]; · iexact S1
    isplitl [Z1]; · iexact Z1
    isplitl [R1]; · iexact R1
    iexact HO
  iintro ⟨S1, HO⟩
  iapply (wp_first A B K c 2 _ hd₂) $$ [S2 Z2 R2 HO]
  · isplitr; · iexact Hc
    isplitl [S2]; · iexact S2
    isplitl [Z2]; · iexact Z2
    isplitl [R2]; · iexact R2
    iexact HO
  iintro ⟨S2, HO⟩
  iapply (wp_first A B K c 3 _ hd₃) $$ [S3 Z3 R3 HO]
  · isplitr; · iexact Hc
    isplitl [S3]; · iexact S3
    isplitl [Z3]; · iexact Z3
    isplitl [R3]; · iexact R3
    iexact HO
  iintro ⟨S3, HO⟩
  iapply hk
  isplitl [Hprm Hab Hbb Hp0 Hp1]
  · unfold work
    isplitl [Hprm]; · iexact Hprm
    isplitl [Hab]; · iexact Hab
    isplitl [Hbb]; · iexact Hbb
    isplitl [Hp0]; · iexact Hp0
    iexact Hp1
  isplitr; · iexact Hc
  isplitl [S0 S1 S2 S3 HO]
  · unfold strms
    isplitl [S0]; · iexact S0
    isplitl [S1]; · iexact S1
    isplitl [S2]; · iexact S2
    isplitl [S3]; · iexact S3
    iexact HO
  isplitl [HR]; · iexact HR
  isplitl [Ha]; · iexact Ha
  isplitl [Hb]; · iexact Hb
  iexact Hbar

/-! ## The end -/

/-- The whole result of a device, over what the buffer held. -/
def outW (c : Dev nD) (f : Vec F S128x2048 .f32) : Vec F S128x2048 .f32 :=
  putOut 3 (putOut 2 (putOut 1 (putOut 0 f (outV A B c 0)) (outV A B c 1)) (outV A B c 2)) (outV A B c 3)

/-- The last hop of every stream, and the waits for the last sendings. -/
theorem wp_end (K : GSem nD τ sig → ℕ) (c : Dev nD) (f : Vec F S128x2048 .f32) {k : Body F} {Φ : PUnit → sProp 𝕄} {R : sProp 𝕄}
    (hk : iprop((endS c 0 ∗ endS c 1 ∗ endS c 2 ∗ endS c 3) ∗ work A B P c 15 ∗ outHas c (outW A B c f) ∗ owe c 0 ∗ ctx (contV A B) K ∗ R) ⊢ WP c k Φ) :
    iprop(work A B P c 15 ∗ ctx (contV A B) K ∗ strms c 14 ∗ outHas c f ∗ R)
      ⊢ WP c (lastK 0 <| lastK 1 <| lastK 2 <| lastK 3 <|
        waitK (snd 0 0) 0 1 0 <| waitK (snd 1 0) 1 1 0 <| waitK (snd 2 0) 2 1 0 <| waitK (snd 3 0) 3 1 0 k) Φ := by
  conv_lhs => unfold work strms
  rw [show ow c (4 * 14) = 0 from ow_end c]
  iintro ⟨⟨Hprm, Hab, Hbb, Hp0, Hp1⟩, #Hc, ⟨S0, S1, S2, S3, HO⟩, Hf, HR⟩
  iapply (wp_lastK A B K c 0 f) $$ [S0 Hp0 Hf HO]
  · isplitr; · iexact Hc
    isplitl [S0]; · iexact S0
    isplitl [Hp0]; · iexact Hp0
    isplitl [Hf]; · iexact Hf
    iexact HO
  iintro ⟨S0, Hp0, Hf, HO⟩
  iapply (wp_lastK A B K c 1 _) $$ [S1 Hp1 Hf HO]
  · isplitr; · iexact Hc
    isplitl [S1]; · iexact S1
    isplitl [Hp1]; · iexact Hp1
    isplitl [Hf]; · iexact Hf
    iexact HO
  iintro ⟨S1, Hp1, Hf, HO⟩
  iapply (wp_lastK A B K c 2 _) $$ [S2 Hp0 Hf HO]
  · isplitr; · iexact Hc
    isplitl [S2]; · iexact S2
    isplitl [Hp0]; · iexact Hp0
    isplitl [Hf]; · iexact Hf
    iexact HO
  iintro ⟨S2, Hp0, Hf, HO⟩
  iapply (wp_lastK A B K c 3 _) $$ [S3 Hp1 Hf HO]
  · isplitr; · iexact Hc
    isplitl [S3]; · iexact S3
    isplitl [Hp1]; · iexact Hp1
    isplitl [Hf]; · iexact Hf
    iexact HO
  iintro ⟨S3, Hp1, Hf, HO⟩
  iapply (wp_lastWait A B K c 0) $$ [S0 HO]
  · isplitr; · iexact Hc
    isplitl [S0]; · iexact S0
    iexact HO
  iintro ⟨S0, HO⟩
  iapply (wp_lastWait A B K c 1) $$ [S1 HO]
  · isplitr; · iexact Hc
    isplitl [S1]; · iexact S1
    iexact HO
  iintro ⟨S1, HO⟩
  iapply (wp_lastWait A B K c 2) $$ [S2 HO]
  · isplitr; · iexact Hc
    isplitl [S2]; · iexact S2
    iexact HO
  iintro ⟨S2, HO⟩
  iapply (wp_lastWait A B K c 3) $$ [S3 HO]
  · isplitr; · iexact Hc
    isplitl [S3]; · iexact S3
    iexact HO
  iintro ⟨S3, HO⟩
  iapply hk
  isplitl [S0 S1 S2 S3]
  · isplitl [S0]; · iexact S0
    isplitl [S1]; · iexact S1
    isplitl [S2]; · iexact S2
    iexact S3
  isplitl [Hprm Hab Hbb Hp0 Hp1]
  · unfold work
    isplitl [Hprm]; · iexact Hprm
    isplitl [Hab]; · iexact Hab
    isplitl [Hbb]; · iexact Hbb
    isplitl [Hp0]; · iexact Hp0
    iexact Hp1
  isplitl [Hf]; · iexact Hf
  isplitl [HO]; · iexact HO
  isplitr; · iexact Hc
  iexact HR

/-! ## The whole body -/

/-- A device the body computes from a word, and the rows it computes from one. -/
theorem devEq (x : Dev nD) (h) : (⟨(0#32 + BitVec.ofNat 32 x.val * 1#32).toNat, h⟩ : Dev nD) = x := by
  revert h; revert x; decide
/-- A device's word names a device. -/
theorem devLt (x : Dev nD) : (0#32 + BitVec.ofNat 32 x.val * 1#32).toNat < nD := by
  revert x; decide
/-- The rows' offset, computed from a device's word. -/
theorem offEq (x : Dev nD) : (![(BitVec.ofNat 32 x.val * 128#32).toNat, 0] : Fin 2 → ℕ) = rowOff x := by
  revert x; decide
/-- The rows so computed lie in the left operand. -/
theorem offInb (x : Dev nD) : ∀ a, (![(BitVec.ofNat 32 x.val * 128#32).toNat, 0] : Fin 2 → ℕ) a + S128x1024.size a ≤ S2048x1024.size a := by
  revert x; decide

/-- A device's neighbours' words pass the checks the body makes of the first two. -/
theorem chkOk1 (x : Dev nD) : k0_chk1 (BitVec.ofNat 32 x.val) := by revert x; decide
/-- Every device's word passes the check of a chunk. -/
theorem chkOk2 (x : Dev nD) : k0_chk2 (BitVec.ofNat 32 x.val) := by revert x; decide

/-- A parameter that the table names is read as that device. -/
theorem wp_word' (hP : ∀ c, Prm c (P c)) (c : Dev nD) (i : Fin 32) {x : Dev nD} (hx : tab c i = x) {C : Vec F S1 .i32 → Prop} {dec} (h : C (wrd x))
    {k : ∀ w, PLift (C w) → Body F} {Φ : PUnit → sProp 𝕄} {R : sProp 𝕄} (hk : iprop(prmHas c (P c) ∗ R) ⊢ WP c (k (wrd x) ⟨h⟩) Φ) :
    iprop(prmHas c (P c) ∗ R) ⊢ WP c (wordK i C dec k) Φ := by
  subst hx
  iintro ⟨Hp, HR⟩
  iapply (wp_word P hP c i C _ h) $$ Hp
  iintro Hp
  iapply hk
  isplitl [Hp]; · iexact Hp
  iexact HR

/-- The table's chunks in the first direction. -/
theorem tab_fst (c : Dev nD) {i : Fin 32} {h : ℕ} (e : i.val = h + 3) (hh : h < 14) : tab c i = chk 0 c (h + 2) := by
  unfold tab
  rw [if_neg (by omega), if_neg (by omega), if_pos (by omega), show i.val - 1 = h + 2 by omega]
/-- The table's chunks in the second direction. -/
theorem tab_snd (c : Dev nD) {i : Fin 32} {h : ℕ} (e : i.val = h + 18) : tab c i = chk 1 c (h + 2) := by
  unfold tab
  rw [if_neg (by omega), if_neg (by omega), if_neg (by omega), show i.val - 16 = h + 2 by omega]

/-- One round: a hop of every stream, then the next two products. -/
theorem wp_round (hP : ∀ c, Prm c (P c)) (K : GSem nD τ sig → ℕ) (c : Dev nD) (h : ℕ) (p : Fin 2) (i₁ i₂ : Fin 32) (hh : h < 14 := by decide) (hp : p = par h := by rfl)
    {u₀ d₀ u₁ d₁ u₂ d₂ u₃ d₃ : Dev nD} (hu₀ : u₀ = nb 1 c := by exact devEq _ _) (hd₀ : d₀ = nb 0 c := by exact devEq _ _) (hu₁ : u₁ = nb 0 c := by exact devEq _ _) (hd₁ : d₁ = nb 1 c := by exact devEq _ _)
    (hu₂ : u₂ = nb 1 c := by exact devEq _ _) (hd₂ : d₂ = nb 0 c := by exact devEq _ _) (hu₃ : u₃ = nb 0 c := by exact devEq _ _) (hd₃ : d₃ = nb 1 c := by exact devEq _ _)
    (h₁ : i₁.val = h + 3 := by rfl) (h₂ : i₂.val = h + 18 := by rfl)
    {C₁ C₂ : Vec F S1 .i32 → Prop} {dec₁ dec₂} (c₁ : C₁ (wrd (tab c i₁)) := by exact offInb _) (c₂ : C₂ (wrd (tab c i₂)) := by exact offInb _)
    {off₁ off₂ : Vec F S1 .i32 → Fin 2 → ℕ} {inb₁ : ∀ w, PLift (C₁ w) → ∀ a, off₁ w a + S128x1024.size a ≤ S2048x1024.size a}
    {inb₂ : ∀ w, PLift (C₂ w) → ∀ a, off₂ w a + S128x1024.size a ≤ S2048x1024.size a}
    (o₁ : ∀ x : Dev nD, off₁ (wrd x) = rowOff x := by exact offEq) (o₂ : ∀ x : Dev nD, off₂ (wrd x) = rowOff x := by exact offEq)
    {k : ∀ w, PLift (C₁ w) → ∀ w', PLift (C₂ w') → Body F} {Φ : PUnit → sProp 𝕄} {R : sProp 𝕄}
    (hk : iprop(work A B P c (h + 2) ∗ ctx (contV A B) K ∗ strms c (h + 1) ∗ R) ⊢ WP c (k (wrd (tab c i₁)) ⟨c₁⟩ (wrd (tab c i₂)) ⟨c₂⟩) Φ) :
    iprop(work A B P c (h + 1) ∗ ctx (contV A B) K ∗ strms c h ∗ R)
      ⊢ WP c (hopK 0 p u₀ d₀ <| hopK 1 p u₁ d₁ <| hopK 2 p u₂ d₂ <| hopK 3 p u₃ d₃ <|
        wordK i₁ C₁ dec₁ fun w hw => mmK 0 (off₁ w) (inb₁ w hw) <| wordK i₂ C₂ dec₂ fun w' hw' => mmK 1 (off₂ w') (inb₂ w' hw')
          (k w hw w' hw')) Φ :=
  wp_hops A B P K c h hh hp hu₀ hd₀ hu₁ hd₁ hu₂ hd₂ hu₃ hd₃ (wp_pair A B P hP c (h + 1) i₁ i₂ (tab_fst c h₁ hh) (tab_snd c h₂) c₁ c₂ o₁ o₂ hk)

/-- The body of the kernel's one region, at the buffers it is given. -/
def bodyP : Body F :=
  cc0_body aM (Memref.isWhole_whole _) bM (Memref.isWhole_whole _) prmM (Memref.isWhole_whole _) oM (Memref.isWhole_whole _) (Memref.whole
    cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) cc0_scratch5 cc0_scratch6 cc0_scratch7
    (Memref.whole cc0_scratch8) (Memref.isWhole_whole _) cc0_scratch9 cc0_scratch10 cc0_scratch11 (Memref.whole cc0_scratch12) (Memref.isWhole_whole
    _) cc0_scratch13 cc0_scratch14 cc0_scratch15 (Memref.whole cc0_scratch16) (Memref.isWhole_whole _) cc0_scratch17 cc0_scratch18 cc0_scratch19

/-- The state the body ends in. -/
def fin (K : GSem nD τ sig → ℕ) (c : Dev nD) (f : Vec F S128x2048 .f32) : sProp 𝕄 :=
  iprop((endS c 0 ∗ endS c 1 ∗ endS c 2 ∗ endS c 3) ∗ work A B P c 15 ∗ outHas c (outW A B c f) ∗ owe c 0 ∗ ctx (contV A B) K
    ∗ aHas c (A c) ∗ bHas c (B c) ∗ atPos ER (barCell c) 1 ∅ 0)

set_option maxRecDepth 65536 in
set_option maxHeartbeats 2000000 in
/-- The body, run from its start to its end on one device. -/
theorem wp_body (hP : ∀ c, Prm c (P c)) (K : GSem nD τ sig → ℕ) (c : Dev nD) (f : Vec F S128x2048 .f32) {Φ : PUnit → sProp 𝕄}
    (hΦ : fin A B P K c f ⊢ WP c (.ret ⟨⟩) Φ) :
    iprop(prmHas c (P c) ∗ ctx (contV A B) K ∗ startR A B c ∗ outHas c f) ⊢ WP c (bodyP (F := F)) Φ := by
  unfold bodyP
  refine wp_word' P hP c 0 (x := nb 0 c) (by rfl) (by exact chkOk1 _) ?_
  refine wp_word' P hP c 1 (x := nb 1 c) (by rfl) (by exact chkOk2 _) ?_
  refine wp_start A B P K c (by exact devEq _ _) (by exact devEq _ _) (by exact offEq _) (by exact offEq _)
    (by exact devEq _ _) (by exact devEq _ _) (by exact devEq _ _) (by exact devEq _ _) ?_
  refine wp_pair A B P hP c 0 2 17 (by rfl) (by rfl) (by exact offInb _) (by exact offInb _) (by exact offEq) (by exact offEq) ?_
  refine wp_round A B P hP K c 0 0 3 18 (hk := ?_)
  refine wp_round A B P hP K c 1 1 4 19 (hk := ?_)
  refine wp_round A B P hP K c 2 0 5 20 (hk := ?_)
  refine wp_round A B P hP K c 3 1 6 21 (hk := ?_)
  refine wp_round A B P hP K c 4 0 7 22 (hk := ?_)
  refine wp_round A B P hP K c 5 1 8 23 (hk := ?_)
  refine wp_round A B P hP K c 6 0 9 24 (hk := ?_)
  refine wp_round A B P hP K c 7 1 10 25 (hk := ?_)
  refine wp_round A B P hP K c 8 0 11 26 (hk := ?_)
  refine wp_round A B P hP K c 9 1 12 27 (hk := ?_)
  refine wp_round A B P hP K c 10 0 13 28 (hk := ?_)
  refine wp_round A B P hP K c 11 1 14 29 (hk := ?_)
  refine wp_round A B P hP K c 12 0 15 30 (hk := ?_)
  refine wp_round A B P hP K c 13 1 16 31 (hk := ?_)
  exact wp_end A B P K c f hΦ

end Cert.KernelIdeal.RS
-- ==== Proof.Out.lean ====
module

public import proofs.«01_k».proof.Proof.Body

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

variable (A : Dev nD → Vec F S2048x1024 .bf16) (B : Dev nD → Vec F S1024x2048 .bf16)

/-! ## The result of a device, place by place -/

/-- A place of a stream's block. -/
def ixO (r : Fin 128) (k : Fin 512) : S128x512.Idx := fun | ⟨0, _⟩ => r | ⟨1, _⟩ => k

/-- The first column stream `j` fills. -/
def colO (j : Fin 4) : ℕ := (dirOf j).val * 1024 + (loOf j).val * 512

/-- Inside a stream's columns the result is what was put. -/
theorem putOut_in (j : Fin 4) (f : Vec F S128x2048 .f32) (w : Vec F S128x512 .f32) (i : S128x2048.Idx) (x : S128x512.Idx)
    (h₀ : (i 0).val = (x 0).val) (h₁ : (i 1).val = colO j + (x 1).val) : putOut j f w i = w x := by
  have e : (oM.access (outR j)).emb x = i := by
    funext a
    refine Fin.ext ?_
    fin_cases a
    · show 0 + 1 * (x 0).val = (i 0).val; omega
    · show colO j + 1 * (x 1).val = (i 1).val; omega
  rw [← e]
  exact View.write_emb_of_mem (v := oM.access (outR j)) f w (Finset.mem_univ x)

/-- Outside them it is what it was. -/
theorem putOut_out (j : Fin 4) (f : Vec F S128x2048 .f32) (w : Vec F S128x512 .f32) (i : S128x2048.Idx)
    (h : (i 1).val < colO j ∨ colO j + 512 ≤ (i 1).val) : putOut j f w i = f i := by
  refine View.write_of_not_mem (v := oM.access (outR j)) f w Finset.univ fun hm => ?_
  obtain ⟨x, -, e⟩ := Finset.mem_map.mp hm
  have e₁ : colO j + 1 * (x 1).val = (i 1).val := congrArg (fun y : S128x2048.Idx => (y 1).val) e
  have hx : (x 1).val < 512 := (x 1).isLt
  omega

/-- The stream that fills the columns from `512 q`. -/
def stOf : Fin 4 → Fin 4 := ![0, 2, 1, 3]
/-- The streams' columns, in order. -/
theorem colO_stOf : ∀ q : Fin 4, colO (stOf q) = 512 * q.val := by decide

/-- The result of a device. -/
def resV (c : Dev nD) : Vec F S128x2048 .f32 := fun i =>
  outV A B c (stOf ⟨(i 1).val / 512, by have : (i 1).val < 2048 := (i 1).isLt; omega⟩)
    (ixO (i 0) ⟨(i 1).val % 512, Nat.mod_lt _ (by decide)⟩)

/-- The result covers its buffer, so nothing of what the buffer held is left. -/
theorem outW_eq (c : Dev nD) (f : Vec F S128x2048 .f32) : outW A B c f = resV A B c := by
  funext i
  have hi : (i 1).val < 2048 := (i 1).isLt
  obtain ⟨q, hq⟩ : ∃ q : Fin 4, (i 1).val / 512 = q.val := ⟨⟨(i 1).val / 512, by omega⟩, rfl⟩
  have hr : resV A B c i = outV A B c (stOf q) (ixO (i 0) ⟨(i 1).val % 512, Nat.mod_lt _ (by decide)⟩) := by
    unfold resV
    rw [show (⟨(i 1).val / 512, by omega⟩ : Fin 4) = q from Fin.ext hq]
  have hin (j : Fin 4) (hj : j = stOf q) (g : Vec F S128x2048 .f32) : putOut j g (outV A B c j) i = resV A B c i := by
    subst hj
    rw [hr]
    refine putOut_in _ _ _ _ _ rfl ?_
    rw [colO_stOf]
    show (i 1).val = 512 * q.val + (i 1).val % 512
    omega
  have hout (j : Fin 4) (q' : Fin 4) (hj : j = stOf q') (hne : q ≠ q') (g : Vec F S128x2048 .f32) (w : Vec F S128x512 .f32) : putOut j g w i = g i := by
    subst hj
    refine putOut_out _ _ _ _ ?_
    rw [colO_stOf]
    have : q.val ≠ q'.val := fun h => hne (Fin.ext h)
    omega
  unfold outW
  fin_cases q
  · rw [hout 3 3 rfl (by decide), hout 2 1 rfl (by decide), hout 1 2 rfl (by decide)]; exact hin 0 rfl _
  · rw [hout 3 3 rfl (by decide)]; exact hin 2 rfl _
  · rw [hout 3 3 rfl (by decide), hout 2 1 rfl (by decide)]; exact hin 1 rfl _
  · exact hin 3 rfl _

end Cert.KernelIdeal.RS
-- ==== Proof.Cells.lean ====
module

public import proofs.«01_k».proof.Proof.Out

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Facts₀ Facts

variable {F : FTy → Type} [FloatOps F]

local notation "𝕄" => MT nD τ sig ℕ (Elt F) ℕ UU ℕ

variable (A : Dev nD → Vec F S2048x1024 .bf16) (B : Dev nD → Vec F S1024x2048 .bf16)
variable (cont : Cont F)

/-! ## The slots of a buffer -/

/-- A stream's buffer, whole, at contents not named. -/
def bufAny (c : Dev nD) (j : Fin 4) : sProp 𝕄 :=
  iprop(∃ f : Buf (Elt F) ((bufM j).view.loc (c : Thread nD τ)), (bufM j).view.loc (c : Thread nD τ) ↦{fullShare} f)

/-- A slot is one plane of its buffer. -/
theorem mem_slotR (p : Fin 2) (i : S2x128x512.Idx) : i ∈ (slotR p).set ↔ (i 0).val = p.val := by
  unfold slotR
  rw [Rect.mem_set_unit]
  constructor
  · intro h
    obtain ⟨h1, h2⟩ := h 0
    have h2 : (i 0).val < p.val + 1 := h2
    have h1 : p.val ≤ (i 0).val := h1
    omega
  · intro h a
    fin_cases a
    · show p.val ≤ (i 0).val ∧ (i 0).val < p.val + 1
      omega
    · have h1 : (i 1).val < 128 := (i 1).isLt
      show 0 ≤ (i 1).val ∧ (i 1).val < 0 + 128
      omega
    · have h2 : (i 2).val < 512 := (i 2).isLt
      show 0 ≤ (i 2).val ∧ (i 2).val < 0 + 512
      omega

/-- The two planes do not meet. -/
theorem slotR_disj : Disjoint (slotR 0).set (slotR 1).set :=
  Finset.disjoint_left.mpr fun i h h' => by
    rw [mem_slotR] at h h'
    exact absurd (h.symm.trans h') (by decide)
/-- The two planes make the buffer. -/
theorem slotR_union : (slotR 0).set ∪ (slotR 1).set = Finset.univ := by
  ext i
  rw [Finset.mem_union, mem_slotR, mem_slotR]
  have h : (i 0).val < 2 := (i 0).isLt
  refine ⟨fun _ => Finset.mem_univ _, fun _ => ?_⟩
  show (i 0).val = 0 ∨ (i 0).val = 1
  omega

/-- The elements of a slot, in its buffer. -/
theorem slot_plane (b : Ref sig .tc) (r : Rect b.ty.shape) : ((Memref.whole b).access r).set = r.set := View.set_slice_whole b r

/-- A whole buffer is its two slots, at contents not named. -/
theorem planes (ℓ : Loc nD τ sig) (S T : Finset (Idx ℓ)) (hd : Disjoint S T) (hu : S ∪ T = Finset.univ) :
    (iprop(∃ f : Buf (Elt F) ℓ, ℓ ↦{fullShare} f) : sProp 𝕄)
      ⊢ iprop((∃ f : Buf (Elt F) ℓ, ℓ ↦[S]{fullShare} f) ∗ (∃ f : Buf (Elt F) ℓ, ℓ ↦[T]{fullShare} f)) := by
  iintro ⟨%f, H⟩
  ihave H := (Entails.of_eq (congrArg (fun X => (ℓ ↦[X]{fullShare} f : sProp 𝕄)) hu.symm)) $$ H
  ihave H := (pointsTo_union (f := f) (q := fullShare) hd).1 $$ H
  icases H with ⟨H, H'⟩
  isplitl [H]
  · iexists f; iexact H
  iexists f; iexact H'
/-- And the other way. -/
theorem planes_join (ℓ : Loc nD τ sig) (S T : Finset (Idx ℓ)) (hd : Disjoint S T) (hu : S ∪ T = Finset.univ) :
    (iprop((∃ f : Buf (Elt F) ℓ, ℓ ↦[S]{fullShare} f) ∗ (∃ f : Buf (Elt F) ℓ, ℓ ↦[T]{fullShare} f)) : sProp 𝕄)
      ⊢ iprop(∃ f : Buf (Elt F) ℓ, ℓ ↦{fullShare} f) := by
  iintro ⟨⟨%f, H⟩, ⟨%g, H'⟩⟩
  ihave H := (pointsTo_join (f := f) (g := g) (q := fullShare) hd) $$ [H H']
  · isplitl [H] <;> iassumption
  ihave H := (Entails.of_eq (congrArg (fun X => (ℓ ↦[X]{fullShare} (T.piecewise g f) : sProp 𝕄)) hu)) $$ H
  iexists (T.piecewise g f); iexact H

/-- The slots of a stream make its buffer, as sets of elements. -/
theorem slot_facts (j : Fin 4) : Disjoint (slot j 0).view.set (slot j 1).view.set ∧ (slot j 0).view.set ∪ (slot j 1).view.set = Finset.univ := by
  rw [slot_set, slot_set]
  fin_cases j
  · exact (slot_plane cc0_scratch4 (slotR 0)).symm ▸ (slot_plane cc0_scratch4 (slotR 1)).symm ▸ ⟨slotR_disj, slotR_union⟩
  · exact (slot_plane cc0_scratch8 (slotR 0)).symm ▸ (slot_plane cc0_scratch8 (slotR 1)).symm ▸ ⟨slotR_disj, slotR_union⟩
  · exact (slot_plane cc0_scratch12 (slotR 0)).symm ▸ (slot_plane cc0_scratch12 (slotR 1)).symm ▸ ⟨slotR_disj, slotR_union⟩
  · exact (slot_plane cc0_scratch16 (slotR 0)).symm ▸ (slot_plane cc0_scratch16 (slotR 1)).symm ▸ ⟨slotR_disj, slotR_union⟩

/-- A stream's buffer is split into its slots. -/
theorem buf_split (c : Dev nD) (j : Fin 4) : (bufAny c j : sProp 𝕄) ⊢ iprop(slotAny c j 0 ∗ slotAny c j 1) :=
  planes ((slot j 0).view.loc (c : Thread nD τ)) _ _ (slot_facts j).1 (slot_facts j).2
/-- And put together again. -/
theorem buf_join (c : Dev nD) (j : Fin 4) : (iprop(slotAny c j 0 ∗ slotAny c j 1) : sProp 𝕄) ⊢ bufAny c j :=
  planes_join ((slot j 0).view.loc (c : Thread nD τ)) _ _ (slot_facts j).1 (slot_facts j).2

/-! ## A stream's cells, before and after -/

/-- A stream's cells, not yet in use. -/
def shutS (c : Dev nD) (j : Fin 4) : sProp 𝕄 :=
  iprop(openTok ER (crdCell c j) ∗ openTok ER (sndCell c j 0) ∗ openTok ER (sndCell c j 1) ∗ openTok ER (rcvCell c j 0) ∗ openTok ER (rcvCell c j 1))
/-- A stream's counters at zero. -/
def zeroS (c : Dev nD) (j : Fin 4) : sProp 𝕄 :=
  iprop(semVal (crdCell c j) 0 ∗ semVal (sndCell c j 0) 0 ∗ semVal (sndCell c j 1) 0 ∗ semVal (rcvCell c j 0) 0 ∗ semVal (rcvCell c j 1) 0)
/-- What a device is to pay and may use on stream `j`. -/
def payS (c : Dev nD) (j : Fin 4) : sProp 𝕄 :=
  iprop(cred (tallyAt (rcvCell c j (par 1)) (rix 0 j) N)
    ∗ dutyTok ER (sndCell c j (par 0)) 0 0 ∗ dutyTok ER (rcvCell (dstOf j c) j (par 1)) 0 0
    ∗ bigSep (Finset.Ico 0 14) (fun i => stepRes (F := F) c j i))

/-- One cell is opened from its invariant. -/
theorem cell_opens (K : GSem nD τ sig → ℕ) (c : Dev nD) (k : Kd) :
    iprop(invs cont K ∗ openTok ER (cellOf c k) ∗ semVal (cellOf c k) 0)
      ⊢ (iprop(|={Set.univ}=> (atPos ER (cellOf c k) 0 ∅ 0 ∗ reached ER (cellOf c k) 0)) : sProp 𝕄) := by
  iintro ⟨#Hc, Ho, Hz⟩
  imod (Rounds.cell_open ER (talk cont) (g := cellOf c k) (Set.mem_univ (K (cellOf c k)))) $$ [Ho Hz] with ⟨Ha, Hr⟩
  · isplitr; · iapply (inv_at cont K c k); iexact Hc
    isplitl [Ho] <;> iassumption
  imodintro
  isplitl [Ha] <;> iassumption

/-- A cell whose rounds are done gives its counter back. -/
theorem cell_closes (K : GSem nD τ sig → ℕ) (c : Dev nD) (k : Kd) (r : ℕ) (hr : lastR k = r) :
    iprop(ctx cont K ∗ atPos ER (cellOf c k) r ∅ 0) ⊢ (iprop(|={Set.univ}=> semVal (cellOf c k) 0) : sProp 𝕄) := by
  subst hr
  iintro ⟨#Hc, Ha⟩
  imod (Rounds.cell_close ER (talk cont) (Set.mem_univ (K (cellOf c k))) id (duties_done cont c k)) $$ [Ha] with Hz
  · isplitr; · iapply (ctx_inv cont K c k); iexact Hc
    iexact Ha
  imodintro; iexact Hz

/-- A stream's cells are put to use. -/
theorem open_stream (K : GSem nD τ sig → ℕ) (c : Dev nD) (j : Fin 4) :
    iprop(invs cont K ∗ shutS c j ∗ zeroS c j ∗ payS c j)
      ⊢ (iprop(|={Set.univ}=> (preS c j ∗ reached ER (rcvCell c j 1) 0)) : sProp 𝕄) := by
  unfold shutS zeroS payS
  iintro ⟨#Hc, ⟨O1, O2, O3, O4, O5⟩, ⟨Z1, Z2, Z3, Z4, Z5⟩, ⟨HcR, HtS, HtR, Hrest⟩⟩
  imod (cell_opens cont K c (.crd j)) $$ [O1 Z1] with ⟨A1, #R1⟩
  · isplitr; · iexact Hc
    isplitl [O1] <;> iassumption
  imod (cell_opens cont K c (.snd j 0)) $$ [O2 Z2] with ⟨A2, #R2⟩
  · isplitr; · iexact Hc
    isplitl [O2] <;> iassumption
  imod (cell_opens cont K c (.snd j 1)) $$ [O3 Z3] with ⟨A3, #R3⟩
  · isplitr; · iexact Hc
    isplitl [O3] <;> iassumption
  imod (cell_opens cont K c (.rcv j 0)) $$ [O4 Z4] with ⟨A4, #R4⟩
  · isplitr; · iexact Hc
    isplitl [O4] <;> iassumption
  imod (cell_opens cont K c (.rcv j 1)) $$ [O5 Z5] with ⟨A5, #R5⟩
  · isplitr; · iexact Hc
    isplitl [O5] <;> iassumption
  imodintro
  isplitl
  · unfold preS
    rw [par_zero, par_one]
    isplitl [A5]; · iexact A5
    isplitl [A4]; · iexact A4
    isplitl [A2]; · iexact A2
    isplitl [A3]; · iexact A3
    isplitl [A1]; · iexact A1
    isplitr
    · isplitr; · iexact R3
      isplitr; · iexact R4
      isplitr; · iexact R2
      iexact R1
    isplitl [HcR]; · iexact HcR
    isplitl [HtS]; · iexact HtS
    isplitl [HtR]; · iexact HtR
    iexact Hrest
  · iexact R5

/-- A stream that is done gives its counters and its buffer back. -/
theorem close_stream (K : GSem nD τ sig → ℕ) (c : Dev nD) (j : Fin 4) :
    iprop(ctx cont K ∗ endS c j) ⊢ (iprop(|={Set.univ}=> (zeroS c j ∗ bufAny c j)) : sProp 𝕄) := by
  unfold endS zeroS
  iintro ⟨#Hc, ⟨A4, A5, A2, A3, A1, S0, S1⟩⟩
  imod (cell_closes cont K c (.crd j) 14 rfl) $$ [A1] with Z1
  · isplitr; · iexact Hc
    iexact A1
  imod (cell_closes cont K c (.snd j 0) 8 rfl) $$ [A2] with Z2
  · isplitr; · iexact Hc
    iexact A2
  imod (cell_closes cont K c (.snd j 1) 7 rfl) $$ [A3] with Z3
  · isplitr; · iexact Hc
    iexact A3
  imod (cell_closes cont K c (.rcv j 0) 7 rfl) $$ [A4] with Z4
  · isplitr; · iexact Hc
    iexact A4
  imod (cell_closes cont K c (.rcv j 1) 8 rfl) $$ [A5] with Z5
  · isplitr; · iexact Hc
    iexact A5
  imodintro
  isplitr [S0 S1]
  · isplitl [Z1]; · iexact Z1
    isplitl [Z2]; · iexact Z2
    isplitl [Z3]; · iexact Z3
    isplitl [Z4] <;> iassumption
  iapply (buf_join c j)
  isplitl [S0] <;> iassumption

/-! ## All four streams -/

/-- Before the region opens its cells: what a device was given at launch. -/
def Tk (c : Dev nD) : sProp 𝕄 :=
  iprop(∃ K, invs cont K ∗ barR c ∗ (shutS c 0 ∗ shutS c 1 ∗ shutS c 2 ∗ shutS c 3) ∗ (payS c 0 ∗ payS c 1 ∗ payS c 2 ∗ payS c 3))
/-- The same once they are open. -/
def Xk (c : Dev nD) : sProp 𝕄 :=
  iprop(∃ K, ctx cont K ∗ barR c ∗ (preS c 0 ∗ preS c 1 ∗ preS c 2 ∗ preS c 3)
    ∗ (reached ER (rcvCell c 0 1) 0 ∗ reached ER (rcvCell c 1 1) 0 ∗ reached ER (rcvCell c 2 1) 0 ∗ reached ER (rcvCell c 3 1) 0))
/-- The streams' counters, all at zero. -/
def zeros (c : Dev nD) : sProp 𝕄 := iprop(zeroS c 0 ∗ zeroS c 1 ∗ zeroS c 2 ∗ zeroS c 3)

/-- All of a device's cells are opened. -/
theorem opens (c : Dev nD) : iprop(Tk cont c ∗ zeros c ∗ levAts L lv) ⊢ (iprop(|={Set.univ}=> Xk cont c) : sProp 𝕄) := by
  unfold Tk zeros Xk
  iintro ⟨⟨%K, #Hi, Hb, ⟨S0, S1, S2, S3⟩, ⟨P0, P1, P2, P3⟩⟩, ⟨Z0, Z1, Z2, Z3⟩, #Hl⟩
  imod (open_stream cont K c 0) $$ [S0 Z0 P0] with ⟨X0, #R0⟩
  · isplitr; · iexact Hi
    isplitl [S0]; · iexact S0
    isplitl [Z0] <;> iassumption
  imod (open_stream cont K c 1) $$ [S1 Z1 P1] with ⟨X1, #R1⟩
  · isplitr; · iexact Hi
    isplitl [S1]; · iexact S1
    isplitl [Z1] <;> iassumption
  imod (open_stream cont K c 2) $$ [S2 Z2 P2] with ⟨X2, #R2⟩
  · isplitr; · iexact Hi
    isplitl [S2]; · iexact S2
    isplitl [Z2] <;> iassumption
  imod (open_stream cont K c 3) $$ [S3 Z3 P3] with ⟨X3, #R3⟩
  · isplitr; · iexact Hi
    isplitl [S3]; · iexact S3
    isplitl [Z3] <;> iassumption
  imodintro
  iexists K
  isplitr
  · unfold ctx
    isplitr; · iexact Hi
    iexact Hl
  isplitl [Hb]; · iexact Hb
  isplitl
  · isplitl [X0]; · iexact X0
    isplitl [X1]; · iexact X1
    isplitl [X2] <;> iassumption
  · isplitr; · iexact R0
    isplitr; · iexact R1
    isplitr; · iexact R2
    iexact R3

/-- The buffers the kernel addresses itself, at contents not named. -/
def mem (c : Dev nD) : sProp 𝕄 :=
  iprop((∃ f : Buf (Elt F) (abM.view.loc (c : Thread nD τ)), (abM.view.loc (c : Thread nD τ) ↦{fullShare} f))
    ∗ (∃ f : Buf (Elt F) (bbM.view.loc (c : Thread nD τ)), (bbM.view.loc (c : Thread nD τ) ↦{fullShare} f))
    ∗ pcAny c 0 ∗ pcAny c 1 ∗ bufAny c 0 ∗ bufAny c 1 ∗ bufAny c 2 ∗ bufAny c 3)

/-- What the kernel leaves beside its operands and its result. -/
def Zk (c : Dev nD) : sProp 𝕄 := iprop(semVal (barCell c) 0 ∗ zeros c ∗ mem c)

/-- Everything is given back at the end. -/
theorem closes (P : Dev nD → Vec F S32 .i32) (K : GSem nD τ sig → ℕ) (c : Dev nD) (f : Vec F S128x2048 .f32) :
    fin A B P K c f ⊢ (iprop(|={Set.univ}=> (Zk c ∗ owe c 0 ∗ aHas c (A c) ∗ bHas c (B c) ∗ prmHas c (P c) ∗ outHas c (outW A B c f))) : sProp 𝕄) := by
  unfold fin work Zk zeros mem
  iintro ⟨⟨E0, E1, E2, E3⟩, ⟨Hp, Ha', Hb', P0, P1⟩, Ho, HO, #Hc, Ha, Hb, Hbar⟩
  imod (close_stream (contV A B) K c 0) $$ [E0] with ⟨Z0, B0⟩
  · isplitr; · iexact Hc
    iexact E0
  imod (close_stream (contV A B) K c 1) $$ [E1] with ⟨Z1, B1⟩
  · isplitr; · iexact Hc
    iexact E1
  imod (close_stream (contV A B) K c 2) $$ [E2] with ⟨Z2, B2⟩
  · isplitr; · iexact Hc
    iexact E2
  imod (close_stream (contV A B) K c 3) $$ [E3] with ⟨Z3, B3⟩
  · isplitr; · iexact Hc
    iexact E3
  imod (cell_closes (contV A B) K c .bar 1 rfl) $$ [Hbar] with Zb
  · isplitr; · iexact Hc
    iexact Hbar
  imodintro
  isplitr [HO Ha Hb Hp Ho]
  · isplitl [Zb]; · iexact Zb
    isplitl [Z0 Z1 Z2 Z3]
    · isplitl [Z0]; · iexact Z0
      isplitl [Z1]; · iexact Z1
      isplitl [Z2] <;> iassumption
    unfold abHas bbHas
    isplitl [Ha']; · iexists _; iexact Ha'
    isplitl [Hb']; · iexists _; iexact Hb'
    isplitl [P0]; · iapply (pcHas_any c 0 _); iexact P0
    isplitl [P1]; · iapply (pcHas_any c 1 _); iexact P1
    isplitl [B0]; · iexact B0
    isplitl [B1]; · iexact B1
    isplitl [B2] <;> iassumption
  isplitl [HO]; · iexact HO
  isplitl [Ha]; · iexact Ha
  isplitl [Hb]; · iexact Hb
  isplitl [Hp]; · iexact Hp
  iexact Ho

/-- A run to a known end, with what follows it carried along. -/
theorem wp_use (c : Dev nD) (p : Body F) {X Y : sProp 𝕄} (Φ : PUnit → sProp 𝕄) (h : X ⊢ WP c p (fun _ => Y)) :
    iprop(X ∗ (Y -∗ Φ ⟨⟩)) ⊢ WP c p Φ :=
  BIBase.Entails.trans (Idealize.SL.BI.sep_mono h (sProp.forall_intro fun _ => BIBase.Entails.rfl)) (wp_wand_r _ _ _)

/-- The body run to its end, with a continuation `X` carried along. -/
theorem wp_carry (P : Dev nD → Vec F S32 .i32) (hP : ∀ c, Prm c (P c)) (K : GSem nD τ sig → ℕ) (c : Dev nD) (f : Vec F S128x2048 .f32)
    (Φ : PUnit → sProp 𝕄) :
    iprop((prmHas c (P c) ∗ ctx (contV A B) K ∗ startR A B c ∗ outHas c f)
      ∗ ((Zk c ∗ owe c 0 ∗ aHas c (A c) ∗ bHas c (B c) ∗ prmHas c (P c) ∗ outHas c (resV A B c)) -∗ Φ ⟨⟩)) ⊢ WP c (bodyP (F := F)) Φ := by
  rw [← outW_eq A B c f]
  have h := wp_body A B P hP K c f
    (Φ := fun _ => iprop(Zk c ∗ owe c 0 ∗ aHas c (A c) ∗ bHas c (B c) ∗ prmHas c (P c) ∗ outHas c (outW A B c f)))
    (by unfold WP; rw [wp_ret]; exact closes A B P K c f)
  exact wp_use c bodyP Φ h

/-- The body, from what a device was given to everything given back. -/
theorem wp_whole (P : Dev nD → Vec F S32 .i32) (hP : ∀ c, Prm c (P c)) (c : Dev nD) (f : Vec F S128x2048 .f32) (Φ : PUnit → sProp 𝕄) :
    iprop(Xk (contV A B) c ∗ mem c ∗ owe c (owStart c) ∗ aHas c (A c) ∗ bHas c (B c) ∗ prmHas c (P c) ∗ outHas c f)
      ⊢ iprop(((Zk c ∗ owe c 0 ∗ aHas c (A c) ∗ bHas c (B c) ∗ prmHas c (P c) ∗ outHas c (resV A B c)) -∗ Φ ⟨⟩) -∗ WP c (bodyP (F := F)) Φ) := by
  unfold Xk mem
  iintro ⟨⟨%K, #Hc, Hbar, ⟨S0, S1, S2, S3⟩, ⟨#R0, #R1, #R2, #R3⟩⟩, ⟨Hab, Hbb, P0, P1, B0, B1, B2, B3⟩, HO, Ha, Hb, Hp, Ho⟩ Hk
  ihave B0 := (buf_split c 0) $$ B0
  ihave B1 := (buf_split c 1) $$ B1
  ihave B2 := (buf_split c 2) $$ B2
  ihave B3 := (buf_split c 3) $$ B3
  icases B0 with ⟨B0, C0⟩
  icases B1 with ⟨B1, C1⟩
  icases B2 with ⟨B2, C2⟩
  icases B3 with ⟨B3, C3⟩
  iapply (wp_carry A B P hP K c f Φ)
  isplitr [Hk]
  · isplitl [Hp]; · iexact Hp
    isplitr; · iexact Hc
    isplitr [Ho]
    · unfold startR scratch ready
      isplitl [Hbar]; · iexact Hbar
      isplitl [S0 S1 S2 S3]
      · isplitl [S0]; · iexact S0
        isplitl [S1]; · iexact S1
        isplitl [S2] <;> iassumption
      isplitl [B0 B1 B2 B3]
      · isplitl [B0]; · iexact B0
        isplitl [B1]; · iexact B1
        isplitl [B2] <;> iassumption
      isplitl [C0 C1 C2 C3]
      · isplitl [C0]
        · isplitl [C0]; · iexact C0
          iexact R0
        isplitl [C1]
        · isplitl [C1]; · iexact C1
          iexact R1
        isplitl [C2]
        · isplitl [C2]; · iexact C2
          iexact R2
        isplitl [C3]; · iexact C3
        iexact R3
      isplitl [Ha]; · iexact Ha
      isplitl [Hb]; · iexact Hb
      isplitl [Hab Hbb P0 P1]
      · isplitl [Hab]; · iexact Hab
        isplitl [Hbb]; · iexact Hbb
        isplitl [P0] <;> iassumption
      iexact HO
    iexact Ho
  iexact Hk

end Cert.KernelIdeal.RS
-- ==== Proof.Region.lean ====
module

public import proofs.«01_k».proof.Proof.Cells
public import proofs.«01_k».proof.Proof.Gen.KernelIdeal.Regions
public import proofs.«01_k».proof.Proof.Gen.KernelIdeal.Points
public import Idealize.ShloMosaic.Lib.Pipeline.RegionTalk

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Facts₀ Facts

variable {F : FTy → Type} [FloatOps F]

local notation "𝕄" => MT nD τ sig ℕ (Elt F) ℕ UU ℕ

variable (m : (ℓ : Loc nD τ sig) → Buf (Elt F) ℓ)

/-! ## The operands, the parameters and the result on a device -/

/-- A device's block of the first operand as the region finds it. -/
def aV (c : Dev nD) : Vec F S2048x1024 .bf16 := Gen.V11 m c (Proc.devRef .tc main_arg0)
/-- A device's block of the second operand as the region finds it. -/
def bV (c : Dev nD) : Vec F S1024x2048 .bf16 := Gen.V11 m c (Proc.devRef .tc main_arg1)
/-- A device's parameters as the region finds them. -/
def pV (c : Dev nD) : Vec F S32 .i32 := Gen.V11 m c (Proc.devRef .tc main_v47)
/-- A device's part of the result. -/
def rV (c : Dev nD) : Vec F S128x2048 .f32 := resV (aV m) (bV m) c
/-- What the kernel's hops carry. -/
def cV : Cont F := contV (aV m) (bV m)

/-- The region's proof data: the operands and the parameters stay, the result is left, everything owed is paid. -/
def dat (c : Dev nD) : Dat τ (Elt F) ℕ ℕ UU ℕ cfg0 c where
  A w := Gen.V11 m c (Proc.devRef .tc (Pipeline.arrRef cfg0.spec w))
  after w _ := match w with
    | ⟨0, _⟩ => aV m c
    | ⟨1, _⟩ => bV m c
    | ⟨2, _⟩ => pV m c
    | ⟨3, _⟩ => rV m c
  Φ t := if t.val = 0 then iprop(Xk (cV m) c ∗ mem c ∗ ∃ r, prngReg c r) else iprop(Zk c ∗ ∃ r, prngReg c r)
  q _ := fullShare
  owed t := if t.val = 0 then owStart c else 0

def pdats : (p : Fin 1) → (c : Dev nD) → Dat τ (Elt F) ℕ ℕ UU ℕ (cfgs p) c
  | 0 => dat m

/-- What is owed when the body begins. -/
theorem owed_first (c : Dev nD) : (dat (F := F) m c).owed Gen.t0_0.castSucc = owStart c := by
  show (if (Gen.t0_0.castSucc : Fin (cfg0.N + 1)).val = 0 then owStart c else 0) = _
  exact if_pos rfl
/-- What is owed when it ends. -/
theorem owed_last (c : Dev nD) : (dat (F := F) m c).owed Gen.t0_0.succ = 0 := by
  show (if (Gen.t0_0.succ : Fin (cfg0.N + 1)).val = 0 then owStart c else 0) = _
  exact if_neg (Nat.succ_ne_zero _)
/-- What the device holds when the body begins. -/
theorem phi_first (c : Dev nD) : (dat (F := F) m c).Φ Gen.t0_0.castSucc = iprop(Xk (cV m) c ∗ mem c ∗ ∃ r, prngReg c r) := by
  show (if (Gen.t0_0.castSucc : Fin (cfg0.N + 1)).val = 0 then iprop(Xk (cV m) c ∗ mem c ∗ ∃ r, prngReg c r) else iprop(Zk c ∗ ∃ r, prngReg c r)) = _
  exact if_pos rfl
/-- What it holds when the body ends. -/
theorem phi_last (c : Dev nD) : (dat (F := F) m c).Φ Gen.t0_0.succ = iprop(Zk c ∗ ∃ r, prngReg c r) := by
  show (if (Gen.t0_0.succ : Fin (cfg0.N + 1)).val = 0 then iprop(Xk (cV m) c ∗ mem c ∗ ∃ r, prngReg c r) else iprop(Zk c ∗ ∃ r, prngReg c r)) = _
  exact if_neg (Nat.succ_ne_zero _)
/-- What is owed before the region. -/
theorem owed_zero (c : Dev nD) : (dat (F := F) m c).owed 0 = owStart c := by
  show (if (0 : Fin (cfg0.N + 1)).val = 0 then owStart c else 0) = _
  exact if_pos rfl
/-- What is owed after the region. -/
theorem owed_end (c : Dev nD) : (dat (F := F) m c).owed (Fin.last _) = 0 := by
  show (if ((Fin.last _) : Fin (cfg0.N + 1)).val = 0 then owStart c else 0) = _
  exact if_neg (by rw [Fin.val_last, show cfg0.N = 1 from Gen.N_0]; decide)
/-- What the device holds before the region. -/
theorem phi_zero (c : Dev nD) : (dat (F := F) m c).Φ 0 = iprop(Xk (cV m) c ∗ mem c ∗ ∃ r, prngReg c r) := by
  show (if (0 : Fin (cfg0.N + 1)).val = 0 then iprop(Xk (cV m) c ∗ mem c ∗ ∃ r, prngReg c r) else iprop(Zk c ∗ ∃ r, prngReg c r)) = _
  exact if_pos rfl
/-- What it holds after the region. -/
theorem phi_end (c : Dev nD) : (dat (F := F) m c).Φ (Fin.last _) = iprop(Zk c ∗ ∃ r, prngReg c r) := by
  show (if ((Fin.last _) : Fin (cfg0.N + 1)).val = 0 then iprop(Xk (cV m) c ∗ mem c ∗ ∃ r, prngReg c r) else iprop(Zk c ∗ ∃ r, prngReg c r)) = _
  exact if_neg (by rw [Fin.val_last, show cfg0.N = 1 from Gen.N_0]; decide)

/-- The debt is put into the region's form. -/
theorem owesAt_intro (c : Dev nD) (t : Fin (cfg0.N + 1)) (O : Owe) (h0 : (dat (F := F) m c).owed t = O) :
    (owe c O : sProp 𝕄) ⊢ (dat m c).owesAt 0 t := by
  unfold owe Dat.owesAt Pipeline.owesWithin Dat.bound
  rw [h0]
  iintro ⟨%W, HO⟩
  iexists W
  isplitr; · ipureintro; exact fun _ _ => Or.inl trivial
  iexact HO
/-- And taken out of it. -/
theorem owesAt_elim (c : Dev nD) (t : Fin (cfg0.N + 1)) (O : Owe) (h0 : (dat (F := F) m c).owed t = O) :
    ((dat m c).owesAt 0 t : sProp 𝕄) ⊢ owe c O := by
  unfold owe Dat.owesAt Pipeline.owesWithin
  rw [h0]
  iintro ⟨%W, -, HO⟩; iexists W; iexact HO

/-! ## The windows are the arrays -/

/-- The left operand's one block is all of it. -/
theorem blk_read0 (X : Vec F S2048x1024 .bf16) : ((cfg0.win 0).blk Gen.t0_0).view.read (Elt F) X = X := by
  funext i
  refine congrArg X (funext fun a => Fin.ext ?_)
  have e : ∀ a : Fin 2, win0_0.index Gen.t0_0 a * win0_0.size a = 0 := by decide +kernel
  show win0_0.index Gen.t0_0 a * win0_0.size a + 1 * (i a).val = (i a).val
  rw [e, Nat.zero_add, Nat.one_mul]
/-- The right operand's one block is all of it. -/
theorem blk_read1 (X : Vec F S1024x2048 .bf16) : ((cfg0.win 1).blk Gen.t0_0).view.read (Elt F) X = X := by
  funext i
  refine congrArg X (funext fun a => Fin.ext ?_)
  have e : ∀ a : Fin 2, win0_1.index Gen.t0_0 a * win0_1.size a = 0 := by decide +kernel
  show win0_1.index Gen.t0_0 a * win0_1.size a + 1 * (i a).val = (i a).val
  rw [e, Nat.zero_add, Nat.one_mul]
/-- The parameters' one block is all of them. -/
theorem blk_read2 (X : Vec F S32 .i32) : ((cfg0.win 2).blk Gen.t0_0).view.read (Elt F) X = X := by
  funext i
  refine congrArg X (funext fun a => Fin.ext ?_)
  have e : ∀ a : Fin 1, win0_2.index Gen.t0_0 a * win0_2.size a = 0 := by decide +kernel
  show win0_2.index Gen.t0_0 a * win0_2.size a + 1 * (i a).val = (i a).val
  rw [e, Nat.zero_add, Nat.one_mul]
/-- The result's one block is all of it. -/
theorem blk_read3 (X : Vec F S128x2048 .f32) : ((cfg0.win 3).blk Gen.t0_0).view.read (Elt F) X = X := by
  funext i
  refine congrArg X (funext fun a => Fin.ext ?_)
  have e : ∀ a : Fin 2, win0_3.index Gen.t0_0 a * win0_3.size a = 0 := by decide +kernel
  show win0_3.index Gen.t0_0 a * win0_3.size a + 1 * (i a).val = (i a).val
  rw [e, Nat.zero_add, Nat.one_mul]

/-- The left operand's buffer holds the left operand. -/
theorem before0 (c : Dev nD) (d) : (dat (F := F) m c).before (0 : Fin 4) Gen.t0_0 d = aV m c := by
  unfold Dat.before; rw [if_pos (Gen.fetch0_0 _)]; exact blk_read0 (F := F) _
/-- The right operand's buffer holds the right operand. -/
theorem before1 (c : Dev nD) (d) : (dat (F := F) m c).before (1 : Fin 4) Gen.t0_0 d = bV m c := by
  unfold Dat.before; rw [if_pos (Gen.fetch0_1 _)]; exact blk_read1 (F := F) _
/-- The parameters' buffer holds the parameters. -/
theorem before2 (c : Dev nD) (d) : (dat (F := F) m c).before (2 : Fin 4) Gen.t0_0 d = pV m c := by
  unfold Dat.before; rw [if_pos (Gen.fetch0_2 _)]; exact blk_read2 (F := F) (pV m c)

/-- A buffer owned whole is its contents at its place. -/
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at `X`. -/
def stg (c : Dev nD) (b : Ref sig .tc) (X : Buf (Elt F) ((c : Thread nD τ).loc b)) : sProp 𝕄 :=
  iprop(∃ f : Buf (Elt F) ((c : Thread nD τ).loc b), ⌜f = X⌝ ∗ (((c : Thread nD τ).loc b) ↦{fullShare} f))
/-- A staging buffer's contents, taken out. -/
theorem stg_elim (c : Dev nD) (b : Ref sig .tc) (X) : (stg (F := F) c b X : sProp 𝕄) ⊢ (((c : Thread nD τ).loc b) ↦{fullShare} X) := by
  unfold stg
  iintro ⟨%f, %h, H⟩
  subst h
  iexact H
/-- And put back. -/
theorem stg_intro (c : Dev nD) (b : Ref sig .tc) (X) : (((c : Thread nD τ).loc b) ↦{fullShare} X : sProp 𝕄) ⊢ stg (F := F) c b X := by
  unfold stg
  iintro H
  iexists X
  isplitr; · ipureintro; rfl
  iexact H

/-- The left operand, in its staging buffer. -/
theorem aHas_stg (c : Dev nD) (X : Vec F S2048x1024 .bf16) : aHas c X ⊢ (stg (F := F) c cc0_stg0_0 X : sProp 𝕄) := by
  unfold aHas; exact stg_intro c cc0_stg0_0 X
/-- The right operand, in its staging buffer. -/
theorem bHas_stg (c : Dev nD) (X : Vec F S1024x2048 .bf16) : bHas c X ⊢ (stg (F := F) c cc0_stg1_0 X : sProp 𝕄) := by
  unfold bHas; exact stg_intro c cc0_stg1_0 X
/-- The parameters, in their staging buffer. -/
theorem prmHas_stg (c : Dev nD) (X : Vec F S32 .i32) : prmHas c X ⊢ (stg (F := F) c cc0_stg2_0 X : sProp 𝕄) := by
  unfold prmHas; exact stg_intro c cc0_stg2_0 X
/-- The result, in its staging buffer. -/
theorem outHas_stg (c : Dev nD) (X : Vec F S128x2048 .f32) : outHas c X ⊢ (stg (F := F) c cc0_stg3_0 X : sProp 𝕄) := by
  unfold outHas; exact stg_intro c cc0_stg3_0 X

def bodyPre (c : Dev nD) : sProp 𝕄 :=
  iprop((dat m c).Φ Gen.t0_0.castSucc ∗ (dat m c).owesAt 0 Gen.t0_0.castSucc
    ∗ (∃ d, stg c cc0_stg0_0 ((dat m c).before (0 : Fin 4) Gen.t0_0 d))
    ∗ (∃ d, stg c cc0_stg1_0 ((dat m c).before (1 : Fin 4) Gen.t0_0 d))
    ∗ (∃ d, stg c cc0_stg2_0 ((dat m c).before (2 : Fin 4) Gen.t0_0 d))
    ∗ (∃ d, stg c cc0_stg3_0 ((dat m c).before (3 : Fin 4) Gen.t0_0 d)))
def bodyPost (c : Dev nD) : sProp 𝕄 :=
  iprop((dat m c).Φ Gen.t0_0.succ ∗ (dat m c).owesAt 0 Gen.t0_0.succ
    ∗ stg c cc0_stg0_0 (aV m c) ∗ stg c cc0_stg1_0 (bV m c) ∗ stg c cc0_stg2_0 (pV m c) ∗ stg c cc0_stg3_0 (rV m c))

/-- The body, from the region's state before it to the state after it. -/
theorem wp_region (hP : ∀ c, Prm c (pV m c)) (c : Dev nD) : bodyPre m c ⊢ WP c (bodyP (F := F)) (fun _ => bodyPost m c) := by
  unfold bodyPre bodyPost
  rw [phi_first, phi_last]
  iintro ⟨⟨Hx, Hm, Hr⟩, HO, ⟨%d0, H0⟩, ⟨%d1, H1⟩, ⟨%d2, H2⟩, ⟨%d3, H3⟩⟩
  ihave HO := (owesAt_elim m c _ _ (owed_first m c)) $$ HO
  ihave H0 := (stg_elim c cc0_stg0_0 _) $$ H0
  ihave H1 := (stg_elim c cc0_stg1_0 _) $$ H1
  ihave H2 := (stg_elim c cc0_stg2_0 _) $$ H2
  ihave H3 := (stg_elim c cc0_stg3_0 _) $$ H3
  rw [before0, before1, before2]
  iapply (wp_whole (aV m) (bV m) (pV m) hP c ((dat m c).before (3 : Fin 4) Gen.t0_0 d3) (fun _ => _)) $$ [Hx Hm HO H0 H1 H2 H3]
  · isplitl [Hx]; · iexact Hx
    isplitl [Hm]; · iexact Hm
    isplitl [HO]; · iexact HO
    unfold aHas bHas prmHas outHas
    isplitl [H0]; · iexact H0
    isplitl [H1]; · iexact H1
    isplitl [H2]; · iexact H2
    iexact H3
  iintro ⟨Hz, HO, Ha, Hb, Hp, Ho⟩
  isplitl [Hz Hr]
  · isplitl [Hz]; · iexact Hz
    iexact Hr
  isplitl [HO]; · iapply (owesAt_intro m c _ _ (owed_last m c)); iexact HO
  isplitl [Ha]; · iapply (aHas_stg c (aV m c)); iexact Ha
  isplitl [Hb]; · iapply (bHas_stg c (bV m c)); iexact Hb
  isplitl [Hp]; · iapply (prmHas_stg c (pV m c)); iexact Hp
  iapply (outHas_stg c (rV m c)); iexact Ho

set_option maxRecDepth 65536 in
/-- The region's body, as the pipeline runs it. -/
theorem body_obligation (hP : ∀ c, Prm c (pV m c)) (c : Dev nD) : BodyObligation (dat (F := F) m c) (defs₀ (F := F)) 𝒱₀ 0 Set.univ := fun t => by
  rw [Gen.fin_N0 t]
  rw [Gen.bigSep_W0, Gen.bigSep_W0]
  simp only [owns_whole_eq]
  have h := wp_region m hP c
  unfold bodyP at h
  exact h

end Cert.KernelIdeal.RS
-- ==== Proof.Seg.lean ====
module

public import proofs.«01_k».proof.Proof.Region

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Facts₀ Facts

variable {F : FTy → Type} [FloatOps F]

local notation "𝕄" => MT nD τ sig ℕ (Elt F) ℕ UU ℕ

variable (m : (ℓ : Loc nD τ sig) → Buf (Elt F) ℓ)

/-! ## The kernel's own semaphores -/

/-- A stream's five semaphores. -/
def kd : Fin 4 × Fin 5 → Kd
  | (j, 0) => .crd j | (j, 1) => .snd j 0 | (j, 2) => .snd j 1 | (j, 3) => .rcv j 0 | (j, 4) => .rcv j 1
/-- The semaphores the region gives the kernel. -/
def osem (x : Fin 4 × Fin 5) : SemLoc sig := locOf (kd x)

/-- The region's own semaphores are the four streams' cells. -/
theorem osem_facts : Pipeline.OwnSemFacts spec0 osem := by decide +kernel

/-- Four resources, written out. -/
theorem sep_four {M : Type} [URA M] (Φ : Fin 4 → sProp M) : bigSep Finset.univ Φ = iprop(Φ 0 ∗ Φ 1 ∗ Φ 2 ∗ Φ 3) :=
  bigSep_univ_eq_bigSepL [(0 : Fin 4), 1, 2, 3] (by decide) (by decide) Φ
/-- Five resources, written out. -/
theorem sep_five {M : Type} [URA M] (Φ : Fin 5 → sProp M) : bigSep Finset.univ Φ = iprop(Φ 0 ∗ Φ 1 ∗ Φ 2 ∗ Φ 3 ∗ Φ 4) :=
  bigSep_univ_eq_bigSepL [(0 : Fin 5), 1, 2, 3, 4] (by decide) (by decide) Φ

/-- One thing for each of a stream's semaphores, stream by stream. -/
theorem sep_kd {M : Type} [URA M] (Φ : Kd → sProp M) :
    bigSep Finset.univ (fun x : Fin 4 × Fin 5 => Φ (kd x))
      = bigSep Finset.univ (fun j : Fin 4 => iprop(Φ (.crd j) ∗ Φ (.snd j 0) ∗ Φ (.snd j 1) ∗ Φ (.rcv j 0) ∗ Φ (.rcv j 1))) := by
  rw [BI.bigSep_univ_prod]
  exact BI.bigSep_congr fun j _ => sep_five fun i => Φ (kd (j, i))

/-- The semaphores at zero. -/
theorem own_zero (c : Dev nD) : (Pipeline.ownSems0 osem c : sProp 𝕄) = zeros c := by
  unfold Pipeline.ownSems0 zeros
  exact (sep_kd fun k => (semVal (cellOf c k) 0 : sProp 𝕄)).trans (sep_four _)

/-- The buffers no window stages. -/
theorem rest_mem (c : Dev nD) : (Pipeline.scopedRest (Ix := ℕ) (Name := ℕ) (U := UU) (Lvl := ℕ) (Val := Elt F) spec0 c : sProp 𝕄) = mem c :=
  (Gen.scopedRest0_eq c).trans rfl

/-! ## The result's array -/

/-- What the region leaves in the buffers it may change. -/
def outs : Gen.Outs (F := F) := fun _ r c => Function.update (Gen.V11 m c) (Proc.devRef .tc main_v48) (rV m c) (Proc.devRef .tc r)

/-- What the region writes back is the device's result. -/
theorem flushed_eq (c : Dev nD) (t : Fin cfg0.N) :
    (dat m c).flushed (3 : Fin 4) t = ((cfg0.win 3).blk t).view.read (Elt F) (rV m c) := by
  obtain rfl := Gen.fin_N0 t
  exact (blk_read3 (rV m c)).symm

/-- The result's one block covers it. -/
theorem cover (i : S128x2048.Idx) : ∃ t : Fin cfg0.N, (cfg0.win 3).flush t = true ∧ i ∈ ((cfg0.win 3).blk t).view.set := by
  refine ⟨Gen.t0_0, Gen.flush0_3 _, ?_⟩
  refine Finset.mem_map.mpr ⟨i, Finset.mem_univ _, funext fun a => Fin.ext ?_⟩
  have e : ∀ a : Fin 2, win0_3.index Gen.t0_0 a * win0_3.size a = 0 := by decide +kernel
  show win0_3.index Gen.t0_0 a * win0_3.size a + 1 * (i a).val = (i a).val
  rw [e, Nat.zero_add, Nat.one_mul]

/-- After the region the result's array holds the device's result. -/
theorem arr_out (c : Dev nD) : (dat m c).arrAt (3 : Fin 4) cfg0.N = rV m c :=
  (dat m c).arrAt_eq_of_cover (3 : Fin 4) (rV m c) (fun t _ => flushed_eq m c t) cover

/-- So it does at the end of the program. -/
theorem v12_out (c : Dev nD) : Gen.V12 m (outs m) c (Proc.devRef .tc main_v48) = rV m c :=
  (Function.update_self _ _ _).trans (Function.update_self _ _ _)

/-- Every array of the region, after it. -/
theorem arr_end (c : Dev nD) : ∀ w : Fin cfg0.W,
    (dat m c).arrAt w cfg0.N = Gen.V12 m (outs m) c (Proc.devRef .tc (Pipeline.arrRef cfg0.spec w))
  | ⟨0, _⟩ => ((dat m c).arrAt_in (0 : Fin 4) rfl _).trans (Gen.V12_of m (outs m) c main_arg0 (by decide)).symm
  | ⟨1, _⟩ => ((dat m c).arrAt_in (1 : Fin 4) rfl _).trans (Gen.V12_of m (outs m) c main_arg1 (by decide)).symm
  | ⟨2, _⟩ => ((dat m c).arrAt_in (2 : Fin 4) rfl _).trans (Gen.V12_of m (outs m) c main_v47 (by decide)).symm
  | ⟨3, _⟩ => (arr_out m c).trans (v12_out m c).symm

/-! ## The region's record -/

/-- All that is owed at first is above level 0. -/
theorem above_start (c : Dev nD) : Above 0 (owStart c) := by
  unfold owStart
  refine (Above.add ?_ (above_tally _ .bar _ (by decide) (by decide))).add (above_tally _ .bar _ (by decide) (by decide))
  exact fun g ι h => ⟨(above_owA c g ι h).1, Nat.lt_of_succ_lt (above_owA c g ι h).2.1, (above_owA c g ι h).2.2⟩

/-- So is what is owed at any time. -/
theorem owed_above (c : Dev nD) (t : Fin (cfg0.N + 1)) : Above 0 ((dat (F := F) m c).owed t) := by
  show Above 0 (if t.val = 0 then owStart c else 0)
  split
  · exact above_start c
  · exact above_zero 0

/-- The levels of a device's own cells. -/
theorem mem_L {g : GSem nD τ sig} {ι : ℕ} (h : g.1.2 = .tc) (h' : ι < 200) : ι ∈ L g := by
  unfold L; rw [if_pos h]; exact Finset.mem_range.mpr h'

/-- The region is entered. -/
theorem hin (c : Dev nD) :
    iprop(Pipeline.scopedRest (Ix := ℕ) (Name := ℕ) (U := UU) (Lvl := ℕ) (Val := Elt F) spec0 c ∗ (∃ r, prngReg c r)
      ∗ StableHlo.held (c.tc : Thread nD τ) ∅ (Gen.V11 m c) ∗ Xk (cV m) c) ⊢ (dat m c).Φ 0 := by
  rw [phi_zero, rest_mem]
  iintro ⟨Hm, Hr, -, Hx⟩
  isplitl [Hx]; · iexact Hx
  isplitl [Hm] <;> iassumption

/-- The region is left. -/
theorem hout (c : Dev nD) : (dat m c).Φ (Fin.last cfg0.N)
    ⊢ iprop(Pipeline.scopedRest (Ix := ℕ) (Name := ℕ) (U := UU) (Lvl := ℕ) (Val := Elt F) spec0 c ∗ (∃ r, prngReg c r)
      ∗ StableHlo.held (c.tc : Thread nD τ) ∅ (Gen.V12 m (outs m) c) ∗ Pipeline.ownSems0 osem c ∗ semVal (barCell c) 0) := by
  rw [phi_end, rest_mem, own_zero]
  unfold Zk
  iintro ⟨⟨Hb, Hz, Hm⟩, Hr⟩
  isplitl [Hm]; · iexact Hm
  isplitl [Hr]; · iexact Hr
  isplitr; · unfold StableHlo.held; rw [BI.bigSep_empty]; iempintro
  isplitl [Hz] <;> iassumption

/-- The region's cells are opened. -/
theorem hopen (c : Dev nD) : iprop(Tk (cV m) c ∗ Pipeline.ownSems0 osem c ∗ levAts L lv) ⊢ (|={Set.univ}=> Xk (cV m) c : sProp 𝕄) := by
  rw [own_zero]; exact opens (cV m) c

/-- The buffers that pass the region by. -/
def others : Finset (DevRef τ sig) := Pipeline.ucRefs τ sig \ Pipeline.arrRefs (τ := τ) spec0

/-- The region touches no other buffer. -/
theorem others_same (c : Dev nD) (b : DevRef τ sig) (hb : b ∈ others \ (∅ : Finset (DevRef τ sig))) :
    Gen.V12 m (outs m) c b = Gen.V11 m c b := by
  refine Function.update_of_ne (fun h => ?_) _ _
  subst h
  refine (Finset.mem_sdiff.mp (Finset.mem_sdiff.mp hb).1).2 ?_
  exact Finset.mem_map.mpr ⟨main_v48, Finset.mem_image.mpr ⟨(3 : Fin 4), Finset.mem_univ _, rfl⟩, rfl⟩

set_option backward.isDefEq.respectTransparency.types false in
/-- The region's record: entered with the operands and what the launch gave, left with the result. -/
def reg (hP : ∀ c, Prm c (pV m c)) : Pipeline.RegionSeg (pcfgs (F := F)) Gen.adm (pdats m) 0 defs₀ 𝒱₀ L lv 0 :=
  Pipeline.RegionSeg.ofTalk (pcfgs (F := F)) Gen.adm (pdats m) 0 defs₀ 𝒱₀ L lv 0 osem osem_facts
    ∅ others (Finset.empty_subset _) (Pipeline.LaunchFacts.toP (cfgs := cfgs) (p := 0) Gen.launch0) rfl (fun c => (body_obligation m hP c).loose)
    (fun _ => 0) owStart (fun c => (owed_zero m c).trans (zero_add _).symm) (owed_end m) (fun _ => rfl)
    (fun c w => by unfold Dat.share; split <;> rfl)
    (Gen.V11 m) (Gen.V12 m (outs m)) (others_same m)
    (Tk (cV m)) (fun c => semVal (barCell c) 0) (Xk (cV m)) (fun c => semVal (barCell c) 0) (hopen m) (hin m) (hout m)
    (fun c => by iintro H; imodintro; iexact H)
    (fun _ => 0)
    ⟨fun _ _ _ => mem_L rfl (by decide), fun _ _ _ => Nat.le_refl 0,
      fun c t g i h => ⟨mem_L (owed_above m c t g i h).1 (owed_above m c t g i h).2.2, (owed_above m c t g i h).2.1⟩⟩
    (fun _ => iprop(emp))
    (fun _ _ => rfl) (arr_end m)

/-- A device's share of what the launch gives. -/
def E0 (c : Dev nD) : sProp 𝕄 := iprop(Tk (cV m) c ∗ (∃ r, prngReg c r) ∗ owe c (owStart c))
/-- What a device keeps to the end. -/
def E1 (c : Dev nD) : sProp 𝕄 := iprop(semVal (barCell c) 0 ∗ owe c 0)

/-- The region's arrays are among the program's buffers. -/
theorem arr_sub : Pipeline.arrRefs (τ := τ) spec0 ⊆ Pipeline.ucRefs τ sig :=
  Pipeline.arrRefs_sub_ucRefs spec0 (by decide)

/-- The region's state before it, from the program's. -/
theorem reg_pre (hP : ∀ c, Prm c (pV m c)) (c : Dev nD) :
    iprop(StableHlo.held (c : Thread nD τ) (Pipeline.ucRefs τ sig) (Gen.V11 m c) ∗ E0 m c) ⊢ (reg m hP).pre c := by
  show _ ⊢ iprop(StableHlo.held (c.tc : Thread nD τ) (Pipeline.arrRefs (τ := τ) spec0) (Gen.V11 m c) ∗ (∃ r, prngReg c r)
    ∗ (StableHlo.held (c.tc : Thread nD τ) others (Gen.V11 m c) ∗ emp) ∗ Tk (cV m) c ∗ ∃ Wd, owes (c : Thread nD τ) (0 + owStart c) Wd)
  rw [zero_add, StableHlo.held_sub_split (c.tc : Thread nD τ) arr_sub (Gen.V11 m c)]
  unfold E0 owe others
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

/-- And the program's state after it, from the region's. -/
theorem reg_post (hP : ∀ c, Prm c (pV m c)) (c : Dev nD) :
    (reg m hP).post c ⊢ iprop(StableHlo.held (c : Thread nD τ) (Pipeline.ucRefs τ sig) (Gen.V12 m (outs m) c) ∗ E1 c) := by
  show iprop(StableHlo.held (c.tc : Thread nD τ) (Pipeline.arrRefs (τ := τ) spec0) (Gen.V12 m (outs m) c) ∗ (∃ r, prngReg c r)
    ∗ (StableHlo.held (c.tc : Thread nD τ) others (Gen.V12 m (outs m) c) ∗ emp) ∗ semVal (barCell c) 0 ∗ ∃ Wd, owes (c : Thread nD τ) 0 Wd) ⊢ _
  rw [StableHlo.held_sub_split (c.tc : Thread nD τ) arr_sub (Gen.V12 m (outs m) c)]
  unfold E1 owe others
  iintro ⟨Ha, -, ⟨Ho, -⟩, Hb, HO⟩
  isplitl [Ha Ho]
  · isplitl [Ha] <;> iassumption
  isplitl [Hb] <;> iassumption

end Cert.KernelIdeal.RS
-- ==== Proof.Deal.lean ====
module

public import proofs.«01_k».proof.Proof.Seg

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Facts₀ Facts

variable {F : FTy → Type} [FloatOps F]

local notation "𝕄" => MT nD τ sig ℕ (Elt F) ℕ UU ℕ

variable (m : (ℓ : Loc nD τ sig) → Buf (Elt F) ℓ)

/-! ## The credit a device starts with -/

/-- A stream's neighbours as a rearrangement of the devices. -/
def turn (d : Fin 2) : Dev nD ≃ Dev nD where
  toFun := nb d
  invFun := nb (other d)
  left_inv := nb_other d
  right_inv := nb_nb_other d

/-- Hop `h` as its receiver waits for it. -/
abbrev rC (c : Dev nD) (j : Fin 4) (h : ℕ) : Owe := tallyAt (rcvCell c j (par (h + 1))) (rix h j) N
/-- A credit as its taker waits for it. -/
abbrev cC (c : Dev nD) (j : Fin 4) (h : ℕ) : Owe := tallyAt (crdCell c j) (cix h j) 1
/-- What the streams' later steps bring to a device. -/
def sC (c : Dev nD) (i : ℕ) : Owe := rC c (sj i) (i / 4 + 1) + cC c (sj i) (i / 4)
/-- Everything a device is owed. -/
def due (c : Dev nD) : Owe :=
  ∑ i ∈ Finset.Ico 0 56, sC c i + rC c 3 0 + rC c 2 0 + rC c 1 0 + rC c 0 0 + tallyAt (barCell c) 1 1 + tallyAt (barCell c) 1 1

/-- The landings owed by all are the landings expected by all. -/
theorem sum_rT (j : Fin 4) (h : ℕ) : ∑ d : Dev nD, rT d j h = ∑ c, rC c j h :=
  Equiv.sum_comp (turn (dirOf j)) fun c => rC c j h
/-- So are the credits. -/
theorem sum_cT (j : Fin 4) (h : ℕ) : ∑ d : Dev nD, cT d j h = ∑ c, cC c j h :=
  Equiv.sum_comp (turn (other (dirOf j))) fun c => cC c j h
/-- So are the barrier's signals. -/
theorem sum_bT (d : Fin 2) : ∑ x : Dev nD, bT x d = ∑ c : Dev nD, (tallyAt (barCell c) 1 1 : Owe) :=
  Equiv.sum_comp (turn d) fun c => (tallyAt (barCell c) 1 1 : Owe)

/-- What all the devices owe is what all the devices are owed. -/
theorem sum_due : ∑ d : Dev nD, owStart d = ∑ c : Dev nD, due c := by
  have e : ∑ d : Dev nD, ow d 0 = ∑ c : Dev nD, ∑ i ∈ Finset.Ico 0 56, sC c i := by
    unfold ow
    rw [Finset.sum_comm, Finset.sum_comm (s := (Finset.univ : Finset (Dev nD)))]
    refine Finset.sum_congr rfl fun i _ => ?_
    unfold sT sC
    rw [Finset.sum_add_distrib, Finset.sum_add_distrib, sum_rT, sum_cT]
  unfold owStart owA due
  rw [Finset.sum_add_distrib, Finset.sum_add_distrib, Finset.sum_add_distrib, Finset.sum_add_distrib, Finset.sum_add_distrib,
    Finset.sum_add_distrib, sum_rT, sum_rT, sum_rT, sum_rT, sum_bT, sum_bT, e]
  rw [Finset.sum_add_distrib, Finset.sum_add_distrib, Finset.sum_add_distrib, Finset.sum_add_distrib, Finset.sum_add_distrib,
    Finset.sum_add_distrib]

/-- A tally that is nothing off one device. -/
def OnDev (c : Dev nD) (O : Owe) : Prop := ∀ g, g.1 ≠ (c : Thread nD τ) → O g = 0

/-- Two debts on a device's cells are together on them. -/
theorem OnDev.add {c : Dev nD} {O O' : Owe} (h : OnDev c O) (h' : OnDev c O') : OnDev c (O + O') := fun g hg => by
  rw [Pi.add_apply, h g hg, h' g hg, add_zero]
/-- A payment to a device's cell is on that device. -/
theorem onDev_tally (c : Dev nD) (k : Kd) (ι v : ℕ) : OnDev c (tallyAt (cellOf c k) ι v) := fun _ hg =>
  tallyAt_ne_cell (fun h => hg (congrArg Prod.fst h)) ι v
/-- A sum of debts on a device's cells is on them. -/
theorem onDev_sum {c : Dev nD} (S : Finset ℕ) (f : ℕ → Owe) (h : ∀ i, OnDev c (f i)) : OnDev c (∑ i ∈ S, f i) := fun g hg => by
  rw [Finset.sum_apply]; exact Finset.sum_eq_zero fun i _ => h i g hg

/-- What is due on a device's cells is on that device. -/
theorem onDev_due (c : Dev nD) : OnDev c (due c) := by
  unfold due
  refine ((((((onDev_sum _ _ fun i => ?_).add ?_).add ?_).add ?_).add ?_).add ?_).add ?_
  · exact (onDev_tally c (.rcv _ _) _ _).add (onDev_tally c (.crd _) _ _)
  · exact onDev_tally c (.rcv _ _) _ _
  · exact onDev_tally c (.rcv _ _) _ _
  · exact onDev_tally c (.rcv _ _) _ _
  · exact onDev_tally c (.rcv _ _) _ _
  · exact onDev_tally c .bar _ _
  · exact onDev_tally c .bar _ _

/-- The launch credit at a device's cell is what the device is owed there. -/
theorem credit_at (c : Dev nD) (sm : SemLoc sig) :
    launchCredit (Pipeline.owing owStart) 0 ((c.tc : Thread nD τ), sm) = due c ((c : Thread nD τ), sm) := by
  ext i
  rw [Pipeline.launchCredit_owing]
  have e := congrFun (sum_due) ((c.tc : Thread nD τ), sm)
  have e' := DFunLike.congr_fun e i
  rw [Finset.sum_apply, Finset.sum_apply, Finsupp.finset_sum_apply, Finsupp.finset_sum_apply] at e'
  refine e'.trans (Finset.sum_eq_single c (fun d _ hd => ?_) (fun h => absurd (Finset.mem_univ _) h))
  rw [onDev_due d _ (fun h => hd (congrArg (fun g : Thread nD τ => g.1) h).symm)]; rfl

/-- A credit of a sum is the credits of both. -/
theorem cred_both (O O' : Owe) : (cred (O + O') : sProp 𝕄) = iprop(cred O ∗ cred O') :=
  BI.Entails.antisymm (cred_add O O').1 (cred_add O O').2
/-- A credit of a finite sum is all the credits. -/
theorem cred_sum {ι : Type} [DecidableEq ι] (S : Finset ι) (f : ι → Owe) : (cred (∑ i ∈ S, f i) : sProp 𝕄) = bigSep S fun i => cred (f i) := by
  induction S using Finset.induction_on with
  | empty => rw [Finset.sum_empty, cred_zero, BI.bigSep_empty]; rfl
  | insert a S ha ih =>
    rw [Finset.sum_insert ha, BI.bigSep_insert ha, ← ih, cred_both]; rfl

/-- What is due is the sum over the device's cells. -/
theorem due_cells (c : Dev nD) : ∑ sm : SemLoc sig, tallyOn ((c : Thread nD τ), sm) (due c ((c : Thread nD τ), sm)) = due c := by
  funext g
  rw [Finset.sum_apply]
  by_cases hg : g.1 = (c : Thread nD τ)
  · obtain ⟨t, sm⟩ := g
    obtain rfl := hg
    rw [Finset.sum_eq_single sm (fun s _ hs => tallyOn_ne (fun h => hs (congrArg (fun g : GSem nD τ sig => g.2) h).symm) _)
      (fun h => absurd (Finset.mem_univ _) h), tallyOn_self]
  · rw [onDev_due c g hg]
    exact Finset.sum_eq_zero fun s _ => tallyOn_ne (fun h => hg (congrArg Prod.fst h)) _

/-- A device's launch credit is what it is owed. -/
theorem launch_due (c : Dev nD) : (Pipeline.launchCred owStart c : sProp 𝕄) = cred (due c) := by
  unfold Pipeline.launchCred
  conv_rhs => rw [← due_cells c]
  rw [cred_sum]
  exact BI.bigSep_congr fun sm _ => congrArg cred (congrArg _ (credit_at c sm))

/-- The last of a range of terms is taken out. -/
theorem sum_top {A : Type} [AddCommMonoid A] (f : ℕ → A) (n : ℕ) : ∑ i ∈ Finset.Ico 0 (n + 1), f i = ∑ i ∈ Finset.Ico 0 n, f i + f n := by
  rw [← Finset.range_eq_Ico, ← Finset.range_eq_Ico, Finset.sum_range_succ]
/-- A sum over the streams' steps, stream by stream. -/
theorem sum_steps {A : Type} [AddCommMonoid A] (f : Fin 4 → ℕ → A) (n : ℕ) :
    ∑ i ∈ Finset.Ico 0 (4 * n), f (sj i) (i / 4) = ∑ j : Fin 4, ∑ k ∈ Finset.Ico 0 n, f j k := by
  induction n with
  | zero => simp
  | succ n ih =>
    have s (a : ℕ) (ha : a < 4) : sj (4 * n + a) = Fin.ofNat 4 a ∧ (4 * n + a) / 4 = n :=
      ⟨Fin.ext (by show (4 * n + a) % 4 = a % 4; omega), by omega⟩
    have s0 := s 0 (by omega)
    rw [Nat.add_zero] at s0
    rw [show 4 * (n + 1) = 4 * n + 1 + 1 + 1 + 1 from rfl]
    rw [sum_top, sum_top, sum_top,
      sum_top, ih]
    rw [s0.1, s0.2, (s 1 (by omega)).1, (s 1 (by omega)).2, (s 2 (by omega)).1, (s 2 (by omega)).2,
      (s 3 (by omega)).1, (s 3 (by omega)).2]
    simp only [Fin.sum_univ_four, sum_top]
    show _ + f 0 n + f 1 n + f 2 n + f 3 n = _
    ac_rfl

/-- The credit of one stream. -/
def crdS (c : Dev nD) (j : Fin 4) : sProp 𝕄 :=
  iprop(cred (rC c j 0) ∗ bigSep (Finset.Ico 0 14) fun i => iprop(cred (cC c j i) ∗ cred (rC c j (i + 1))))

/-- The launch credit, dealt to the barrier and the streams. -/
theorem creds (c : Dev nD) :
    (Pipeline.launchCred owStart c : sProp 𝕄)
      ⊢ iprop(cred (tallyAt (barCell c) 1 2) ∗ bigSep Finset.univ fun j : Fin 4 => crdS c j) := by
  have e : due c = tallyAt (barCell c) 1 2 + ∑ j : Fin 4, (rC c j 0 + ∑ i ∈ Finset.Ico 0 14, (cC c j i + rC c j (i + 1))) := by
    unfold due
    rw [show ∑ i ∈ Finset.Ico 0 56, sC c i = _ from sum_steps (fun j k => rC c j (k + 1) + cC c j k) 14,
      show (tallyAt (barCell c) 1 2 : Owe) = _ from (tallyAt_add (barCell c) 1 1 1).symm, Finset.sum_add_distrib (s := (Finset.univ : Finset (Fin 4)))]
    rw [Fin.sum_univ_four (fun j => rC c j 0), Finset.sum_congr rfl fun j _ => Finset.sum_congr rfl fun i _ => add_comm (rC c j (i + 1)) (cC c j i)]
    ac_rfl
  rw [launch_due, e, cred_both _ _, cred_sum]
  refine Entails.of_eq (congrArg _ (BI.bigSep_congr fun j _ => ?_))
  unfold crdS
  rw [cred_both _ _, cred_sum]
  exact congrArg _ (BI.bigSep_congr fun i _ => cred_both _ _)

end Cert.KernelIdeal.RS
-- ==== Proof.Launch.lean ====
module

public import proofs.«01_k».proof.Proof.Deal

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Facts₀ Facts

variable {F : FTy → Type} [FloatOps F]

local notation "𝕄" => MT nD τ sig ℕ (Elt F) ℕ UU ℕ

variable (m : (ℓ : Loc nD τ sig) → Buf (Elt F) ℓ) (ρ : Dev nD → PrngReg)

/-! ## The cells -/

/-- The streams' cells are named once each. -/
theorem kd_inj : Function.Injective kd := by
  rintro ⟨j, a⟩ ⟨k, b⟩
  revert a b
  have e : ∀ a b : Fin 5, kd (j, a) = kd (k, b) → j = k ∧ a = b := by
    intro a b h
    fin_cases a <;> fin_cases b <;> simp_all [kd]
  exact fun a b h => Prod.ext (e a b h).1 (e a b h).2
/-- None of them is the barrier's. -/
theorem kd_bar (x : Fin 4 × Fin 5) : kd x ≠ .bar := by
  obtain ⟨j, a⟩ := x
  fin_cases a <;> exact fun h => by cases h
/-- And all others are among them. -/
theorem kd_all (k : Kd) (h : k ≠ .bar) : ∃ x, kd x = k := by
  cases k with
  | bar => exact absurd rfl h
  | crd j => exact ⟨(j, 0), rfl⟩
  | snd j p => fin_cases p; exacts [⟨(j, 1), rfl⟩, ⟨(j, 2), rfl⟩]
  | rcv j p => fin_cases p; exacts [⟨(j, 3), rfl⟩, ⟨(j, 4), rfl⟩]

def barEmb : Dev nD ↪ GSem nD τ sig := ⟨barCell, fun _ _ h => (cellOf_inj h).1⟩
def scEmb : Dev nD × (Fin 4 × Fin 5) ↪ GSem nD τ sig :=
  ⟨fun x => cellOf x.1 (kd x.2), fun _ _ h => Prod.ext (cellOf_inj h).1 (kd_inj (cellOf_inj h).2)⟩

/-- The barrier's cells, whose counters are at hand when the devices start. -/
abbrev barCells : Finset (GSem nD τ sig) := Finset.univ.map barEmb
/-- The streams' cells, whose counters come with the kernel's run. -/
abbrev scCells : Finset (GSem nD τ sig) := Finset.univ.map scEmb

/-- The barrier's cells and the streams' cells do not meet. -/
theorem disjoint_cells : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact kd_bar x.2 (cellOf_inj h).2

/-- Every device's barrier cell is among the barriers' cells. -/
theorem bar_mem (c : Dev nD) : barCell c ∈ (barCells : Finset (GSem nD τ sig)) := Finset.mem_map_of_mem barEmb (Finset.mem_univ c)
/-- Every cell is among all cells. -/
theorem cell_mem (c : Dev nD) (k : Kd) : cellOf c k ∈ (barCells ∪ scCells : Finset (GSem nD τ sig)) := by
  by_cases h : k = .bar
  · subst h; exact Finset.mem_union_left _ (bar_mem c)
  · obtain ⟨x, rfl⟩ := kd_all k h
    exact Finset.mem_union_right _ (Finset.mem_map_of_mem scEmb (Finset.mem_univ (c, x)))

/-! ## The payments -/

/-- A device's payments: the barrier's two, and each stream's. -/
abbrev TI := Fin 2 ⊕ (Fin 4 × (Fin 14 ⊕ (Fin 15 ⊕ Fin 15)))
/-- Where each payment falls. -/
def tkOf : TI → Kd × ℕ × Fin 2
  | .inl d => (.bar, 0, d)
  | .inr (j, .inl i) => (.crd j, i.val, 0)
  | .inr (j, .inr (.inl i)) => (.snd j (par i.val), i.val / 2, 0)
  | .inr (j, .inr (.inr i)) => (.rcv j (par (i.val + 1)), i.val / 2, 0)

/-- Hops of the same slot are alike by two. -/
theorem par_eq {a b : ℕ} (h : par a = par b) : a % 2 = b % 2 := by
  rw [← par_val, ← par_val, h]

/-- The tokens are named once each. -/
theorem tkOf_inj : Function.Injective tkOf := by
  rintro (d | ⟨j, i | i | i⟩) (d' | ⟨j', i' | i' | i'⟩) h <;> simp only [tkOf, Prod.mk.injEq, reduceCtorEq, Kd.crd.injEq, Kd.snd.injEq, Kd.rcv.injEq,
    _root_.false_and, _root_.true_and, _root_.and_true] at h
  · rw [h]
  · rw [h.1, Fin.ext h.2]
  · obtain ⟨⟨rfl, hp⟩, hi⟩ := h
    have := par_eq hp
    rw [show i = i' from Fin.ext (by omega)]
  · obtain ⟨⟨rfl, hp⟩, hi⟩ := h
    have := par_eq hp
    rw [show i = i' from Fin.ext (by omega)]

def tkEmb : Dev nD × TI ↪ GSem nD τ sig × ℕ × Fin 2 :=
  ⟨fun x => (cellOf x.1 (tkOf x.2).1, (tkOf x.2).2), fun _ _ h =>
    Prod.ext (cellOf_inj (congrArg Prod.fst h)).1
      (tkOf_inj (Prod.ext (cellOf_inj (congrArg Prod.fst h)).2 (congrArg (fun t : GSem nD τ sig × ℕ × Fin 2 => t.2) h)))⟩
/-- Every payment of every device. -/
def toks : Finset (GSem nD τ sig × ℕ × Fin 2) := Finset.univ.map tkEmb

/-- One thing for each index below `n`, counted as naturals. -/
theorem sep_fin {M : Type} [URA M] (n : ℕ) (Φ : ℕ → sProp M) : bigSep Finset.univ (fun i : Fin n => Φ i.val) = bigSep (Finset.Ico 0 n) Φ := by
  rw [show Finset.Ico 0 n = (Finset.univ : Finset (Fin n)).map Fin.valEmbedding from by
    ext i; simp only [Finset.mem_Ico, Finset.mem_map, Finset.mem_univ, _root_.true_and]
    exact ⟨fun h => ⟨⟨i, h.2⟩, rfl⟩, fun ⟨a, h⟩ => h ▸ ⟨Nat.zero_le _, a.isLt⟩⟩, BI.bigSep_map]
  rfl
/-- The first apart from the rest, the rest counted from nothing. -/
theorem sep_shift {M : Type} [URA M] (n : ℕ) (Φ : ℕ → sProp M) :
    bigSep (Finset.Ico 0 (n + 1)) Φ = iprop(Φ 0 ∗ bigSep (Finset.Ico 0 n) fun i => Φ (i + 1)) := by
  rw [ico_first (Nat.succ_pos n), BI.bigSep_insert (first_not_mem _ _)]
  refine congrArg _ ?_
  rw [show Finset.Ico (0 + 1) (n + 1) = (Finset.Ico 0 n).map (addRightEmbedding 1) from by
    ext i; simp only [Finset.mem_Ico, Finset.mem_map, addRightEmbedding_apply]
    exact ⟨fun h => ⟨i - 1, ⟨Nat.zero_le _, by omega⟩, by omega⟩, fun ⟨a, h, e⟩ => by omega⟩, BI.bigSep_map]
  rfl

abbrev tB (c : Dev nD) (d : Fin 2) : sProp 𝕄 := dutyTok ER (barCell c) 0 d
abbrev tC (c : Dev nD) (j : Fin 4) (i : ℕ) : sProp 𝕄 := dutyTok ER (crdCell c j) i 0
abbrev tS (c : Dev nD) (j : Fin 4) (i : ℕ) : sProp 𝕄 := dutyTok ER (sndCell c j (par i)) (i / 2) 0
abbrev tR (c : Dev nD) (j : Fin 4) (i : ℕ) : sProp 𝕄 := dutyTok ER (rcvCell c j (par (i + 1))) (i / 2) 0

/-- Every payment, device by device. -/
theorem toks_eq : (bigSep toks (fun x => dutyTok ER x.1 x.2.1 x.2.2) : sProp 𝕄)
    = bigSep Finset.univ fun c : Dev nD => iprop((tB c 0 ∗ tB c 1) ∗ bigSep Finset.univ fun j : Fin 4 =>
        iprop(bigSep (Finset.Ico 0 14) (tC c j) ∗ bigSep (Finset.Ico 0 15) (tS c j) ∗ bigSep (Finset.Ico 0 15) (tR c j))) := by
  unfold toks
  rw [BI.bigSep_map, BI.bigSep_univ_prod]
  refine BI.bigSep_congr fun c _ => ?_
  rw [BI.bigSep_univ_sum, BI.bigSep_univ_prod]
  refine congrArg₂ _ (BI.bigSep_fin_two _) (BI.bigSep_congr fun j _ => ?_)
  rw [BI.bigSep_univ_sum, BI.bigSep_univ_sum]
  exact congrArg₂ _ (sep_fin 14 (tC (F := F) c j)) (congrArg₂ _ (sep_fin 15 (tS (F := F) c j)) (sep_fin 15 (tR (F := F) c j)))

/-- The payments of stream `j` by the device that makes them. -/
def tokS (c : Dev nD) (j : Fin 4) : sProp 𝕄 :=
  iprop(bigSep (Finset.Ico 0 14) (tC (upsOf j c) j) ∗ bigSep (Finset.Ico 0 15) (tS c j) ∗ bigSep (Finset.Ico 0 15) (tR (dstOf j c) j))
/-- The payments by the device that makes them. -/
def tokD (c : Dev nD) : sProp 𝕄 := iprop((tB (nb 1 c) 0 ∗ tB (nb 0 c) 1) ∗ bigSep Finset.univ fun j : Fin 4 => tokS c j)

/-- One thing for each stream of each device, counted by another device of the stream. -/
theorem sep_turn (d : Fin 4 → Fin 2) (Φ : Dev nD → Fin 4 → sProp 𝕄) :
    bigSep Finset.univ (fun c : Dev nD => bigSep Finset.univ fun j : Fin 4 => Φ c j)
      = bigSep Finset.univ (fun c : Dev nD => bigSep Finset.univ fun j : Fin 4 => Φ (nb (d j) c) j) := by
  rw [← BI.bigSep_univ_prod (fun x : Dev nD × Fin 4 => Φ x.1 x.2), ← BI.bigSep_univ_prod (fun x : Dev nD × Fin 4 => Φ (nb (d x.2) x.1) x.2)]
  exact BI.bigSep_univ_equiv (⟨fun x => (nb (d x.2) x.1, x.2), fun x => (nb (other (d x.2)) x.1, x.2),
    fun x => Prod.ext (nb_other _ _) rfl, fun x => Prod.ext (nb_nb_other _ _) rfl⟩ : Dev nD × Fin 4 ≃ Dev nD × Fin 4) (fun x => Φ x.1 x.2)

/-- Every payment handed to the device that makes it. -/
theorem toks_deal : (bigSep toks (fun x => dutyTok ER x.1 x.2.1 x.2.2) : sProp 𝕄) = bigSep Finset.univ fun c : Dev nD => tokD c := by
  rw [toks_eq]
  unfold tokD tokS
  simp only [BI.bigSep_sep']
  rw [BI.bigSep_univ_equiv (turn 1) (fun c : Dev nD => (tB c 0 : sProp 𝕄)), BI.bigSep_univ_equiv (turn 0) (fun c : Dev nD => (tB c 1 : sProp 𝕄)),
    sep_turn (fun j => other (dirOf j)) (fun c j => (bigSep (Finset.Ico 0 14) (tC c j) : sProp 𝕄)),
    sep_turn dirOf (fun c j => (bigSep (Finset.Ico 0 15) (tR c j) : sProp 𝕄))]
  rfl

/-- A stream's credit and payments are what the stream starts from. -/
theorem pay_of (c : Dev nD) (j : Fin 4) : (iprop(crdS c j ∗ tokS c j) : sProp 𝕄) ⊢ payS c j := by
  unfold crdS tokS payS stepRes
  rw [sep_shift 14 (tS (F := F) c j), sep_shift 14 (tR (F := F) (dstOf j c) j)]
  simp only [BI.bigSep_sep']
  iintro ⟨⟨H0, Hc, Hr⟩, Htc, ⟨Hs0, Hs⟩, Hr0, Htr⟩
  isplitl [H0]; · iexact H0
  isplitl [Hs0]; · iexact Hs0
  isplitl [Hr0]; · iexact Hr0
  isplitl [Hc]; · iexact Hc
  isplitl [Hr]; · iexact Hr
  isplitl [Htc]; · iexact Htc
  isplitl [Htr] <;> iassumption

/-- Two resources for each device are one pair for each. -/
theorem sep_both {Φ Ψ : Dev nD → sProp 𝕄} : iprop(bigSep Finset.univ Φ ∗ bigSep Finset.univ Ψ) ⊢ bigSep Finset.univ fun c => iprop(Φ c ∗ Ψ c) :=
  Entails.of_eq (BI.bigSep_sep' _ Φ Ψ).symm
/-- And the other way round. -/
theorem sep_apart {Φ Ψ : Dev nD → sProp 𝕄} : (bigSep Finset.univ fun c => iprop(Φ c ∗ Ψ c)) ⊢ iprop(bigSep Finset.univ Φ ∗ bigSep Finset.univ Ψ) :=
  Entails.of_eq (BI.bigSep_sep' _ Φ Ψ)

/-! ## The launch -/

/-- All of a resource on one device. -/
def onDev (c₀ : Dev nD) (X : sProp 𝕄) (c : Dev nD) : sProp 𝕄 := if c = c₀ then X else iprop(emp)
/-- A resource on one device is that resource. -/
theorem sep_onDev (c₀ : Dev nD) (X : sProp 𝕄) : bigSep Finset.univ (onDev c₀ X) = X := by
  rw [BI.bigSep_univ_at _ c₀, BI.bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp sep_emp

/-- What the protocol starts from. -/
def gh : sProp 𝕄 := BI.own (ER (launchOf barCells scCells toks))
def G : Dev nD → sProp 𝕄 := onDev 0 gh

def u₀ : UU :=
  (initOf (Pipeline.cells (Pipeline.pin (pcfgs (F := F)) Gen.adm) Gen.cellOf_inj) (Pipeline.launchToks (Pipeline.pin (pcfgs (F := F)) Gen.adm) Gen.cellOf_inj),
    launchOf barCells scCells toks)

/-- What every device may consult. -/
def records (K : GSem nD τ sig → ℕ) : sProp 𝕄 :=
  iprop((bigSep (barCells ∪ scCells) fun g => cellInv ER (talk (cV m)) (K g) g) ∗ bigSep barCells fun g => reached ER g 0)
instance records_persistent (K : GSem nD τ sig → ℕ) : BI.Persistent (records m K) := by unfold records; infer_instance

/-- The cells' records hold the invariants. -/
theorem records_invs (K : GSem nD τ sig → ℕ) : (bigSep (barCells ∪ scCells) fun g => cellInv ER (talk (cV m)) (K g) g : sProp 𝕄) ⊢ invs (cV m) K :=
  sProp.forall_intro fun x => sProp.forall_intro fun k => BI.bigSep_elim (cell_mem x k)
/-- A device's barrier has reached its first round. -/
theorem reached_at (c : Dev nD) : (bigSep barCells fun g => reached ER g 0 : sProp 𝕄) ⊢ reached ER (barCell c) 0 :=
  BI.bigSep_elim (bar_mem c)

/-- What is one device's alone. -/
def mine (c : Dev nD) : sProp 𝕄 :=
  iprop(atPos ER (barCell c) 0 ∅ 0 ∗ (bigSep Finset.univ fun j : Fin 4 => shutS c j) ∗ tokD c)
/-- What a device brings besides. -/
def brings (c : Dev nD) : sProp 𝕄 :=
  iprop((cred (tallyAt (barCell c) 1 2) ∗ bigSep Finset.univ fun j : Fin 4 => crdS c j) ∗ (∃ r, prngReg c r) ∗ owe c (owStart c))

/-- What a device holds at the launch. -/
theorem E0_intro (K : GSem nD τ sig → ℕ) (c : Dev nD) : iprop(records m K ∗ (mine c ∗ brings c)) ⊢ E0 m c := by
  unfold records mine brings E0 Tk tokD barR
  rw [sep_four (fun j => (shutS c j : sProp 𝕄)), sep_four (fun j => (tokS c j : sProp 𝕄)), sep_four (fun j => (crdS c j : sProp 𝕄))]
  iintro ⟨⟨#HI, #HR⟩, ⟨Ha, Hs, ⟨Ht0, Ht1⟩, HT0, HT1, HT2, HT3⟩, ⟨⟨Hcb, HC0, HC1, HC2, HC3⟩, Hp, HO⟩⟩
  isplitr [Hp HO]
  · iexists K
    isplitr; · iapply (records_invs m K); iexact HI
    isplitl [Ha Hcb Ht0 Ht1]
    · isplitl [Ha]; · iexact Ha
      isplitl [Hcb]; · iexact Hcb
      isplitl [Ht1]
      · isplitl [Ht1]; · iexact Ht1
        iapply (reached_at (F := F) (nb 0 c)); iexact HR
      · isplitl [Ht0]; · iexact Ht0
        iapply (reached_at (F := F) (nb 1 c)); iexact HR
    isplitl [Hs]; · iexact Hs
    isplitl [HT0 HC0]; · iapply (pay_of c 0); isplitl [HC0] <;> iassumption
    isplitl [HT1 HC1]; · iapply (pay_of c 1); isplitl [HC1] <;> iassumption
    isplitl [HT2 HC2]; · iapply (pay_of c 2); isplitl [HC2] <;> iassumption
    iapply (pay_of c 3); isplitl [HC3] <;> iassumption
  isplitl [Hp] <;> iassumption

/-- The barrier is the only semaphore outside the region. -/
theorem unscoped_eq : ∀ sm : SemLoc sig, sm.isScoped .tc = false → sm = locOf .bar := by decide

/-- So the semaphores outside are the barrier's counter. -/
theorem unscopedSems_eq (c : Dev nD) : (unscopedSems0 c : sProp 𝕄) = semVal (barCell c) 0 := by
  unfold unscopedSems0
  rw [show (Finset.univ.filter fun sm : SemLoc sig => ¬ sm.isScoped .tc = true) = {locOf .bar} from by decide]
  exact BI.bigSep_singleton

/-- The devices' start: every record made, everything dealt. -/
theorem init :
    iprop((bigSep Finset.univ fun c : Dev nD => iprop(unscopedSems0 c
          ∗ owes (c : Thread nD τ) (owStart c) ∅ ∗ Pipeline.launchCred owStart c ∗ prngReg c (ρ c) ∗ G c)) ∗ levAts L lv)
      ⊢ (|={Set.univ}=> bigSep Finset.univ (E0 m) : sProp 𝕄) := by
  have hcore (c : Dev nD) : iprop(unscopedSems0 c
        ∗ owes (c : Thread nD τ) (owStart c) ∅ ∗ Pipeline.launchCred owStart c ∗ prngReg c (ρ c) ∗ G c)
      ⊢ (iprop(brings c ∗ (semVal (barCell c) 0 ∗ G c)) : sProp 𝕄) := by
    rw [unscopedSems_eq]
    unfold brings owe
    iintro ⟨Hus, HO, Hcr, Hp, HG⟩
    isplitr [Hus HG]
    · isplitl [Hcr]; · iapply (creds c); iexact Hcr
      isplitl [Hp]; · iexists (ρ c); iexact Hp
      iexists ∅; iexact HO
    isplitl [Hus] <;> iassumption
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => (bigSep Finset.univ fun j : Fin 4 => shutS c j : sProp 𝕄)) :=
    Entails.of_eq (by
      rw [BI.bigSep_map, BI.bigSep_univ_prod]
      exact BI.bigSep_congr fun c _ => sep_kd fun k => (openTok ER (cellOf c k) : sProp 𝕄))
  iintro ⟨H, -⟩
  ihave H' := (show (bigSep Finset.univ fun c : Dev nD => iprop(unscopedSems0 c
          ∗ owes (c : Thread nD τ) (owStart c) ∅ ∗ Pipeline.launchCred owStart c ∗ prngReg c (ρ c) ∗ G c))
      ⊢ (bigSep Finset.univ fun c : Dev nD => iprop(brings c ∗ (semVal (barCell c) 0 ∗ G c)) : sProp 𝕄) from BI.bigSep_mono fun c _ => hcore c) $$ H
  ihave H2 := sep_apart $$ H'; icases H2 with ⟨HB, H3⟩
  ihave H4 := sep_apart $$ H3; icases H4 with ⟨Hv, HG⟩
  ihave Hu := (show bigSep Finset.univ (G (F := F)) ⊢ BI.own (ER (launchOf barCells scCells toks)) from
    Entails.of_eq (sep_onDev (F := F) 0 gh)) $$ HG
  imod (Rounds.fund_launch ER (talk (cV m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(mine c ∗ brings c)) fun c _ => E0_intro m κ c)
  isplitr
  · unfold records
    isplitr; · iexact Hinv
    iexact Hr
  iapply sep_both
  isplitr [HB]
  · unfold mine
    iapply sep_both; isplitl [Hat]; · iapply hat $$ Hat
    iapply sep_both; isplitl [Hopen]; · iapply hopen $$ Hopen
    iapply (Entails.of_eq (toks_deal (F := F))) $$ Htok
  · iexact HB

end Cert.KernelIdeal.RS
-- ==== Proof.Run.lean ====
module

public import proofs.«01_k».proof.Proof.Launch

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Facts₀ Facts

variable {F : FTy → Type} [FloatOps F]

local notation "𝕄" => MT nD τ sig ℕ (Elt F) ℕ UU ℕ

variable (m : (ℓ : Loc nD τ sig) → Buf (Elt F) ℓ) (ρ : Dev nD → PrngReg)

/-! ## The run -/

/-- There are no levels off the main core. -/
theorem L_off : ∀ g : GSem nD τ sig, g.1.2 ≠ .tc → L g = ∅ := fun g h => by unfold L; rw [if_neg h]

/-- What holds of a core at the end. -/
def EndOf (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v48) = rV m c) ∧ s.sem (barCell c) = 0

set_option backward.isDefEq.respectTransparency.types false in
/-- Every run ends, with the arguments as they were, the result what the streams bring, and every counter at zero. -/
theorem run_main (hP : ∀ c, Prm c (pV m c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v48) = rV m c) ∧ r.2.sem = fun _ => 0) := by
  refine Pipeline.θ_run_regions_kit_dev_sems (pcfgs (F := F)) Gen.adm (pdats m) 0 Gen.cellOf_inj EP defs₀ 𝒱₀ L lv m ρ main
    (Gen.segs m 𝒱₀ L lv (fun i c => if i = 0 then E0 m c else E1 c) 0 (pdats m) (reg m hP))
    (fun c Q => by
      rewrite [Gen.main_chain c, Pipeline.Seg.run_eq_chain,
        show (Gen.segs m 𝒱₀ L lv (fun i c => if i = 0 then E0 m c else E1 c) 0 (pdats m) (reg m hP) c).map Pipeline.Seg.prog = [
          StableHlo.seq (Gen.hostOps0 c),
          StableHlo.seq Gen.hostOps0_1,
          StableHlo.seq Gen.hostOps0_2,
          StableHlo.seq Gen.hostOps0_3,
          StableHlo.seq Gen.hostOps0_4,
          StableHlo.seq Gen.hostOps0_5,
          StableHlo.seq Gen.hostOps0_6,
          StableHlo.seq Gen.hostOps0_7,
          StableHlo.seq Gen.hostOps0_8,
          StableHlo.seq Gen.hostOps0_9,
          StableHlo.seq Gen.hostOps0_10,
          Prog.lift (.customCall (Pipeline.entry 0) ()) ] from rfl]
      dsimp (config := { failIfUnchanged := false }) only
      exact .rfl)
    (fun c => by simp only [Gen.segs, Pipeline.Seg.pipes_host, Pipeline.Seg.pipes_region, Pipeline.Seg.pipes_nil]; decide) owStart L_off G (u₀ (F := F))
    (by
      unfold u₀ G gh
      iintro Hu
      ihave H := (ownU_pair _ _) $$ Hu
      icases H with ⟨HP, HX⟩
      imodintro
      isplitl [HP]; · iexact HP
      rw [sep_onDev]; iexact HX)
    (T₀ := fun c => iprop(StableHlo.held (c : Thread nD τ) (Pipeline.ucRefs τ sig) (Gen.V0 m c) ∗ E0 m c))
    (Tₙ := fun c => iprop(StableHlo.held (c : Thread nD τ) (Pipeline.ucRefs τ sig) (Gen.V12 m (outs m) c) ∗ semVal (barCell c) 0))
    (hch := fun c => ⟨.rfl, .rfl, .rfl, .rfl, .rfl, .rfl, .rfl, .rfl, .rfl, .rfl, .rfl, reg_pre m hP c, (reg_post m hP c).trans ?_⟩)
    (hinit := ?_) (QY := EndOf m)
    (hfin := fun c s' => ?_) (hQ := fun s h hs => ⟨fun c => (h c).1, sem_eq_zero hs fun c sm hsm => by
      obtain rfl := unscoped_eq sm hsm
      exact (h c).2⟩)
  · unfold E1 owe
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (owStart c) ∅ ∗ Pipeline.launchCred owStart c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (owStart c) ∅ ∗ Pipeline.launchCred owStart c ∗ prngReg c (ρ c) ∗ G c))
            : sProp 𝕄) := by
      rw [← BI.bigSep_sep']
      exact BI.bigSep_mono fun c _ => by
        rw [← Pipeline.unscopedBufs_held (Ix := ℕ) (Name := ℕ) (U := UU) (Lvl := ℕ) c (Gen.V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [BI.bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (Gen.V12 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (Gen.V12_main_arg0 m (outs m) c),
        (h (Proc.devRef .tc main_arg1) (Finset.mem_filter.mpr ⟨StableHlo.devRef_mem_tcRefs main_arg1, by decide⟩)).trans (Gen.V12_main_arg1 m (outs m) c),
        (h (Proc.devRef .tc main_v48) (Finset.mem_filter.mpr ⟨StableHlo.devRef_mem_tcRefs main_v48, by decide⟩)).trans (v12_out m c)⟩, by simpa using hb⟩
    · iexact HSI

end Cert.KernelIdeal.RS
-- ==== Proof.Host.lean ====
module

public import proofs.«01_k».proof.Proof.Round
public import proofs.«01_k».proof.Proof.Gen.KernelIdeal.Regions
public import Idealize.ShloMosaic.Lib.StableHlo.Run
public meta import Idealize.ShloMosaic.Lib.StableHlo.Run

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Facts₀ Facts
open Idealize.ShloMosaic.StableHlo

variable {F : FTy → Type} [FloatOps F]

local notation "𝕄" => MT nD τ sig ℕ (Elt F) ℕ UU ℕ

variable (m : (ℓ : Loc nD τ sig) → Buf (Elt F) ℓ)

variable (W : Valuation τ sig (Elt F))

/-! ## The parameters the host computes -/

/-- The ring, as the host lists it. -/
def ringW : IVec S16 32 := fun i => lit0 (S16.rowMajor i)

/-- Where the host compares the ring with a device's own word. -/
def mineW (c : Dev nD) : IVec S16 1 :=
  cmpi .eq ringW (broadcastInDim S16 ![] bcast_S_S16 (Host.remui (Host.divui (constantI S_ 32 (Dev.word c)) (constantI S_ 32 1#32)) (constantI S_ 32 16#32)))
/-- A device's place on the ring. -/
def placeW (c : Dev nD) : IVec S_ 32 :=
  fun j => (Host.reduce2 reducer_argmax_i1_i32 (mineW c) (iotaInDim S16 32 0) (constantI S_ 1 0#1) (constantI S_ 32 0#32) reducesTo_S16_S_d0 h_S_ j).2

/-- The first stretch lists the ring. -/
theorem at0_c (c : Dev nD) : StableHlo.after (Gen.hostOps0 c) W (Proc.devRef .tc main_c) = ringW := rfl
/-- And compares it with the device's own word. -/
theorem at0_v6 (c : Dev nD) : StableHlo.after (Gen.hostOps0 c) W (Proc.devRef .tc main_v6) = mineW c := rfl
/-- The second stretch finds the place. -/
theorem at1_v7 : StableHlo.after Gen.hostOps0_1 W (Proc.devRef .tc main_v7)
  = fun j => (Host.reduce2 reducer_argmax_i1_i32 (W (Proc.devRef .tc main_v6) : IVec S16 1) (iotaInDim S16 32 0) (constantI S_ 1 0#1) (constantI S_ 32 0#32) reducesTo_S16_S_d0 h_S_ j).2 := rfl

/-- The divisor a remainder is taken by. -/
def divW (k : IVec S_ 32) : IVec S_ 32 := select (cmpi .eq k (constantI S_ 32 0#32)) (constantI S_ 32 1#32) k
/-- The remainder of a word, of the divisor's sign. -/
def remW (x k : IVec S_ 32) : IVec S_ 32 :=
  select (andi (cmpi .ne (cmpi .slt (Host.remsi x (divW k)) (constantI S_ 32 0#32)) (cmpi .slt (divW k) (constantI S_ 32 0#32)))
      (cmpi .ne (Host.remsi x (divW k)) (constantI S_ 32 0#32)))
    (addi (Host.remsi x (divW k)) (divW k)) (Host.remsi x (divW k))
/-- A word over fifteen lanes. -/
abbrev spread {w : ℕ} (x : IVec S_ w) : IVec S15 w := broadcastInDim S15 ![] bcast_S_S15 x
/-- The remainders of fifteen words. -/
def remsW (x : IVec S15 32) (k : IVec S_ 32) : IVec S15 32 :=
  select (andi (cmpi .ne (cmpi .slt (Host.remsi x (spread (divW k))) (spread (constantI S_ 32 0#32))) (spread (cmpi .slt (divW k) (constantI S_ 32 0#32))))
      (cmpi .ne (Host.remsi x (spread (divW k))) (spread (constantI S_ 32 0#32))))
    (addi (Host.remsi x (spread (divW k))) (spread (divW k))) (Host.remsi x (spread (divW k)))
/-- A place counted from the front. -/
def wrapW (p : IVec S_ 32) : IVec S_ 32 := select (cmpi .slt p (constantI S_ 32 0#32)) (addi p (constantI S_ 32 16#32)) p
def wrapsW (p : IVec S15 32) : IVec S15 32 :=
  select (cmpi .slt p (spread (constantI S_ 32 0#32))) (addi p (spread (constantI S_ 32 16#32))) p
/-- The ring's device at a place. -/
def pickW (g : IVec S16 32) (p : IVec S_ 32) : IVec S_ 32 :=
  shapeCast S_ (Host.dynamicSlice S1 g (fun _ => (wrapW p (Shape.Idx.first h_S_)).toInt) sliceFits_S16_S1) shapeCasts_S1_S_
def picksW (g : IVec S16 32) (p : IVec S15 32) : IVec S15 32 :=
  Host.gather gather_S16_S15x1_S15_n_0_n_n_0_1_1 g (broadcastInDim S15x1 ![0] bcast_S15_S15x1_0 (wrapsW p))
/-- The parameters, put together. -/
def joinW (a b : IVec S_ 32) (x y : IVec S15 32) : IVec S32 32 :=
  concatenate S32 0 [⟨S1, broadcastInDim S1 ![] bcast_S_S1 a⟩, ⟨S1, broadcastInDim S1 ![] bcast_S_S1 b⟩, ⟨S15, x⟩, ⟨S15, y⟩] concatenates_S1_S1_S15_S15_S32_d0

/-- The place after the device's. -/
theorem at2_v8 : StableHlo.after Gen.hostOps0_2 W (Proc.devRef .tc main_v8) = addi (W (Proc.devRef .tc main_v7) : IVec S_ 32) (constantI S_ 32 1#32) := by
  after_results_simp
/-- The length of the ring, to divide by. -/
theorem at2_c3 : StableHlo.after Gen.hostOps0_2 W (Proc.devRef .tc main_c_3) = constantI S_ 32 16#32 := by
  after_results_simp
/-- The next place, on the ring. -/
theorem at3_v9 : StableHlo.after Gen.hostOps0_3 W (Proc.devRef .tc main_v9) = remW (W (Proc.devRef .tc main_v8)) (W (Proc.devRef .tc main_c_3)) := by
  after_results_simp
  simp only [TRef.ofBuf, TRef.toBuf, cast_cast, cast_eq, id]
  rfl
/-- The device there. -/
theorem at4_v14 : StableHlo.after Gen.hostOps0_4 W (Proc.devRef .tc main_v14) = pickW (W (Proc.devRef .tc main_c)) (W (Proc.devRef .tc main_v9)) := by
  after_results_simp
  unfold pickW
  funext i
  refine congrArg (fun p => shapeCast S_ (Host.dynamicSlice S1 (W (Proc.devRef .tc main_c) : IVec S16 32) p sliceFits_S16_S1) shapeCasts_S1_S_ i) (funext fun k => ?_)
  obtain rfl : k = (0 : Fin 1) := Subsingleton.elim (α := Fin 1) k 0
  refine congrArg (fun u : IVec S_ 32 => (u (Shape.Idx.first h_S_)).toInt) ((cast_eq _ _).trans ?_)
  change HloOp.result _ _ (Proc.devRef .tc main_v12) = _
  after_results_simp
  rfl
/-- The place before the device's. -/
theorem at4_v15 : StableHlo.after Gen.hostOps0_4 W (Proc.devRef .tc main_v15) = subi (W (Proc.devRef .tc main_v7) : IVec S_ 32) (constantI S_ 32 1#32) := by
  after_results_simp
/-- The length of the ring once more. -/
theorem at4_c7 : StableHlo.after Gen.hostOps0_4 W (Proc.devRef .tc main_c_7) = constantI S_ 32 16#32 := by
  after_results_simp
/-- The last place, on the ring. -/
theorem at5_v16 : StableHlo.after Gen.hostOps0_5 W (Proc.devRef .tc main_v16) = remW (W (Proc.devRef .tc main_v15)) (W (Proc.devRef .tc main_c_7)) := by
  after_results_simp
  simp only [TRef.ofBuf, TRef.toBuf, cast_cast, cast_eq, id]
  rfl
/-- The device there. -/
theorem at6_v21 : StableHlo.after Gen.hostOps0_6 W (Proc.devRef .tc main_v21) = pickW (W (Proc.devRef .tc main_c)) (W (Proc.devRef .tc main_v16)) := by
  after_results_simp
  unfold pickW
  funext i
  refine congrArg (fun p => shapeCast S_ (Host.dynamicSlice S1 (W (Proc.devRef .tc main_c) : IVec S16 32) p sliceFits_S16_S1) shapeCasts_S1_S_ i) (funext fun k => ?_)
  obtain rfl : k = (0 : Fin 1) := Subsingleton.elim (α := Fin 1) k 0
  refine congrArg (fun u : IVec S_ 32 => (u (Shape.Idx.first h_S_)).toInt) ((cast_eq _ _).trans ?_)
  change HloOp.result _ _ (Proc.devRef .tc main_v19) = _
  after_results_simp
  rfl
/-- The fifteen steps. -/
theorem at6_v22 : StableHlo.after Gen.hostOps0_6 W (Proc.devRef .tc main_v22) = iotaInDim S15 32 0 := by
  after_results_simp
/-- The places going back. -/
theorem at6_v25 : StableHlo.after Gen.hostOps0_6 W (Proc.devRef .tc main_v25)
  = subi (spread (subi (W (Proc.devRef .tc main_v7) : IVec S_ 32) (constantI S_ 32 2#32))) (iotaInDim S15 32 0) := by
  after_results_simp
/-- The length of the ring, for those. -/
theorem at6_c11 : StableHlo.after Gen.hostOps0_6 W (Proc.devRef .tc main_c_11) = constantI S_ 32 16#32 := by
  after_results_simp
/-- The places going back, on the ring. -/
theorem at7_v26 : StableHlo.after Gen.hostOps0_7 W (Proc.devRef .tc main_v26) = remsW (W (Proc.devRef .tc main_v25)) (W (Proc.devRef .tc main_c_11)) := by
  after_results_simp
  simp only [TRef.ofBuf, TRef.toBuf, cast_cast, cast_eq, id]
  rfl
/-- The devices there. -/
theorem at8_v33 : StableHlo.after Gen.hostOps0_8 W (Proc.devRef .tc main_v33) = picksW (W (Proc.devRef .tc main_c)) (W (Proc.devRef .tc main_v26)) := by
  after_results_simp; rfl
/-- The places going on. -/
theorem at8_v36 : StableHlo.after Gen.hostOps0_8 W (Proc.devRef .tc main_v36)
  = addi (spread (addi (W (Proc.devRef .tc main_v7) : IVec S_ 32) (constantI S_ 32 2#32))) (W (Proc.devRef .tc main_v22) : IVec S15 32) := by
  after_results_simp
/-- The length of the ring, for those. -/
theorem at8_c15 : StableHlo.after Gen.hostOps0_8 W (Proc.devRef .tc main_c_15) = constantI S_ 32 16#32 := by
  after_results_simp
/-- The places going on, on the ring. -/
theorem at9_v37 : StableHlo.after Gen.hostOps0_9 W (Proc.devRef .tc main_v37) = remsW (W (Proc.devRef .tc main_v36)) (W (Proc.devRef .tc main_c_15)) := by
  after_results_simp
  simp only [TRef.ofBuf, TRef.toBuf, cast_cast, cast_eq, id]
  rfl
/-- The last stretch puts the parameters together. -/
theorem at10_v47 : StableHlo.after Gen.hostOps0_10 W (Proc.devRef .tc main_v47)
  = joinW (W (Proc.devRef .tc main_v14)) (W (Proc.devRef .tc main_v21)) (W (Proc.devRef .tc main_v33))
      (picksW (W (Proc.devRef .tc main_c)) (W (Proc.devRef .tc main_v37))) := by
  after_results_simp; rfl

/-! ## Their values -/

variable (m : (ℓ : Loc nD τ sig) → Buf (Elt F) ℓ)

/-- A device's place on the ring. -/
def posT : Fin 16 → ℕ := ![0, 1, 8, 9, 15, 2, 7, 10, 14, 3, 6, 11, 13, 4, 5, 12]
/-- The place as a word. -/
def posW (c : Dev nD) : IVec S_ 32 := fun _ => BitVec.ofNat 32 (posT c)
def ix15 (i : Fin 15) : S15.Idx := fun | ⟨0, _⟩ => i
def ix32 (i : Fin 32) : S32.Idx := fun | ⟨0, _⟩ => i
/-- A device of the table as a word. -/
def tabW (c : Dev nD) (i : Fin 32) : BitVec 32 := BitVec.ofNat 32 (tab c i).val
/-- Fifteen devices of the table. -/
def tabsW (c : Dev nD) (n : ℕ) : IVec S15 32 := fun i => tabW c (Fin.ofNat 32 ((i 0).val + n))

/-- Arrays of one element are equal when that element is. -/
theorem one_lane {A : Type} {f g : S_.Idx → A} (h : f (Shape.Idx.first h_S_) = g (Shape.Idx.first h_S_)) : f = g :=
  funext fun j => by obtain rfl : j = Shape.Idx.first h_S_ := funext fun a => a.elim0
                     exact h
/-- Every index of fifteen is one of them. -/
theorem ix15_all (i : S15.Idx) : i = ix15 (i 0) := funext fun | ⟨0, _⟩ => rfl
/-- Every index of thirty-two is one of them. -/
theorem ix32_all (i : S32.Idx) : i = ix32 (i 0) := funext fun | ⟨0, _⟩ => rfl

/-- The place found is the device's, on all sixteen devices. -/
theorem place_all : ∀ c : Fin 16, placeW c (Shape.Idx.first h_S_) = BitVec.ofNat 32 (posT c) := by decide +kernel
/-- The same as arrays. -/
theorem place_eq (c : Dev nD) : placeW c = posW c := one_lane (place_all c)
/-- The device at the next place is the successor. -/
theorem succ_all : ∀ c : Fin 16, pickW ringW (remW (addi (posW c) (constantI S_ 32 1#32)) (constantI S_ 32 16#32)) (Shape.Idx.first h_S_) = tabW c 0 := by
  decide +kernel
/-- The device at the last place is the predecessor. -/
theorem pred_all : ∀ c : Fin 16, pickW ringW (remW (subi (posW c) (constantI S_ 32 1#32)) (constantI S_ 32 16#32)) (Shape.Idx.first h_S_) = tabW c 1 := by
  decide +kernel
/-- The devices going back are the table's. -/
theorem back_all : ∀ (c : Fin 16) (i : Fin 15), picksW ringW (remsW (subi (spread (subi (posW c) (constantI S_ 32 2#32))) (iotaInDim S15 32 0)) (constantI S_ 32 16#32)) (ix15 i)
    = tabsW c 2 (ix15 i) := by
  decide +kernel
/-- The devices going on are the table's. -/
theorem ahead_all : ∀ (c : Fin 16) (i : Fin 15), picksW ringW (remsW (addi (spread (addi (posW c) (constantI S_ 32 2#32))) (iotaInDim S15 32 0)) (constantI S_ 32 16#32)) (ix15 i)
    = tabsW c 17 (ix15 i) := by
  decide +kernel
/-- Put together they are the table. -/
theorem join_all : ∀ (c : Fin 16) (i : Fin 32), joinW (fun _ => tabW c 0) (fun _ => tabW c 1) (tabsW c 2) (tabsW c 17) (ix32 i) = tabW c i := by
  decide +kernel

/-! ## The run's parameters -/

/-- The ring after the first ten stretches, and at every one on the way. -/
theorem c_at4 (c : Dev nD) : Gen.V4 m c (Proc.devRef .tc main_c) = ringW :=
  (Gen.V4_of m c main_c (by decide)).trans <| (Gen.V3_of m c main_c (by decide)).trans <| (Gen.V2_of m c main_c (by decide)).trans (at0_c (Gen.V0 m c) c)
/-- The ring is kept up to the seventh stretch. -/
theorem c_at6 (c : Dev nD) : Gen.V6 m c (Proc.devRef .tc main_c) = ringW :=
  (Gen.V6_of m c main_c (by decide)).trans <| (Gen.V5_of m c main_c (by decide)).trans (c_at4 m c)
/-- And up to the ninth. -/
theorem c_at8 (c : Dev nD) : Gen.V8 m c (Proc.devRef .tc main_c) = ringW :=
  (Gen.V8_of m c main_c (by decide)).trans <| (Gen.V7_of m c main_c (by decide)).trans (c_at6 m c)
/-- And up to the last. -/
theorem c_at10 (c : Dev nD) : Gen.V10 m c (Proc.devRef .tc main_c) = ringW :=
  (Gen.V10_of m c main_c (by decide)).trans <| (Gen.V9_of m c main_c (by decide)).trans (c_at8 m c)
/-- The device's place, found by the second stretch and kept. -/
theorem v7_at2 (c : Dev nD) : Gen.V2 m c (Proc.devRef .tc main_v7) = posW c := by
  refine (at1_v7 (Gen.V1 m c)).trans (Eq.trans ?_ (place_eq c))
  rw [show Gen.V1 m c (Proc.devRef .tc main_v6) = mineW c from at0_v6 (Gen.V0 m c) c]
  rfl
/-- The place is kept up to the fifth stretch. -/
theorem v7_at4 (c : Dev nD) : Gen.V4 m c (Proc.devRef .tc main_v7) = posW c :=
  (Gen.V4_of m c main_v7 (by decide)).trans <| (Gen.V3_of m c main_v7 (by decide)).trans (v7_at2 m c)
/-- And up to the seventh. -/
theorem v7_at6 (c : Dev nD) : Gen.V6 m c (Proc.devRef .tc main_v7) = posW c :=
  (Gen.V6_of m c main_v7 (by decide)).trans <| (Gen.V5_of m c main_v7 (by decide)).trans (v7_at4 m c)
/-- And up to the ninth. -/
theorem v7_at8 (c : Dev nD) : Gen.V8 m c (Proc.devRef .tc main_v7) = posW c :=
  (Gen.V8_of m c main_v7 (by decide)).trans <| (Gen.V7_of m c main_v7 (by decide)).trans (v7_at6 m c)

/-- The first parameter is the successor. -/
theorem v14_at5 (c : Dev nD) : Gen.V5 m c (Proc.devRef .tc main_v14) = fun _ => tabW c 0 := by
  refine (at4_v14 (Gen.V4 m c)).trans ?_
  rw [c_at4, show Gen.V4 m c (Proc.devRef .tc main_v9) = _ from at3_v9 (Gen.V3 m c),
    show Gen.V3 m c (Proc.devRef .tc main_v8) = _ from at2_v8 (Gen.V2 m c),
    show Gen.V3 m c (Proc.devRef .tc main_c_3) = _ from at2_c3 (Gen.V2 m c), v7_at2]
  exact one_lane (succ_all c)
/-- The second is the predecessor. -/
theorem v21_at7 (c : Dev nD) : Gen.V7 m c (Proc.devRef .tc main_v21) = fun _ => tabW c 1 := by
  refine (at6_v21 (Gen.V6 m c)).trans ?_
  rw [c_at6, show Gen.V6 m c (Proc.devRef .tc main_v16) = _ from at5_v16 (Gen.V5 m c),
    show Gen.V5 m c (Proc.devRef .tc main_v15) = _ from at4_v15 (Gen.V4 m c),
    show Gen.V5 m c (Proc.devRef .tc main_c_7) = _ from at4_c7 (Gen.V4 m c), v7_at4]
  exact one_lane (pred_all c)
/-- The next fifteen are the chunks going back. -/
theorem v33_at9 (c : Dev nD) : Gen.V9 m c (Proc.devRef .tc main_v33) = tabsW c 2 := by
  refine (at8_v33 (Gen.V8 m c)).trans ?_
  rw [c_at8, show Gen.V8 m c (Proc.devRef .tc main_v26) = _ from at7_v26 (Gen.V7 m c),
    show Gen.V7 m c (Proc.devRef .tc main_v25) = _ from at6_v25 (Gen.V6 m c),
    show Gen.V7 m c (Proc.devRef .tc main_c_11) = _ from at6_c11 (Gen.V6 m c), v7_at6]
  funext i
  rw [ix15_all i]
  exact back_all c (i 0)
/-- The last fifteen are the chunks going on. -/
theorem v37_at10 (c : Dev nD) : picksW ringW (Gen.V10 m c (Proc.devRef .tc main_v37)) = tabsW c 17 := by
  rw [show Gen.V10 m c (Proc.devRef .tc main_v37) = _ from at9_v37 (Gen.V9 m c),
    show Gen.V9 m c (Proc.devRef .tc main_v36) = _ from at8_v36 (Gen.V8 m c),
    show Gen.V9 m c (Proc.devRef .tc main_c_15) = _ from at8_c15 (Gen.V8 m c), v7_at8,
    show Gen.V8 m c (Proc.devRef .tc main_v22) = _ from
      (Gen.V8_of m c main_v22 (by decide)).trans (at6_v22 (Gen.V6 m c))]
  funext i
  rw [ix15_all i]
  exact ahead_all c (i 0)
/-- The parameters the region is called with are the device's table. -/
theorem params_eq (c : Dev nD) : Gen.V11 m c (Proc.devRef .tc main_v47) = (fun i => tabW c (i 0) : IVec S32 32) := by
  refine (at10_v47 (Gen.V10 m c)).trans ?_
  rw [c_at10, v37_at10,
    show Gen.V10 m c (Proc.devRef .tc main_v14) = _ from
      (Gen.V10_of m c main_v14 (by decide)).trans <| (Gen.V9_of m c main_v14 (by decide)).trans <| (Gen.V8_of m c main_v14 (by decide)).trans <|
      (Gen.V7_of m c main_v14 (by decide)).trans <| (Gen.V6_of m c main_v14 (by decide)).trans (v14_at5 m c),
    show Gen.V10 m c (Proc.devRef .tc main_v21) = _ from
      (Gen.V10_of m c main_v21 (by decide)).trans <| (Gen.V9_of m c main_v21 (by decide)).trans <| (Gen.V8_of m c main_v21 (by decide)).trans (v21_at7 m c),
    show Gen.V10 m c (Proc.devRef .tc main_v33) = _ from (Gen.V10_of m c main_v33 (by decide)).trans (v33_at9 m c)]
  funext i
  rw [ix32_all i]
  exact join_all c (i 0)

def ix1 : S1.Idx := fun | ⟨0, _⟩ => (0 : Fin 1)
/-- There is one index of one element. -/
theorem ix1_all (x : S1.Idx) : x = ix1 := funext fun | ⟨0, _⟩ => Subsingleton.elim (α := Fin 1) _ _
/-- The word read at a place is the word of that place. -/
theorem word_at : ∀ i : Fin 32, ((Rect.unit (s := S32) ![i.val] S1.size (inbWord i)).emb ix1 0).val = i.val := by
  decide +kernel
/-- So every word the kernel reads is the device its table names. -/
theorem prm_all (c : Dev nD) : Prm (F := F) c (Gen.V11 m c (Proc.devRef .tc main_v47)) := by
  intro i
  rw [params_eq]
  funext x
  show tabW c ((Rect.unit (s := S32) ![i.val] S1.size (inbWord i)).emb x 0) = tabW c i
  rw [ix1_all x]
  exact congrArg (tabW c) (Fin.ext (word_at i))

end Cert.KernelIdeal.RS
-- ==== Proof.Main.lean ====
module

public import proofs.«01_k».proof.Proof.Run
public import proofs.«01_k».proof.Proof.Host

@[expose] public section

noncomputable section

namespace Cert.KernelIdeal.RS

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal Facts₀ Facts

variable {F : FTy → Type} [FloatOps F]

local notation "𝕄" => MT nD τ sig ℕ (Elt F) ℕ UU ℕ

variable (m : (ℓ : Loc nD τ sig) → Buf (Elt F) ℓ)

variable (m : (ℓ : Loc nD τ sig) → Buf (Elt F) ℓ) (ρ : Dev nD → PrngReg)

/-! ## What the run leaves -/

/-- The run leaves the arguments as they were, the result the ring's sum, and no count on any semaphore. -/
theorem run_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v48) = rV m c) ∧ r.2.sem = fun _ => 0) :=
  run_main m ρ fun c => prm_all m c

/-- The frame: the arguments and the semaphores alone. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).1, (h.1 c).2.1⟩, h.2⟩) (run_all m ρ)

/-- The left operand the region is called with is the argument. -/
theorem aV_eq (c : Dev nD) : aV m c = m ((c.tc : Thread nD τ).loc main_arg0) :=
  (Gen.V12_of m (outs m) c main_arg0 (by decide)).symm.trans (Gen.V12_main_arg0 m (outs m) c)
/-- And the right one. -/
theorem bV_eq (c : Dev nD) : bV m c = m ((c.tc : Thread nD τ).loc main_arg1) :=
  (Gen.V12_of m (outs m) c main_arg1 (by decide)).symm.trans (Gen.V12_main_arg1 m (outs m) c)

end Cert.KernelIdeal.RS
-- ==== Proof.Sum.lean ====
module

public import proofs.«01_k».proof.Proof.Out
public import Idealize.ShloMosaic.PureOps.Ideal.Laws
public import Idealize.ShloMosaic.Lib.MatmulPlain
public import Idealize.ShloMosaic.Lib.StackMember
public import Idealize.ShloMosaic.Lib.Layout

@[expose] public section

noncomputable section

namespace Cert.KernelIdeal.RS

open Idealize.ShloMosaic Idealize.ShloMosaic.TcCoe Idealize.ShloMosaic.ValueIdx
open Cert.KernelIdeal Facts₀ Facts
open scoped BigOperators

/-! ## A partial product, in exact arithmetic -/

/-- At the exact values a partial product is the sum of the products along the block's columns. -/
theorem pcV_apply (d : Fin 2) (a : Vec Ideal S2048x1024 .bf16) (b : Vec Ideal S1024x2048 .bf16) (x : Dev nD) (r : Fin 128) (k : Fin 1024) :
    (pcV (F := Ideal) d a b x (ix2 r k) : EReal)
      = ∑ q : Fin 1024, (a (ix2 (⟨x.val * 128 + r.val, by have : x.val < 16 := x.isLt; omega⟩ : Fin 2048) q) : EReal)
          * b (ix2 q (⟨d.val * 1024 + k.val, by omega⟩ : Fin 2048)) := by
  unfold pcV mmPay
  rw [shapeCast_self]
  show FloatOps.matmul (F := Ideal) (φ₁ := .bf16) (φ₂ := .bf16) (DotDims.plain 128 1024 1024) none (rowsV (rowOff x) (rowInb x) a) (colsV d b)
    (constant S128x1024 .f32 0x00000000#32) (ix2 r k) = _
  rw [Ideal.matmul_plain_apply]
  have h0 : (constant (F := Ideal) S128x1024 .f32 0x00000000#32 (ix2 r k) : EReal) = 0 := Ideal.ofBits_zero_f32
  refine (congrArg (· + _) h0).trans ((zero_add _).trans (Finset.sum_congr rfl fun q _ => ?_))
  refine congrArg₂ (fun (u v : EReal) => u * v) (congrArg a ?_) (congrArg b ?_)
  · funext t; refine Fin.ext ?_
    match t with
    | ⟨0, _⟩ => show x.val * 128 + 1 * r.val = _; rw [Nat.one_mul]
    | ⟨1, _⟩ => show 0 + 1 * q.val = q.val; omega
  · funext t; refine Fin.ext ?_
    match t with
    | ⟨0, _⟩ => show 0 + 1 * q.val = q.val; omega
    | ⟨1, _⟩ => show d.val * 1024 + 1 * k.val = _; rw [Nat.one_mul]

/-! ## The sum around the ring -/

variable (A : Dev nD → Vec Ideal S2048x1024 .bf16) (B : Dev nD → Vec Ideal S1024x2048 .bf16)

/-- What device `e` contributes to chunk `x` in stream `j`. -/
def share (j : Fin 4) (x e : Dev nD) (p : S128x512.Idx) : EReal := (loV (loOf j) (pcV (F := Ideal) (dirOf j) (A e) (B e) x) p : EReal)

/-- The `i`-th device upstream. -/
def upN (d : Fin 2) (c : Dev nD) : ℕ → Dev nD
  | 0 => c
  | i + 1 => upN d (nb (other d) c) i

/-- The chunk a device adds next is the one its sender has just added. -/
theorem chk_up (d : Fin 2) (c : Dev nD) (h : ℕ) : chk d (nb (other d) c) h = chk d c (h + 1) := by
  induction h with
  | zero => rfl
  | succ n ih => exact congrArg (nb (other d)) ih

/-- A stream comes from the neighbour in the other direction. -/
theorem ups_eq (j : Fin 4) (c : Dev nD) : upsOf j c = nb (other (dirOf j)) c := rfl

/-- What hop `h` carries is the sum of the shares of the devices it has passed. -/
theorem contV_sum (j : Fin 4) (p : S128x512.Idx) (h : ℕ) (c : Dev nD) :
    (contV A B j h c p : EReal) = ∑ i ∈ Finset.range (h + 1), share A B j (chk (dirOf j) c h) (upN (dirOf j) c i) p := by
  induction h generalizing c with
  | zero => rw [Finset.sum_range_one]; rfl
  | succ n ih =>
    rw [Finset.sum_range_succ']
    show (contV A B j n (upsOf j c) p : EReal) + share A B j (chk (dirOf j) c (n + 1)) c p = _
    rw [ih, ups_eq, chk_up]
    rfl

/-- A device's own chunk comes round last. -/
theorem chk_last : ∀ (d : Fin 2) (c : Fin 16), chk d c 15 = c := by decide +kernel
/-- The sixteen devices upstream are all of them. -/
theorem up_inj : ∀ (d : Fin 2) (c : Fin 16) (i i' : Fin 16), upN d c i.val = upN d c i'.val → i = i' := by decide +kernel

/-- A stream's contribution to the result is the sum of every device's share. -/
theorem outV_sum (j : Fin 4) (c : Dev nD) (p : S128x512.Idx) :
    (outV A B c j p : EReal) = ∑ e : Fin 16, share A B j c e p := by
  have h : (outV A B c j p : EReal) = contV A B j 15 c p := rfl
  rw [h, contV_sum, chk_last, ← Fin.sum_univ_eq_sum_range (fun i => share A B j c (upN (dirOf j) c i) p) 16]
  have hb : Function.Bijective (fun i : Fin 16 => (upN (dirOf j) c i.val : Fin 16)) :=
    Finite.injective_iff_bijective.mp fun i i' => up_inj (dirOf j) c i i'
  exact hb.sum_comp (fun e : Fin 16 => share A B j c e p)

/-! ## The whole product -/

variable (X : (⟨2, ![2048, 16384]⟩ : Shape).Idx → EReal) (Y : (⟨2, ![16384, 2048]⟩ : Shape).Idx → EReal)

/-- The product of the whole arrays. -/
def whole (i : (⟨2, ![2048, 2048]⟩ : Shape).Idx) : EReal := ∑ k : Fin 16384, X (ix2 (i 0) k) * Y (ix2 k (i 1))

/-- A sum along the whole inner dimension is the sum of the devices' sums along their blocks. -/
theorem sum_blocks (f : Fin 16384 → EReal) :
    ∑ k : Fin 16384, f k = ∑ e : Fin 16, ∑ q : Fin 1024, f ⟨e.val * 1024 + q.val, by omega⟩ := by
  rw [← Fintype.sum_prod_type' (fun (e : Fin 16) (q : Fin 1024) => f ⟨e.val * 1024 + q.val, by omega⟩)]
  refine (Equiv.sum_comp (finProdFinEquiv (m := 16) (n := 1024)) f).symm.trans (Finset.sum_congr rfl fun x _ => congrArg f (Fin.ext ?_))
  show x.2.val + 1024 * x.1.val = x.1.val * 1024 + x.2.val
  omega

/-- The product, block by block. -/
theorem whole_blocks (r k : Fin 2048) :
    whole X Y (ix2 r k) = ∑ e : Fin 16, ∑ q : Fin 1024,
      X (ix2 r (⟨e.val * 1024 + q.val, by omega⟩ : Fin 16384)) * Y (ix2 (⟨e.val * 1024 + q.val, by omega⟩ : Fin 16384) k) :=
  sum_blocks fun x => X (ix2 r x) * Y (ix2 x k)

/-- When the devices hold the arrays' blocks, a device's result is its block of the product. -/
theorem resV_whole (hA : ∀ c : Fin 16, A c = Layout.block ⟨2, ![2048, 1024]⟩ ⟨2, ![2048, 16384]⟩ 1 16 c X)
    (hB : ∀ c : Fin 16, B c = Layout.block ⟨2, ![1024, 2048]⟩ ⟨2, ![16384, 2048]⟩ 0 16 c Y) (c : Fin 16) :
    resV A B c = Layout.block ⟨2, ![128, 2048]⟩ ⟨2, ![2048, 2048]⟩ 0 16 c (whole X Y) := by
  funext i
  have hi : (i 1).val < 2048 := (i 1).isLt
  obtain ⟨q, hq⟩ : ∃ q : Fin 4, (i 1).val / 512 = q.val := ⟨⟨(i 1).val / 512, by omega⟩, rfl⟩
  have hr : resV A B c i = outV A B c (stOf q) (ixO (i 0) ⟨(i 1).val % 512, Nat.mod_lt _ (by decide)⟩) := by
    unfold resV
    rw [show (⟨(i 1).val / 512, by omega⟩ : Fin 4) = q from Fin.ext hq]
  have hc := colO_stOf q
  unfold colO at hc
  have hd : (dirOf (stOf q)).val < 2 := (dirOf (stOf q)).isLt
  have hl : (loOf (stOf q)).val < 2 := (loOf (stOf q)).isLt
  refine hr.trans ((outV_sum A B (stOf q) c _).trans ?_)
  have et : (Layout.Tiles.idx (S := ⟨2, ![128, 2048]⟩) (T := ⟨2, ![2048, 2048]⟩) (a := 0) (k := 16) (by decide) c i)
      = ix2 (⟨c.val * 128 + (i 0).val, by have h0 : (i 0).val < 128 := (i 0).isLt; have := c.isLt; omega⟩ : Fin 2048) (⟨(i 1).val, hi⟩ : Fin 2048) := by
    funext t; refine Fin.ext ?_
    match t with
    | ⟨0, _⟩ => rfl
    | ⟨1, _⟩ => rfl
  rw [Layout.block_apply, et, whole_blocks]
  refine Finset.sum_congr rfl fun e _ => ?_
  unfold share loV
  have e1 : (loR (loOf (stOf q))).emb (ixO (i 0) ⟨(i 1).val % 512, Nat.mod_lt _ (by decide)⟩)
      = ix2 (i 0) (⟨(loOf (stOf q)).val * 512 + (i 1).val % 512, by omega⟩ : Fin 1024) := by
    funext t; refine Fin.ext ?_
    match t with
    | ⟨0, _⟩ => show 0 + 1 * (i 0).val = (i 0).val; omega
    | ⟨1, _⟩ => show (loOf (stOf q)).val * 512 + 1 * ((i 1).val % 512) = _; rw [Nat.one_mul]
  rw [e1]
  refine (pcV_apply _ _ _ _ _ _).trans (Finset.sum_congr rfl fun k _ => ?_)
  rw [hA, hB]
  refine congrArg₂ (fun (u v : EReal) => u * v) (congrArg X ?_) (congrArg Y ?_)
  · funext t; refine Fin.ext ?_
    match t with
    | ⟨0, _⟩ => rfl
    | ⟨1, _⟩ => rfl
  · funext t; refine Fin.ext ?_
    match t with
    | ⟨0, _⟩ => rfl
    | ⟨1, _⟩ =>
      show (dirOf (stOf q)).val * 1024 + ((loOf (stOf q)).val * 512 + (i 1).val % 512) = (i 1).val
      omega

end Cert.KernelIdeal.RS
-- ==== Proof.Ref.lean ====
module

public import proofs.«01_k».proof.Proof.Gen.ReferenceIdeal.Run
public import proofs.«01_k».proof.Proof.Sum

@[expose] public section

noncomputable section

namespace Cert.ReferenceIdeal.RS

open Idealize.ShloMosaic Idealize.ShloMosaic.TcCoe Idealize.ShloMosaic.ValueIdx Idealize.SL.Sem
open Cert.ReferenceIdeal Facts₀ Facts

/-! ## The reference -/

/-- The reference has no semaphores, so none has a count. -/
theorem sem_none (s : GSem nD τ sig → ℤ) : s = fun _ => 0 := by
  funext g
  obtain ⟨t, sm⟩ := g
  match sm with
  | .reg x => exact Fin.elim0 x
  | .dma x => exact Fin.elim0 x

/-- The reference's result is the product of the whole arrays. -/
theorem dot_whole (X : FVec Ideal S2048x16384 .bf16) (Y : FVec Ideal S16384x2048 .bf16) :
    (extf .f32 (truncf .bf16 (Host.dotGeneral dot_S2048x16384_S16384x2048_S2048x2048_1_0_0_1_n_n none X Y) bitsLt_bf16_f32) bitsLt_bf16_f32 : FVec Ideal S2048x2048 .f32)
      = Cert.KernelIdeal.RS.whole X Y := by
  funext i
  obtain ⟨r, k, rfl⟩ : ∃ (r k : Fin 2048), i = ix2 r k := ⟨i 0, i 1, funext fun | ⟨0, _⟩ => rfl | ⟨1, _⟩ => rfl⟩
  exact StackMember.dotGeneral_plain_apply (m := 2048) (n := 2048) (k := 16384) (φ₁ := .bf16) (φ₂ := .bf16) none X Y r k

end Cert.ReferenceIdeal.RS
-- ==== Proof.lean ====
/- The proof of the claim: the three frames, and the ring's sum as the product. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Main
public import proofs.«01_k».proof.Proof.KMain
public import proofs.«01_k».proof.Proof.Ref
public import Idealize.ShloMosaic.Adequacy
public import Idealize.ShloMosaic.Init

@[expose] public section

noncomputable section

namespace Cert.Proof

open Idealize.ShloMosaic Idealize.SL.Sem

/-- The reference runs, and its arguments and semaphores are as they were. -/
theorem reference_frame (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1))
      ∧ r.2.sem = fun _ => 0) :=
  (θ_run ReferenceIdeal.defs _ _).mono (fun r h => ⟨fun c => (h c).2, ReferenceIdeal.RS.sem_none r.2.sem⟩) (ReferenceIdeal.Value.run (F := Ideal) m ρ)

/-- On exact values every device ends with its block of the whole product, which is what the reference computes. -/
theorem algebraic : algebraic_KernelIdeal_ReferenceIdeal (hKernelIdeal := KernelIdeal.Gen.facts) (hReferenceIdeal := ReferenceIdeal.Gen.facts) := by
  intro m g m' g' _ h
  refine ⟨KernelIdeal.RS.whole (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1)), ?_, ?_⟩
  · refine (θ_run KernelIdeal.defs _ _).mono (fun r hr c => ⟨(hr.1 c).2.2.trans ?_, (hr.1 c).1, (hr.1 c).2.1⟩) (KernelIdeal.RS.run_all (F := Ideal) m g)
    exact KernelIdeal.RS.resV_whole (KernelIdeal.RS.aV m) (KernelIdeal.RS.bV m) _ _
      (fun c => (KernelIdeal.RS.aV_eq m c).trans (h c).1) (fun c => (KernelIdeal.RS.bV_eq m c).trans (h c).2) c
  · exact (θ_run ReferenceIdeal.defs _ _).mono (fun r hr => ⟨(hr 0).1.trans (ReferenceIdeal.RS.dot_whole _ _), (hr 0).2.1, (hr 0).2.2⟩)
      (ReferenceIdeal.Value.run (F := Ideal) m' g')

/-- The claim. -/
theorem claim : Cert.Claim :=
  ⟨Cert.Kernel.Gen.facts, Cert.KernelIdeal.Gen.facts, Cert.ReferenceIdeal.Gen.facts,
    fun m g _ => Kernel.RS.run_frame (F := Bits) m g, fun m g _ => KernelIdeal.RS.run_frame (F := Ideal) m g,
    fun m g _ => reference_frame m g, trivial, algebraic⟩

end Cert.Proof

end
